-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2 = (fun _ => 1#1)

def Pre_ExpertSumIdeal (m : (ℓ : Loc Cert.ExpertSumIdeal.nD Cert.ExpertSumIdeal.τ Cert.ExpertSumIdeal.sig) → Buf (Elt Ideal) ℓ) : Prop :=
  True

def Pre_ExpertSumIdeal_routed [hPre_routed : Cert.Pre_routed.Facts] (m : (ℓ : Loc Cert.ExpertSumIdeal.nD Cert.ExpertSumIdeal.τ Cert.ExpertSumIdeal.sig) → Buf (Elt Ideal) ℓ) : Prop :=
  ∀ c : Dev Cert.ExpertSumIdeal.nD,
    (Cert.Pre_routed.fn (F := Ideal) (m ((c.tc : Thread Cert.ExpertSumIdeal.nD Cert.ExpertSumIdeal.τ).loc Cert.ExpertSumIdeal.main_arg0)) (m ((c.tc : Thread Cert.ExpertSumIdeal.nD Cert.ExpertSumIdeal.τ).loc Cert.ExpertSumIdeal.main_arg1)) (m ((c.tc : Thread Cert.ExpertSumIdeal.nD Cert.ExpertSumIdeal.τ).loc Cert.ExpertSumIdeal.main_arg2)) (m ((c.tc : Thread Cert.ExpertSumIdeal.nD Cert.ExpertSumIdeal.τ).loc Cert.ExpertSumIdeal.main_arg3)) (m ((c.tc : Thread Cert.ExpertSumIdeal.nD Cert.ExpertSumIdeal.τ).loc Cert.ExpertSumIdeal.main_arg4))).1 = (fun _ => 1#1)
    ∧ (Cert.Pre_routed.fn (F := Ideal) (m ((c.tc : Thread Cert.ExpertSumIdeal.nD Cert.ExpertSumIdeal.τ).loc Cert.ExpertSumIdeal.main_arg0)) (m ((c.tc : Thread Cert.ExpertSumIdeal.nD Cert.ExpertSumIdeal.τ).loc Cert.ExpertSumIdeal.main_arg1)) (m ((c.tc : Thread Cert.ExpertSumIdeal.nD Cert.ExpertSumIdeal.τ).loc Cert.ExpertSumIdeal.main_arg2)) (m ((c.tc : Thread Cert.ExpertSumIdeal.nD Cert.ExpertSumIdeal.τ).loc Cert.ExpertSumIdeal.main_arg3)) (m ((c.tc : Thread Cert.ExpertSumIdeal.nD Cert.ExpertSumIdeal.τ).loc Cert.ExpertSumIdeal.main_arg4))).2 = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_conditioned [hPre_conditioned : Cert.Pre_conditioned.Facts] (m : (ℓ : Loc Cert.ContextIdeal.nD Cert.ContextIdeal.τ Cert.ContextIdeal.sig) → Buf (Elt Ideal) ℓ) : Prop :=
  ∀ c : Dev Cert.ContextIdeal.nD,
    (Cert.Pre_conditioned.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6))).1 = (fun _ => 1#1)
    ∧ (Cert.Pre_conditioned.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6))).2 = (fun _ => 1#1)

def Pre_ContextPassIdeal (m : (ℓ : Loc Cert.ContextPassIdeal.nD Cert.ContextPassIdeal.τ Cert.ContextPassIdeal.sig) → Buf (Elt Ideal) ℓ) : Prop :=
  True

def Pre_ContextPassIdeal_conditioned [hPre_conditioned : Cert.Pre_conditioned.Facts] (m : (ℓ : Loc Cert.ContextPassIdeal.nD Cert.ContextPassIdeal.τ Cert.ContextPassIdeal.sig) → Buf (Elt Ideal) ℓ) : Prop :=
  ∀ c : Dev Cert.ContextPassIdeal.nD,
    (Cert.Pre_conditioned.fn (F := Ideal) (m ((c.tc : Thread Cert.ContextPassIdeal.nD Cert.ContextPassIdeal.τ).loc Cert.ContextPassIdeal.main_arg0)) (m ((c.tc : Thread Cert.ContextPassIdeal.nD Cert.ContextPassIdeal.τ).loc Cert.ContextPassIdeal.main_arg1)) (m ((c.tc : Thread Cert.ContextPassIdeal.nD Cert.ContextPassIdeal.τ).loc Cert.ContextPassIdeal.main_arg2)) (m ((c.tc : Thread Cert.ContextPassIdeal.nD Cert.ContextPassIdeal.τ).loc Cert.ContextPassIdeal.main_arg3)) (m ((c.tc : Thread Cert.ContextPassIdeal.nD Cert.ContextPassIdeal.τ).loc Cert.ContextPassIdeal.main_arg4)) (m ((c.tc : Thread Cert.ContextPassIdeal.nD Cert.ContextPassIdeal.τ).loc Cert.ContextPassIdeal.main_arg5)) (m ((c.tc : Thread Cert.ContextPassIdeal.nD Cert.ContextPassIdeal.τ).loc Cert.ContextPassIdeal.main_arg6))).1 = (fun _ => 1#1)
    ∧ (Cert.Pre_conditioned.fn (F := Ideal) (m ((c.tc : Thread Cert.ContextPassIdeal.nD Cert.ContextPassIdeal.τ).loc Cert.ContextPassIdeal.main_arg0)) (m ((c.tc : Thread Cert.ContextPassIdeal.nD Cert.ContextPassIdeal.τ).loc Cert.ContextPassIdeal.main_arg1)) (m ((c.tc : Thread Cert.ContextPassIdeal.nD Cert.ContextPassIdeal.τ).loc Cert.ContextPassIdeal.main_arg2)) (m ((c.tc : Thread Cert.ContextPassIdeal.nD Cert.ContextPassIdeal.τ).loc Cert.ContextPassIdeal.main_arg3)) (m ((c.tc : Thread Cert.ContextPassIdeal.nD Cert.ContextPassIdeal.τ).loc Cert.ContextPassIdeal.main_arg4)) (m ((c.tc : Thread Cert.ContextPassIdeal.nD Cert.ContextPassIdeal.τ).loc Cert.ContextPassIdeal.main_arg5)) (m ((c.tc : Thread Cert.ContextPassIdeal.nD Cert.ContextPassIdeal.τ).loc Cert.ContextPassIdeal.main_arg6))).2 = (fun _ => 1#1)

def Pre_PostAttn (m : (ℓ : Loc Cert.PostAttn.nD Cert.PostAttn.τ Cert.PostAttn.sig) → Buf (Elt Bits) ℓ) : Prop :=
  True

def Pre_PostAttnIdeal (m : (ℓ : Loc Cert.PostAttnIdeal.nD Cert.PostAttnIdeal.τ Cert.PostAttnIdeal.sig) → Buf (Elt Ideal) ℓ) : Prop :=
  True

def Pre_DenseLayerIdeal (m : (ℓ : Loc Cert.DenseLayerIdeal.nD Cert.DenseLayerIdeal.τ Cert.DenseLayerIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_RotatedIdeal (m : (ℓ : Loc Cert.RotatedIdeal.nD Cert.RotatedIdeal.τ Cert.RotatedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertSumIdeal [hExpertSumIdeal : Cert.ExpertSumIdeal.Facts] : Prop :=
  ∀ (m : (ℓ : Loc Cert.ExpertSumIdeal.nD Cert.ExpertSumIdeal.τ Cert.ExpertSumIdeal.sig) → Buf (Elt Ideal) ℓ) (g : Dev Cert.ExpertSumIdeal.nD → PrngReg), Pre_ExpertSumIdeal m →
    θ_run (Cert.ExpertSumIdeal.defs (F := Ideal)) (onTc (τ := Cert.ExpertSumIdeal.τ) (Cert.ExpertSumIdeal.main (F := Ideal))) ⟨m, fun _ => 0, g⟩ (fun r => (∀ c : Dev Cert.ExpertSumIdeal.nD,
      r.2.mem ((c.tc : Thread Cert.ExpertSumIdeal.nD Cert.ExpertSumIdeal.τ).loc Cert.ExpertSumIdeal.main_arg0) = m ((c.tc : Thread Cert.ExpertSumIdeal.nD Cert.ExpertSumIdeal.τ).loc Cert.ExpertSumIdeal.main_arg0)
      ∧ r.2.mem ((c.tc : Thread Cert.ExpertSumIdeal.nD Cert.ExpertSumIdeal.τ).loc Cert.ExpertSumIdeal.main_arg1) = m ((c.tc : Thread Cert.ExpertSumIdeal.nD Cert.ExpertSumIdeal.τ).loc Cert.ExpertSumIdeal.main_arg1)
      ∧ r.2.mem ((c.tc : Thread Cert.ExpertSumIdeal.nD Cert.ExpertSumIdeal.τ).loc Cert.ExpertSumIdeal.main_arg2) = m ((c.tc : Thread Cert.ExpertSumIdeal.nD Cert.ExpertSumIdeal.τ).loc Cert.ExpertSumIdeal.main_arg2)
      ∧ r.2.mem ((c.tc : Thread Cert.ExpertSumIdeal.nD Cert.ExpertSumIdeal.τ).loc Cert.ExpertSumIdeal.main_arg3) = m ((c.tc : Thread Cert.ExpertSumIdeal.nD Cert.ExpertSumIdeal.τ).loc Cert.ExpertSumIdeal.main_arg3)
      ∧ r.2.mem ((c.tc : Thread Cert.ExpertSumIdeal.nD Cert.ExpertSumIdeal.τ).loc Cert.ExpertSumIdeal.main_arg4) = m ((c.tc : Thread Cert.ExpertSumIdeal.nD Cert.ExpertSumIdeal.τ).loc Cert.ExpertSumIdeal.main_arg4))
      ∧ r.2.sem = fun _ => 0)

def quiescent_ExpertSumIdeal_pre_routed [hExpertSumIdeal : Cert.ExpertSumIdeal.Facts] [hPre_routed : Cert.Pre_routed.Facts] : Prop :=
  ∀ (m : (ℓ : Loc Cert.ExpertSumIdeal.nD Cert.ExpertSumIdeal.τ Cert.ExpertSumIdeal.sig) → Buf (Elt Ideal) ℓ) (g : Dev Cert.ExpertSumIdeal.nD → PrngReg), Pre_ExpertSumIdeal_routed m →
    θ_run (Cert.ExpertSumIdeal.defs (F := Ideal)) (onTc (τ := Cert.ExpertSumIdeal.τ) (Cert.ExpertSumIdeal.main (F := Ideal))) ⟨m, fun _ => 0, g⟩ (fun r => (∀ c : Dev Cert.ExpertSumIdeal.nD,
      r.2.mem ((c.tc : Thread Cert.ExpertSumIdeal.nD Cert.ExpertSumIdeal.τ).loc Cert.ExpertSumIdeal.main_arg0) = m ((c.tc : Thread Cert.ExpertSumIdeal.nD Cert.ExpertSumIdeal.τ).loc Cert.ExpertSumIdeal.main_arg0)
      ∧ r.2.mem ((c.tc : Thread Cert.ExpertSumIdeal.nD Cert.ExpertSumIdeal.τ).loc Cert.ExpertSumIdeal.main_arg1) = m ((c.tc : Thread Cert.ExpertSumIdeal.nD Cert.ExpertSumIdeal.τ).loc Cert.ExpertSumIdeal.main_arg1)
      ∧ r.2.mem ((c.tc : Thread Cert.ExpertSumIdeal.nD Cert.ExpertSumIdeal.τ).loc Cert.ExpertSumIdeal.main_arg2) = m ((c.tc : Thread Cert.ExpertSumIdeal.nD Cert.ExpertSumIdeal.τ).loc Cert.ExpertSumIdeal.main_arg2)
      ∧ r.2.mem ((c.tc : Thread Cert.ExpertSumIdeal.nD Cert.ExpertSumIdeal.τ).loc Cert.ExpertSumIdeal.main_arg3) = m ((c.tc : Thread Cert.ExpertSumIdeal.nD Cert.ExpertSumIdeal.τ).loc Cert.ExpertSumIdeal.main_arg3)
      ∧ r.2.mem ((c.tc : Thread Cert.ExpertSumIdeal.nD Cert.ExpertSumIdeal.τ).loc Cert.ExpertSumIdeal.main_arg4) = m ((c.tc : Thread Cert.ExpertSumIdeal.nD Cert.ExpertSumIdeal.τ).loc Cert.ExpertSumIdeal.main_arg4))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ r.2.sem = fun _ => 0)

def quiescent_ContextIdeal_pre_conditioned [hContextIdeal : Cert.ContextIdeal.Facts] [hPre_conditioned : Cert.Pre_conditioned.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_conditioned m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ r.2.sem = fun _ => 0)

def quiescent_ContextPassIdeal [hContextPassIdeal : Cert.ContextPassIdeal.Facts] : Prop :=
  ∀ (m : (ℓ : Loc Cert.ContextPassIdeal.nD Cert.ContextPassIdeal.τ Cert.ContextPassIdeal.sig) → Buf (Elt Ideal) ℓ) (g : Dev Cert.ContextPassIdeal.nD → PrngReg), Pre_ContextPassIdeal m →
    θ_run (Cert.ContextPassIdeal.defs (F := Ideal)) (onTc (τ := Cert.ContextPassIdeal.τ) (Cert.ContextPassIdeal.main (F := Ideal))) ⟨m, fun _ => 0, g⟩ (fun r => (∀ c : Dev Cert.ContextPassIdeal.nD,
      r.2.mem ((c.tc : Thread Cert.ContextPassIdeal.nD Cert.ContextPassIdeal.τ).loc Cert.ContextPassIdeal.main_arg0) = m ((c.tc : Thread Cert.ContextPassIdeal.nD Cert.ContextPassIdeal.τ).loc Cert.ContextPassIdeal.main_arg0)
      ∧ r.2.mem ((c.tc : Thread Cert.ContextPassIdeal.nD Cert.ContextPassIdeal.τ).loc Cert.ContextPassIdeal.main_arg1) = m ((c.tc : Thread Cert.ContextPassIdeal.nD Cert.ContextPassIdeal.τ).loc Cert.ContextPassIdeal.main_arg1)
      ∧ r.2.mem ((c.tc : Thread Cert.ContextPassIdeal.nD Cert.ContextPassIdeal.τ).loc Cert.ContextPassIdeal.main_arg2) = m ((c.tc : Thread Cert.ContextPassIdeal.nD Cert.ContextPassIdeal.τ).loc Cert.ContextPassIdeal.main_arg2)
      ∧ r.2.mem ((c.tc : Thread Cert.ContextPassIdeal.nD Cert.ContextPassIdeal.τ).loc Cert.ContextPassIdeal.main_arg3) = m ((c.tc : Thread Cert.ContextPassIdeal.nD Cert.ContextPassIdeal.τ).loc Cert.ContextPassIdeal.main_arg3)
      ∧ r.2.mem ((c.tc : Thread Cert.ContextPassIdeal.nD Cert.ContextPassIdeal.τ).loc Cert.ContextPassIdeal.main_arg4) = m ((c.tc : Thread Cert.ContextPassIdeal.nD Cert.ContextPassIdeal.τ).loc Cert.ContextPassIdeal.main_arg4)
      ∧ r.2.mem ((c.tc : Thread Cert.ContextPassIdeal.nD Cert.ContextPassIdeal.τ).loc Cert.ContextPassIdeal.main_arg5) = m ((c.tc : Thread Cert.ContextPassIdeal.nD Cert.ContextPassIdeal.τ).loc Cert.ContextPassIdeal.main_arg5)
      ∧ r.2.mem ((c.tc : Thread Cert.ContextPassIdeal.nD Cert.ContextPassIdeal.τ).loc Cert.ContextPassIdeal.main_arg6) = m ((c.tc : Thread Cert.ContextPassIdeal.nD Cert.ContextPassIdeal.τ).loc Cert.ContextPassIdeal.main_arg6))
      ∧ r.2.sem = fun _ => 0)

def quiescent_ContextPassIdeal_pre_conditioned [hContextPassIdeal : Cert.ContextPassIdeal.Facts] [hPre_conditioned : Cert.Pre_conditioned.Facts] : Prop :=
  ∀ (m : (ℓ : Loc Cert.ContextPassIdeal.nD Cert.ContextPassIdeal.τ Cert.ContextPassIdeal.sig) → Buf (Elt Ideal) ℓ) (g : Dev Cert.ContextPassIdeal.nD → PrngReg), Pre_ContextPassIdeal_conditioned m →
    θ_run (Cert.ContextPassIdeal.defs (F := Ideal)) (onTc (τ := Cert.ContextPassIdeal.τ) (Cert.ContextPassIdeal.main (F := Ideal))) ⟨m, fun _ => 0, g⟩ (fun r => (∀ c : Dev Cert.ContextPassIdeal.nD,
      r.2.mem ((c.tc : Thread Cert.ContextPassIdeal.nD Cert.ContextPassIdeal.τ).loc Cert.ContextPassIdeal.main_arg0) = m ((c.tc : Thread Cert.ContextPassIdeal.nD Cert.ContextPassIdeal.τ).loc Cert.ContextPassIdeal.main_arg0)
      ∧ r.2.mem ((c.tc : Thread Cert.ContextPassIdeal.nD Cert.ContextPassIdeal.τ).loc Cert.ContextPassIdeal.main_arg1) = m ((c.tc : Thread Cert.ContextPassIdeal.nD Cert.ContextPassIdeal.τ).loc Cert.ContextPassIdeal.main_arg1)
      ∧ r.2.mem ((c.tc : Thread Cert.ContextPassIdeal.nD Cert.ContextPassIdeal.τ).loc Cert.ContextPassIdeal.main_arg2) = m ((c.tc : Thread Cert.ContextPassIdeal.nD Cert.ContextPassIdeal.τ).loc Cert.ContextPassIdeal.main_arg2)
      ∧ r.2.mem ((c.tc : Thread Cert.ContextPassIdeal.nD Cert.ContextPassIdeal.τ).loc Cert.ContextPassIdeal.main_arg3) = m ((c.tc : Thread Cert.ContextPassIdeal.nD Cert.ContextPassIdeal.τ).loc Cert.ContextPassIdeal.main_arg3)
      ∧ r.2.mem ((c.tc : Thread Cert.ContextPassIdeal.nD Cert.ContextPassIdeal.τ).loc Cert.ContextPassIdeal.main_arg4) = m ((c.tc : Thread Cert.ContextPassIdeal.nD Cert.ContextPassIdeal.τ).loc Cert.ContextPassIdeal.main_arg4)
      ∧ r.2.mem ((c.tc : Thread Cert.ContextPassIdeal.nD Cert.ContextPassIdeal.τ).loc Cert.ContextPassIdeal.main_arg5) = m ((c.tc : Thread Cert.ContextPassIdeal.nD Cert.ContextPassIdeal.τ).loc Cert.ContextPassIdeal.main_arg5)
      ∧ r.2.mem ((c.tc : Thread Cert.ContextPassIdeal.nD Cert.ContextPassIdeal.τ).loc Cert.ContextPassIdeal.main_arg6) = m ((c.tc : Thread Cert.ContextPassIdeal.nD Cert.ContextPassIdeal.τ).loc Cert.ContextPassIdeal.main_arg6))
      ∧ r.2.sem = fun _ => 0)

def quiescent_PostAttn [hPostAttn : Cert.PostAttn.Facts] : Prop :=
  ∀ (m : (ℓ : Loc Cert.PostAttn.nD Cert.PostAttn.τ Cert.PostAttn.sig) → Buf (Elt Bits) ℓ) (g : Dev Cert.PostAttn.nD → PrngReg), Pre_PostAttn m →
    θ_run (Cert.PostAttn.defs (F := Bits)) (onTc (τ := Cert.PostAttn.τ) (Cert.PostAttn.main (F := Bits))) ⟨m, fun _ => 0, g⟩ (fun r => (∀ c : Dev Cert.PostAttn.nD,
      r.2.mem ((c.tc : Thread Cert.PostAttn.nD Cert.PostAttn.τ).loc Cert.PostAttn.main_arg0) = m ((c.tc : Thread Cert.PostAttn.nD Cert.PostAttn.τ).loc Cert.PostAttn.main_arg0)
      ∧ r.2.mem ((c.tc : Thread Cert.PostAttn.nD Cert.PostAttn.τ).loc Cert.PostAttn.main_arg1) = m ((c.tc : Thread Cert.PostAttn.nD Cert.PostAttn.τ).loc Cert.PostAttn.main_arg1)
      ∧ r.2.mem ((c.tc : Thread Cert.PostAttn.nD Cert.PostAttn.τ).loc Cert.PostAttn.main_arg2) = m ((c.tc : Thread Cert.PostAttn.nD Cert.PostAttn.τ).loc Cert.PostAttn.main_arg2)
      ∧ r.2.mem ((c.tc : Thread Cert.PostAttn.nD Cert.PostAttn.τ).loc Cert.PostAttn.main_arg3) = m ((c.tc : Thread Cert.PostAttn.nD Cert.PostAttn.τ).loc Cert.PostAttn.main_arg3)
      ∧ r.2.mem ((c.tc : Thread Cert.PostAttn.nD Cert.PostAttn.τ).loc Cert.PostAttn.main_arg4) = m ((c.tc : Thread Cert.PostAttn.nD Cert.PostAttn.τ).loc Cert.PostAttn.main_arg4)
      ∧ r.2.mem ((c.tc : Thread Cert.PostAttn.nD Cert.PostAttn.τ).loc Cert.PostAttn.main_arg5) = m ((c.tc : Thread Cert.PostAttn.nD Cert.PostAttn.τ).loc Cert.PostAttn.main_arg5)
      ∧ r.2.mem ((c.tc : Thread Cert.PostAttn.nD Cert.PostAttn.τ).loc Cert.PostAttn.main_arg6) = m ((c.tc : Thread Cert.PostAttn.nD Cert.PostAttn.τ).loc Cert.PostAttn.main_arg6)
      ∧ r.2.mem ((c.tc : Thread Cert.PostAttn.nD Cert.PostAttn.τ).loc Cert.PostAttn.main_arg7) = m ((c.tc : Thread Cert.PostAttn.nD Cert.PostAttn.τ).loc Cert.PostAttn.main_arg7)
      ∧ r.2.mem ((c.tc : Thread Cert.PostAttn.nD Cert.PostAttn.τ).loc Cert.PostAttn.main_arg8) = m ((c.tc : Thread Cert.PostAttn.nD Cert.PostAttn.τ).loc Cert.PostAttn.main_arg8)
      ∧ r.2.mem ((c.tc : Thread Cert.PostAttn.nD Cert.PostAttn.τ).loc Cert.PostAttn.main_arg9) = m ((c.tc : Thread Cert.PostAttn.nD Cert.PostAttn.τ).loc Cert.PostAttn.main_arg9))
      ∧ r.2.sem = fun _ => 0)

def quiescent_PostAttnIdeal [hPostAttnIdeal : Cert.PostAttnIdeal.Facts] : Prop :=
  ∀ (m : (ℓ : Loc Cert.PostAttnIdeal.nD Cert.PostAttnIdeal.τ Cert.PostAttnIdeal.sig) → Buf (Elt Ideal) ℓ) (g : Dev Cert.PostAttnIdeal.nD → PrngReg), Pre_PostAttnIdeal m →
    θ_run (Cert.PostAttnIdeal.defs (F := Ideal)) (onTc (τ := Cert.PostAttnIdeal.τ) (Cert.PostAttnIdeal.main (F := Ideal))) ⟨m, fun _ => 0, g⟩ (fun r => (∀ c : Dev Cert.PostAttnIdeal.nD,
      r.2.mem ((c.tc : Thread Cert.PostAttnIdeal.nD Cert.PostAttnIdeal.τ).loc Cert.PostAttnIdeal.main_arg0) = m ((c.tc : Thread Cert.PostAttnIdeal.nD Cert.PostAttnIdeal.τ).loc Cert.PostAttnIdeal.main_arg0)
      ∧ r.2.mem ((c.tc : Thread Cert.PostAttnIdeal.nD Cert.PostAttnIdeal.τ).loc Cert.PostAttnIdeal.main_arg1) = m ((c.tc : Thread Cert.PostAttnIdeal.nD Cert.PostAttnIdeal.τ).loc Cert.PostAttnIdeal.main_arg1)
      ∧ r.2.mem ((c.tc : Thread Cert.PostAttnIdeal.nD Cert.PostAttnIdeal.τ).loc Cert.PostAttnIdeal.main_arg2) = m ((c.tc : Thread Cert.PostAttnIdeal.nD Cert.PostAttnIdeal.τ).loc Cert.PostAttnIdeal.main_arg2)
      ∧ r.2.mem ((c.tc : Thread Cert.PostAttnIdeal.nD Cert.PostAttnIdeal.τ).loc Cert.PostAttnIdeal.main_arg3) = m ((c.tc : Thread Cert.PostAttnIdeal.nD Cert.PostAttnIdeal.τ).loc Cert.PostAttnIdeal.main_arg3)
      ∧ r.2.mem ((c.tc : Thread Cert.PostAttnIdeal.nD Cert.PostAttnIdeal.τ).loc Cert.PostAttnIdeal.main_arg4) = m ((c.tc : Thread Cert.PostAttnIdeal.nD Cert.PostAttnIdeal.τ).loc Cert.PostAttnIdeal.main_arg4)
      ∧ r.2.mem ((c.tc : Thread Cert.PostAttnIdeal.nD Cert.PostAttnIdeal.τ).loc Cert.PostAttnIdeal.main_arg5) = m ((c.tc : Thread Cert.PostAttnIdeal.nD Cert.PostAttnIdeal.τ).loc Cert.PostAttnIdeal.main_arg5)
      ∧ r.2.mem ((c.tc : Thread Cert.PostAttnIdeal.nD Cert.PostAttnIdeal.τ).loc Cert.PostAttnIdeal.main_arg6) = m ((c.tc : Thread Cert.PostAttnIdeal.nD Cert.PostAttnIdeal.τ).loc Cert.PostAttnIdeal.main_arg6)
      ∧ r.2.mem ((c.tc : Thread Cert.PostAttnIdeal.nD Cert.PostAttnIdeal.τ).loc Cert.PostAttnIdeal.main_arg7) = m ((c.tc : Thread Cert.PostAttnIdeal.nD Cert.PostAttnIdeal.τ).loc Cert.PostAttnIdeal.main_arg7)
      ∧ r.2.mem ((c.tc : Thread Cert.PostAttnIdeal.nD Cert.PostAttnIdeal.τ).loc Cert.PostAttnIdeal.main_arg8) = m ((c.tc : Thread Cert.PostAttnIdeal.nD Cert.PostAttnIdeal.τ).loc Cert.PostAttnIdeal.main_arg8)
      ∧ r.2.mem ((c.tc : Thread Cert.PostAttnIdeal.nD Cert.PostAttnIdeal.τ).loc Cert.PostAttnIdeal.main_arg9) = m ((c.tc : Thread Cert.PostAttnIdeal.nD Cert.PostAttnIdeal.τ).loc Cert.PostAttnIdeal.main_arg9))
      ∧ r.2.sem = fun _ => 0)

def quiescent_DenseLayerIdeal [hDenseLayerIdeal : Cert.DenseLayerIdeal.Facts] : Prop :=
  ∀ (m : (ℓ : Loc Cert.DenseLayerIdeal.nD Cert.DenseLayerIdeal.τ Cert.DenseLayerIdeal.sig) → Buf (Elt Ideal) ℓ) (g : Dev Cert.DenseLayerIdeal.nD → PrngReg), Pre_DenseLayerIdeal m →
    θ_run (Cert.DenseLayerIdeal.defs (F := Ideal)) (onTc (τ := Cert.DenseLayerIdeal.τ) (Cert.DenseLayerIdeal.main (F := Ideal))) ⟨m, fun _ => 0, g⟩ (fun r => (∀ c : Dev Cert.DenseLayerIdeal.nD,
      r.2.mem ((c.tc : Thread Cert.DenseLayerIdeal.nD Cert.DenseLayerIdeal.τ).loc Cert.DenseLayerIdeal.main_arg0) = m ((c.tc : Thread Cert.DenseLayerIdeal.nD Cert.DenseLayerIdeal.τ).loc Cert.DenseLayerIdeal.main_arg0)
      ∧ r.2.mem ((c.tc : Thread Cert.DenseLayerIdeal.nD Cert.DenseLayerIdeal.τ).loc Cert.DenseLayerIdeal.main_arg1) = m ((c.tc : Thread Cert.DenseLayerIdeal.nD Cert.DenseLayerIdeal.τ).loc Cert.DenseLayerIdeal.main_arg1)
      ∧ r.2.mem ((c.tc : Thread Cert.DenseLayerIdeal.nD Cert.DenseLayerIdeal.τ).loc Cert.DenseLayerIdeal.main_arg2) = m ((c.tc : Thread Cert.DenseLayerIdeal.nD Cert.DenseLayerIdeal.τ).loc Cert.DenseLayerIdeal.main_arg2)
      ∧ r.2.mem ((c.tc : Thread Cert.DenseLayerIdeal.nD Cert.DenseLayerIdeal.τ).loc Cert.DenseLayerIdeal.main_arg3) = m ((c.tc : Thread Cert.DenseLayerIdeal.nD Cert.DenseLayerIdeal.τ).loc Cert.DenseLayerIdeal.main_arg3)
      ∧ r.2.mem ((c.tc : Thread Cert.DenseLayerIdeal.nD Cert.DenseLayerIdeal.τ).loc Cert.DenseLayerIdeal.main_arg4) = m ((c.tc : Thread Cert.DenseLayerIdeal.nD Cert.DenseLayerIdeal.τ).loc Cert.DenseLayerIdeal.main_arg4)
      ∧ r.2.mem ((c.tc : Thread Cert.DenseLayerIdeal.nD Cert.DenseLayerIdeal.τ).loc Cert.DenseLayerIdeal.main_arg5) = m ((c.tc : Thread Cert.DenseLayerIdeal.nD Cert.DenseLayerIdeal.τ).loc Cert.DenseLayerIdeal.main_arg5)
      ∧ r.2.mem ((c.tc : Thread Cert.DenseLayerIdeal.nD Cert.DenseLayerIdeal.τ).loc Cert.DenseLayerIdeal.main_arg6) = m ((c.tc : Thread Cert.DenseLayerIdeal.nD Cert.DenseLayerIdeal.τ).loc Cert.DenseLayerIdeal.main_arg6)
      ∧ r.2.mem ((c.tc : Thread Cert.DenseLayerIdeal.nD Cert.DenseLayerIdeal.τ).loc Cert.DenseLayerIdeal.main_arg7) = m ((c.tc : Thread Cert.DenseLayerIdeal.nD Cert.DenseLayerIdeal.τ).loc Cert.DenseLayerIdeal.main_arg7)
      ∧ r.2.mem ((c.tc : Thread Cert.DenseLayerIdeal.nD Cert.DenseLayerIdeal.τ).loc Cert.DenseLayerIdeal.main_arg8) = m ((c.tc : Thread Cert.DenseLayerIdeal.nD Cert.DenseLayerIdeal.τ).loc Cert.DenseLayerIdeal.main_arg8)
      ∧ r.2.mem ((c.tc : Thread Cert.DenseLayerIdeal.nD Cert.DenseLayerIdeal.τ).loc Cert.DenseLayerIdeal.main_arg9) = m ((c.tc : Thread Cert.DenseLayerIdeal.nD Cert.DenseLayerIdeal.τ).loc Cert.DenseLayerIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_RotatedIdeal [hRotatedIdeal : Cert.RotatedIdeal.Facts] : Prop :=
  ∀ (m : (ℓ : Loc Cert.RotatedIdeal.nD Cert.RotatedIdeal.τ Cert.RotatedIdeal.sig) → Buf (Elt Ideal) ℓ) (g : Dev Cert.RotatedIdeal.nD → PrngReg), Pre_RotatedIdeal m →
    θ_run (Cert.RotatedIdeal.defs (F := Ideal)) (onTc (τ := Cert.RotatedIdeal.τ) (Cert.RotatedIdeal.main (F := Ideal))) ⟨m, fun _ => 0, g⟩ (fun r => (∀ c : Dev Cert.RotatedIdeal.nD,
      r.2.mem ((c.tc : Thread Cert.RotatedIdeal.nD Cert.RotatedIdeal.τ).loc Cert.RotatedIdeal.main_arg0) = m ((c.tc : Thread Cert.RotatedIdeal.nD Cert.RotatedIdeal.τ).loc Cert.RotatedIdeal.main_arg0)
      ∧ r.2.mem ((c.tc : Thread Cert.RotatedIdeal.nD Cert.RotatedIdeal.τ).loc Cert.RotatedIdeal.main_arg1) = m ((c.tc : Thread Cert.RotatedIdeal.nD Cert.RotatedIdeal.τ).loc Cert.RotatedIdeal.main_arg1)
      ∧ r.2.mem ((c.tc : Thread Cert.RotatedIdeal.nD Cert.RotatedIdeal.τ).loc Cert.RotatedIdeal.main_arg2) = m ((c.tc : Thread Cert.RotatedIdeal.nD Cert.RotatedIdeal.τ).loc Cert.RotatedIdeal.main_arg2)
      ∧ r.2.mem ((c.tc : Thread Cert.RotatedIdeal.nD Cert.RotatedIdeal.τ).loc Cert.RotatedIdeal.main_arg3) = m ((c.tc : Thread Cert.RotatedIdeal.nD Cert.RotatedIdeal.τ).loc Cert.RotatedIdeal.main_arg3)
      ∧ r.2.mem ((c.tc : Thread Cert.RotatedIdeal.nD Cert.RotatedIdeal.τ).loc Cert.RotatedIdeal.main_arg4) = m ((c.tc : Thread Cert.RotatedIdeal.nD Cert.RotatedIdeal.τ).loc Cert.RotatedIdeal.main_arg4)
      ∧ r.2.mem ((c.tc : Thread Cert.RotatedIdeal.nD Cert.RotatedIdeal.τ).loc Cert.RotatedIdeal.main_arg5) = m ((c.tc : Thread Cert.RotatedIdeal.nD Cert.RotatedIdeal.τ).loc Cert.RotatedIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Experts_ExpertsIdeal : Prop :=
  True

def algebraic_ExpertsIdeal_ExpertSumIdeal [hExpertsIdeal : Cert.ExpertsIdeal.Facts] [hExpertSumIdeal : Cert.ExpertSumIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertSumIdeal.nD Cert.ExpertSumIdeal.τ Cert.ExpertSumIdeal.sig) → Buf (Elt Ideal) ℓ) (g' : Dev Cert.ExpertSumIdeal.nD → PrngReg), Pre_ExpertsIdeal m →
    (∀ c : Dev Cert.ExpertsIdeal.nD,
      m' ((c.tc : Thread Cert.ExpertSumIdeal.nD Cert.ExpertSumIdeal.τ).loc Cert.ExpertSumIdeal.main_arg0) = m ((c.tc : Thread Cert.ExpertsIdeal.nD Cert.ExpertsIdeal.τ).loc Cert.ExpertsIdeal.main_arg0)
      ∧ m' ((c.tc : Thread Cert.ExpertSumIdeal.nD Cert.ExpertSumIdeal.τ).loc Cert.ExpertSumIdeal.main_arg1) = m ((c.tc : Thread Cert.ExpertsIdeal.nD Cert.ExpertsIdeal.τ).loc Cert.ExpertsIdeal.main_arg1)
      ∧ m' ((c.tc : Thread Cert.ExpertSumIdeal.nD Cert.ExpertSumIdeal.τ).loc Cert.ExpertSumIdeal.main_arg2) = m ((c.tc : Thread Cert.ExpertsIdeal.nD Cert.ExpertsIdeal.τ).loc Cert.ExpertsIdeal.main_arg2)
      ∧ m' ((c.tc : Thread Cert.ExpertSumIdeal.nD Cert.ExpertSumIdeal.τ).loc Cert.ExpertSumIdeal.main_arg3) = m ((c.tc : Thread Cert.ExpertsIdeal.nD Cert.ExpertsIdeal.τ).loc Cert.ExpertsIdeal.main_arg3)
      ∧ m' ((c.tc : Thread Cert.ExpertSumIdeal.nD Cert.ExpertSumIdeal.τ).loc Cert.ExpertSumIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertSumIdeal.defs (F := Ideal)) (onTc (τ := Cert.ExpertSumIdeal.τ) (Cert.ExpertSumIdeal.main (F := Ideal))) ⟨m', fun _ => 0, g'⟩ (fun r => ∀ c : Dev Cert.ExpertSumIdeal.nD,
          r.2.mem ((c.tc : Thread Cert.ExpertSumIdeal.nD Cert.ExpertSumIdeal.τ).loc Cert.ExpertSumIdeal.main_v129) = v0 c
          ∧ r.2.mem ((c.tc : Thread Cert.ExpertSumIdeal.nD Cert.ExpertSumIdeal.τ).loc Cert.ExpertSumIdeal.main_arg0) = m' ((c.tc : Thread Cert.ExpertSumIdeal.nD Cert.ExpertSumIdeal.τ).loc Cert.ExpertSumIdeal.main_arg0)
          ∧ r.2.mem ((c.tc : Thread Cert.ExpertSumIdeal.nD Cert.ExpertSumIdeal.τ).loc Cert.ExpertSumIdeal.main_arg1) = m' ((c.tc : Thread Cert.ExpertSumIdeal.nD Cert.ExpertSumIdeal.τ).loc Cert.ExpertSumIdeal.main_arg1)
          ∧ r.2.mem ((c.tc : Thread Cert.ExpertSumIdeal.nD Cert.ExpertSumIdeal.τ).loc Cert.ExpertSumIdeal.main_arg2) = m' ((c.tc : Thread Cert.ExpertSumIdeal.nD Cert.ExpertSumIdeal.τ).loc Cert.ExpertSumIdeal.main_arg2)
          ∧ r.2.mem ((c.tc : Thread Cert.ExpertSumIdeal.nD Cert.ExpertSumIdeal.τ).loc Cert.ExpertSumIdeal.main_arg3) = m' ((c.tc : Thread Cert.ExpertSumIdeal.nD Cert.ExpertSumIdeal.τ).loc Cert.ExpertSumIdeal.main_arg3)
          ∧ r.2.mem ((c.tc : Thread Cert.ExpertSumIdeal.nD Cert.ExpertSumIdeal.τ).loc Cert.ExpertSumIdeal.main_arg4) = m' ((c.tc : Thread Cert.ExpertSumIdeal.nD Cert.ExpertSumIdeal.τ).loc Cert.ExpertSumIdeal.main_arg4))

def preserves_Context_ContextIdeal : Prop :=
  True

def algebraic_ContextIdeal_ContextPassIdeal_pre_conditioned [hContextIdeal : Cert.ContextIdeal.Facts] [hContextPassIdeal : Cert.ContextPassIdeal.Facts] [hPre_conditioned : Cert.Pre_conditioned.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextPassIdeal.nD Cert.ContextPassIdeal.τ Cert.ContextPassIdeal.sig) → Buf (Elt Ideal) ℓ) (g' : Dev Cert.ContextPassIdeal.nD → PrngReg), Pre_ContextIdeal_conditioned m →
    (∀ c : Dev Cert.ContextIdeal.nD,
      m' ((c.tc : Thread Cert.ContextPassIdeal.nD Cert.ContextPassIdeal.τ).loc Cert.ContextPassIdeal.main_arg0) = m ((c.tc : Thread Cert.ContextIdeal.nD Cert.ContextIdeal.τ).loc Cert.ContextIdeal.main_arg0)
      ∧ m' ((c.tc : Thread Cert.ContextPassIdeal.nD Cert.ContextPassIdeal.τ).loc Cert.ContextPassIdeal.main_arg1) = m ((c.tc : Thread Cert.ContextIdeal.nD Cert.ContextIdeal.τ).loc Cert.ContextIdeal.main_arg1)
      ∧ m' ((c.tc : Thread Cert.ContextPassIdeal.nD Cert.ContextPassIdeal.τ).loc Cert.ContextPassIdeal.main_arg2) = m ((c.tc : Thread Cert.ContextIdeal.nD Cert.ContextIdeal.τ).loc Cert.ContextIdeal.main_arg2)
      ∧ m' ((c.tc : Thread Cert.ContextPassIdeal.nD Cert.ContextPassIdeal.τ).loc Cert.ContextPassIdeal.main_arg3) = m ((c.tc : Thread Cert.ContextIdeal.nD Cert.ContextIdeal.τ).loc Cert.ContextIdeal.main_arg3)
      ∧ m' ((c.tc : Thread Cert.ContextPassIdeal.nD Cert.ContextPassIdeal.τ).loc Cert.ContextPassIdeal.main_arg4) = m ((c.tc : Thread Cert.ContextIdeal.nD Cert.ContextIdeal.τ).loc Cert.ContextIdeal.main_arg4)
      ∧ m' ((c.tc : Thread Cert.ContextPassIdeal.nD Cert.ContextPassIdeal.τ).loc Cert.ContextPassIdeal.main_arg5) = m ((c.tc : Thread Cert.ContextIdeal.nD Cert.ContextIdeal.τ).loc Cert.ContextIdeal.main_arg5)
      ∧ m' ((c.tc : Thread Cert.ContextPassIdeal.nD Cert.ContextPassIdeal.τ).loc Cert.ContextPassIdeal.main_arg6) = m ((c.tc : Thread Cert.ContextIdeal.nD Cert.ContextIdeal.τ).loc Cert.ContextIdeal.main_arg6)) →
    ∃ (v0 : (c : Dev Cert.ContextIdeal.nD) → Buf (Elt Ideal) ((c.tc : Thread Cert.ContextIdeal.nD Cert.ContextIdeal.τ).loc Cert.ContextIdeal.main_v12)) (v1 : (c : Dev Cert.ContextIdeal.nD) → Buf (Elt Ideal) ((c.tc : Thread Cert.ContextIdeal.nD Cert.ContextIdeal.τ).loc Cert.ContextIdeal.main_v13)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v12) = v0 c
          ∧ r.2.mem ((c.tc : Thread Cert.ContextIdeal.nD Cert.ContextIdeal.τ).loc Cert.ContextIdeal.main_v13) = v1 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ θ_run (Cert.ContextPassIdeal.defs (F := Ideal)) (onTc (τ := Cert.ContextPassIdeal.τ) (Cert.ContextPassIdeal.main (F := Ideal))) ⟨m', fun _ => 0, g'⟩ (fun r => ∀ c : Dev Cert.ContextPassIdeal.nD,
          r.2.mem ((c.tc : Thread Cert.ContextPassIdeal.nD Cert.ContextPassIdeal.τ).loc Cert.ContextPassIdeal.main_v44) = v0 c
          ∧ r.2.mem ((c.tc : Thread Cert.ContextPassIdeal.nD Cert.ContextPassIdeal.τ).loc Cert.ContextPassIdeal.main_v43) = v1 c
          ∧ r.2.mem ((c.tc : Thread Cert.ContextPassIdeal.nD Cert.ContextPassIdeal.τ).loc Cert.ContextPassIdeal.main_arg0) = m' ((c.tc : Thread Cert.ContextPassIdeal.nD Cert.ContextPassIdeal.τ).loc Cert.ContextPassIdeal.main_arg0)
          ∧ r.2.mem ((c.tc : Thread Cert.ContextPassIdeal.nD Cert.ContextPassIdeal.τ).loc Cert.ContextPassIdeal.main_arg1) = m' ((c.tc : Thread Cert.ContextPassIdeal.nD Cert.ContextPassIdeal.τ).loc Cert.ContextPassIdeal.main_arg1)
          ∧ r.2.mem ((c.tc : Thread Cert.ContextPassIdeal.nD Cert.ContextPassIdeal.τ).loc Cert.ContextPassIdeal.main_arg2) = m' ((c.tc : Thread Cert.ContextPassIdeal.nD Cert.ContextPassIdeal.τ).loc Cert.ContextPassIdeal.main_arg2)
          ∧ r.2.mem ((c.tc : Thread Cert.ContextPassIdeal.nD Cert.ContextPassIdeal.τ).loc Cert.ContextPassIdeal.main_arg3) = m' ((c.tc : Thread Cert.ContextPassIdeal.nD Cert.ContextPassIdeal.τ).loc Cert.ContextPassIdeal.main_arg3)
          ∧ r.2.mem ((c.tc : Thread Cert.ContextPassIdeal.nD Cert.ContextPassIdeal.τ).loc Cert.ContextPassIdeal.main_arg4) = m' ((c.tc : Thread Cert.ContextPassIdeal.nD Cert.ContextPassIdeal.τ).loc Cert.ContextPassIdeal.main_arg4)
          ∧ r.2.mem ((c.tc : Thread Cert.ContextPassIdeal.nD Cert.ContextPassIdeal.τ).loc Cert.ContextPassIdeal.main_arg5) = m' ((c.tc : Thread Cert.ContextPassIdeal.nD Cert.ContextPassIdeal.τ).loc Cert.ContextPassIdeal.main_arg5)
          ∧ r.2.mem ((c.tc : Thread Cert.ContextPassIdeal.nD Cert.ContextPassIdeal.τ).loc Cert.ContextPassIdeal.main_arg6) = m' ((c.tc : Thread Cert.ContextPassIdeal.nD Cert.ContextPassIdeal.τ).loc Cert.ContextPassIdeal.main_arg6))

def preserves_PostAttn_PostAttnIdeal : Prop :=
  True

def algebraic_PostAttnIdeal_DenseLayerIdeal [hPostAttnIdeal : Cert.PostAttnIdeal.Facts] [hDenseLayerIdeal : Cert.DenseLayerIdeal.Facts] : Prop :=
  ∀ (m : (ℓ : Loc Cert.PostAttnIdeal.nD Cert.PostAttnIdeal.τ Cert.PostAttnIdeal.sig) → Buf (Elt Ideal) ℓ) (g : Dev Cert.PostAttnIdeal.nD → PrngReg)
    (m' : (ℓ : Loc Cert.DenseLayerIdeal.nD Cert.DenseLayerIdeal.τ Cert.DenseLayerIdeal.sig) → Buf (Elt Ideal) ℓ) (g' : Dev Cert.DenseLayerIdeal.nD → PrngReg), Pre_PostAttnIdeal m →
    (∀ c : Dev Cert.PostAttnIdeal.nD,
      m' ((c.tc : Thread Cert.DenseLayerIdeal.nD Cert.DenseLayerIdeal.τ).loc Cert.DenseLayerIdeal.main_arg0) = m ((c.tc : Thread Cert.PostAttnIdeal.nD Cert.PostAttnIdeal.τ).loc Cert.PostAttnIdeal.main_arg0)
      ∧ m' ((c.tc : Thread Cert.DenseLayerIdeal.nD Cert.DenseLayerIdeal.τ).loc Cert.DenseLayerIdeal.main_arg1) = m ((c.tc : Thread Cert.PostAttnIdeal.nD Cert.PostAttnIdeal.τ).loc Cert.PostAttnIdeal.main_arg1)
      ∧ m' ((c.tc : Thread Cert.DenseLayerIdeal.nD Cert.DenseLayerIdeal.τ).loc Cert.DenseLayerIdeal.main_arg2) = m ((c.tc : Thread Cert.PostAttnIdeal.nD Cert.PostAttnIdeal.τ).loc Cert.PostAttnIdeal.main_arg2)
      ∧ m' ((c.tc : Thread Cert.DenseLayerIdeal.nD Cert.DenseLayerIdeal.τ).loc Cert.DenseLayerIdeal.main_arg3) = m ((c.tc : Thread Cert.PostAttnIdeal.nD Cert.PostAttnIdeal.τ).loc Cert.PostAttnIdeal.main_arg3)
      ∧ m' ((c.tc : Thread Cert.DenseLayerIdeal.nD Cert.DenseLayerIdeal.τ).loc Cert.DenseLayerIdeal.main_arg4) = m ((c.tc : Thread Cert.PostAttnIdeal.nD Cert.PostAttnIdeal.τ).loc Cert.PostAttnIdeal.main_arg4)
      ∧ m' ((c.tc : Thread Cert.DenseLayerIdeal.nD Cert.DenseLayerIdeal.τ).loc Cert.DenseLayerIdeal.main_arg5) = m ((c.tc : Thread Cert.PostAttnIdeal.nD Cert.PostAttnIdeal.τ).loc Cert.PostAttnIdeal.main_arg5)
      ∧ m' ((c.tc : Thread Cert.DenseLayerIdeal.nD Cert.DenseLayerIdeal.τ).loc Cert.DenseLayerIdeal.main_arg6) = m ((c.tc : Thread Cert.PostAttnIdeal.nD Cert.PostAttnIdeal.τ).loc Cert.PostAttnIdeal.main_arg6)
      ∧ m' ((c.tc : Thread Cert.DenseLayerIdeal.nD Cert.DenseLayerIdeal.τ).loc Cert.DenseLayerIdeal.main_arg7) = m ((c.tc : Thread Cert.PostAttnIdeal.nD Cert.PostAttnIdeal.τ).loc Cert.PostAttnIdeal.main_arg7)
      ∧ m' ((c.tc : Thread Cert.DenseLayerIdeal.nD Cert.DenseLayerIdeal.τ).loc Cert.DenseLayerIdeal.main_arg8) = m ((c.tc : Thread Cert.PostAttnIdeal.nD Cert.PostAttnIdeal.τ).loc Cert.PostAttnIdeal.main_arg8)
      ∧ m' ((c.tc : Thread Cert.DenseLayerIdeal.nD Cert.DenseLayerIdeal.τ).loc Cert.DenseLayerIdeal.main_arg9) = m ((c.tc : Thread Cert.PostAttnIdeal.nD Cert.PostAttnIdeal.τ).loc Cert.PostAttnIdeal.main_arg9)) →
    ∃ (v0 : (c : Dev Cert.PostAttnIdeal.nD) → Buf (Elt Ideal) ((c.tc : Thread Cert.PostAttnIdeal.nD Cert.PostAttnIdeal.τ).loc Cert.PostAttnIdeal.main_v7_0)) (v1 : (c : Dev Cert.PostAttnIdeal.nD) → Buf (Elt Ideal) ((c.tc : Thread Cert.PostAttnIdeal.nD Cert.PostAttnIdeal.τ).loc Cert.PostAttnIdeal.main_v7_1)) (v2 : (c : Dev Cert.PostAttnIdeal.nD) → Buf (Elt Ideal) ((c.tc : Thread Cert.PostAttnIdeal.nD Cert.PostAttnIdeal.τ).loc Cert.PostAttnIdeal.main_v7_2)),
      θ_run (Cert.PostAttnIdeal.defs (F := Ideal)) (onTc (τ := Cert.PostAttnIdeal.τ) (Cert.PostAttnIdeal.main (F := Ideal))) ⟨m, fun _ => 0, g⟩ (fun r => ∀ c : Dev Cert.PostAttnIdeal.nD,
          r.2.mem ((c.tc : Thread Cert.PostAttnIdeal.nD Cert.PostAttnIdeal.τ).loc Cert.PostAttnIdeal.main_v7_0) = v0 c
          ∧ r.2.mem ((c.tc : Thread Cert.PostAttnIdeal.nD Cert.PostAttnIdeal.τ).loc Cert.PostAttnIdeal.main_v7_1) = v1 c
          ∧ r.2.mem ((c.tc : Thread Cert.PostAttnIdeal.nD Cert.PostAttnIdeal.τ).loc Cert.PostAttnIdeal.main_v7_2) = v2 c
          ∧ r.2.mem ((c.tc : Thread Cert.PostAttnIdeal.nD Cert.PostAttnIdeal.τ).loc Cert.PostAttnIdeal.main_arg0) = m ((c.tc : Thread Cert.PostAttnIdeal.nD Cert.PostAttnIdeal.τ).loc Cert.PostAttnIdeal.main_arg0)
          ∧ r.2.mem ((c.tc : Thread Cert.PostAttnIdeal.nD Cert.PostAttnIdeal.τ).loc Cert.PostAttnIdeal.main_arg1) = m ((c.tc : Thread Cert.PostAttnIdeal.nD Cert.PostAttnIdeal.τ).loc Cert.PostAttnIdeal.main_arg1)
          ∧ r.2.mem ((c.tc : Thread Cert.PostAttnIdeal.nD Cert.PostAttnIdeal.τ).loc Cert.PostAttnIdeal.main_arg2) = m ((c.tc : Thread Cert.PostAttnIdeal.nD Cert.PostAttnIdeal.τ).loc Cert.PostAttnIdeal.main_arg2)
          ∧ r.2.mem ((c.tc : Thread Cert.PostAttnIdeal.nD Cert.PostAttnIdeal.τ).loc Cert.PostAttnIdeal.main_arg3) = m ((c.tc : Thread Cert.PostAttnIdeal.nD Cert.PostAttnIdeal.τ).loc Cert.PostAttnIdeal.main_arg3)
          ∧ r.2.mem ((c.tc : Thread Cert.PostAttnIdeal.nD Cert.PostAttnIdeal.τ).loc Cert.PostAttnIdeal.main_arg4) = m ((c.tc : Thread Cert.PostAttnIdeal.nD Cert.PostAttnIdeal.τ).loc Cert.PostAttnIdeal.main_arg4)
          ∧ r.2.mem ((c.tc : Thread Cert.PostAttnIdeal.nD Cert.PostAttnIdeal.τ).loc Cert.PostAttnIdeal.main_arg5) = m ((c.tc : Thread Cert.PostAttnIdeal.nD Cert.PostAttnIdeal.τ).loc Cert.PostAttnIdeal.main_arg5)
          ∧ r.2.mem ((c.tc : Thread Cert.PostAttnIdeal.nD Cert.PostAttnIdeal.τ).loc Cert.PostAttnIdeal.main_arg6) = m ((c.tc : Thread Cert.PostAttnIdeal.nD Cert.PostAttnIdeal.τ).loc Cert.PostAttnIdeal.main_arg6)
          ∧ r.2.mem ((c.tc : Thread Cert.PostAttnIdeal.nD Cert.PostAttnIdeal.τ).loc Cert.PostAttnIdeal.main_arg7) = m ((c.tc : Thread Cert.PostAttnIdeal.nD Cert.PostAttnIdeal.τ).loc Cert.PostAttnIdeal.main_arg7)
          ∧ r.2.mem ((c.tc : Thread Cert.PostAttnIdeal.nD Cert.PostAttnIdeal.τ).loc Cert.PostAttnIdeal.main_arg8) = m ((c.tc : Thread Cert.PostAttnIdeal.nD Cert.PostAttnIdeal.τ).loc Cert.PostAttnIdeal.main_arg8)
          ∧ r.2.mem ((c.tc : Thread Cert.PostAttnIdeal.nD Cert.PostAttnIdeal.τ).loc Cert.PostAttnIdeal.main_arg9) = m ((c.tc : Thread Cert.PostAttnIdeal.nD Cert.PostAttnIdeal.τ).loc Cert.PostAttnIdeal.main_arg9))
      ∧ θ_run (Cert.DenseLayerIdeal.defs (F := Ideal)) (onTc (τ := Cert.DenseLayerIdeal.τ) (Cert.DenseLayerIdeal.main (F := Ideal))) ⟨m', fun _ => 0, g'⟩ (fun r => ∀ c : Dev Cert.DenseLayerIdeal.nD,
          r.2.mem ((c.tc : Thread Cert.DenseLayerIdeal.nD Cert.DenseLayerIdeal.τ).loc Cert.DenseLayerIdeal.main_v91) = v0 c
          ∧ r.2.mem ((c.tc : Thread Cert.DenseLayerIdeal.nD Cert.DenseLayerIdeal.τ).loc Cert.DenseLayerIdeal.main_v94) = v1 c
          ∧ r.2.mem ((c.tc : Thread Cert.DenseLayerIdeal.nD Cert.DenseLayerIdeal.τ).loc Cert.DenseLayerIdeal.main_v97) = v2 c
          ∧ r.2.mem ((c.tc : Thread Cert.DenseLayerIdeal.nD Cert.DenseLayerIdeal.τ).loc Cert.DenseLayerIdeal.main_arg0) = m' ((c.tc : Thread Cert.DenseLayerIdeal.nD Cert.DenseLayerIdeal.τ).loc Cert.DenseLayerIdeal.main_arg0)
          ∧ r.2.mem ((c.tc : Thread Cert.DenseLayerIdeal.nD Cert.DenseLayerIdeal.τ).loc Cert.DenseLayerIdeal.main_arg1) = m' ((c.tc : Thread Cert.DenseLayerIdeal.nD Cert.DenseLayerIdeal.τ).loc Cert.DenseLayerIdeal.main_arg1)
          ∧ r.2.mem ((c.tc : Thread Cert.DenseLayerIdeal.nD Cert.DenseLayerIdeal.τ).loc Cert.DenseLayerIdeal.main_arg2) = m' ((c.tc : Thread Cert.DenseLayerIdeal.nD Cert.DenseLayerIdeal.τ).loc Cert.DenseLayerIdeal.main_arg2)
          ∧ r.2.mem ((c.tc : Thread Cert.DenseLayerIdeal.nD Cert.DenseLayerIdeal.τ).loc Cert.DenseLayerIdeal.main_arg3) = m' ((c.tc : Thread Cert.DenseLayerIdeal.nD Cert.DenseLayerIdeal.τ).loc Cert.DenseLayerIdeal.main_arg3)
          ∧ r.2.mem ((c.tc : Thread Cert.DenseLayerIdeal.nD Cert.DenseLayerIdeal.τ).loc Cert.DenseLayerIdeal.main_arg4) = m' ((c.tc : Thread Cert.DenseLayerIdeal.nD Cert.DenseLayerIdeal.τ).loc Cert.DenseLayerIdeal.main_arg4)
          ∧ r.2.mem ((c.tc : Thread Cert.DenseLayerIdeal.nD Cert.DenseLayerIdeal.τ).loc Cert.DenseLayerIdeal.main_arg5) = m' ((c.tc : Thread Cert.DenseLayerIdeal.nD Cert.DenseLayerIdeal.τ).loc Cert.DenseLayerIdeal.main_arg5)
          ∧ r.2.mem ((c.tc : Thread Cert.DenseLayerIdeal.nD Cert.DenseLayerIdeal.τ).loc Cert.DenseLayerIdeal.main_arg6) = m' ((c.tc : Thread Cert.DenseLayerIdeal.nD Cert.DenseLayerIdeal.τ).loc Cert.DenseLayerIdeal.main_arg6)
          ∧ r.2.mem ((c.tc : Thread Cert.DenseLayerIdeal.nD Cert.DenseLayerIdeal.τ).loc Cert.DenseLayerIdeal.main_arg7) = m' ((c.tc : Thread Cert.DenseLayerIdeal.nD Cert.DenseLayerIdeal.τ).loc Cert.DenseLayerIdeal.main_arg7)
          ∧ r.2.mem ((c.tc : Thread Cert.DenseLayerIdeal.nD Cert.DenseLayerIdeal.τ).loc Cert.DenseLayerIdeal.main_arg8) = m' ((c.tc : Thread Cert.DenseLayerIdeal.nD Cert.DenseLayerIdeal.τ).loc Cert.DenseLayerIdeal.main_arg8)
          ∧ r.2.mem ((c.tc : Thread Cert.DenseLayerIdeal.nD Cert.DenseLayerIdeal.τ).loc Cert.DenseLayerIdeal.main_arg9) = m' ((c.tc : Thread Cert.DenseLayerIdeal.nD Cert.DenseLayerIdeal.τ).loc Cert.DenseLayerIdeal.main_arg9))

def preserves_Project_ProjectIdeal : Prop :=
  IdealRules.named_const.Statement Cert.ProjectIdeal.κ "q_scale" .f32 0x3E38AA3B#32 (((Real.log 2)⁻¹ * (1 / 8) : ℝ) : EReal)

def algebraic_ProjectIdeal_RotatedIdeal [hProjectIdeal : Cert.ProjectIdeal.Facts] [hRotatedIdeal : Cert.RotatedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.RotatedIdeal.nD Cert.RotatedIdeal.τ Cert.RotatedIdeal.sig) → Buf (Elt Ideal) ℓ) (g' : Dev Cert.RotatedIdeal.nD → PrngReg), Pre_ProjectIdeal m →
    (∀ c : Dev Cert.ProjectIdeal.nD,
      m' ((c.tc : Thread Cert.RotatedIdeal.nD Cert.RotatedIdeal.τ).loc Cert.RotatedIdeal.main_arg0) = m ((c.tc : Thread Cert.ProjectIdeal.nD Cert.ProjectIdeal.τ).loc Cert.ProjectIdeal.main_arg0)
      ∧ m' ((c.tc : Thread Cert.RotatedIdeal.nD Cert.RotatedIdeal.τ).loc Cert.RotatedIdeal.main_arg1) = m ((c.tc : Thread Cert.ProjectIdeal.nD Cert.ProjectIdeal.τ).loc Cert.ProjectIdeal.main_arg1)
      ∧ m' ((c.tc : Thread Cert.RotatedIdeal.nD Cert.RotatedIdeal.τ).loc Cert.RotatedIdeal.main_arg2) = m ((c.tc : Thread Cert.ProjectIdeal.nD Cert.ProjectIdeal.τ).loc Cert.ProjectIdeal.main_arg2)
      ∧ m' ((c.tc : Thread Cert.RotatedIdeal.nD Cert.RotatedIdeal.τ).loc Cert.RotatedIdeal.main_arg3) = m ((c.tc : Thread Cert.ProjectIdeal.nD Cert.ProjectIdeal.τ).loc Cert.ProjectIdeal.main_arg3)
      ∧ m' ((c.tc : Thread Cert.RotatedIdeal.nD Cert.RotatedIdeal.τ).loc Cert.RotatedIdeal.main_arg4) = m ((c.tc : Thread Cert.ProjectIdeal.nD Cert.ProjectIdeal.τ).loc Cert.ProjectIdeal.main_arg4)
      ∧ m' ((c.tc : Thread Cert.RotatedIdeal.nD Cert.RotatedIdeal.τ).loc Cert.RotatedIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v15_0)) (v1 : (c : Dev Cert.ProjectIdeal.nD) → Buf (Elt Ideal) ((c.tc : Thread Cert.ProjectIdeal.nD Cert.ProjectIdeal.τ).loc Cert.ProjectIdeal.main_v15_1)) (v2 : (c : Dev Cert.ProjectIdeal.nD) → Buf (Elt Ideal) ((c.tc : Thread Cert.ProjectIdeal.nD Cert.ProjectIdeal.τ).loc Cert.ProjectIdeal.main_v15_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v15_0) = v0 c
          ∧ r.2.mem ((c.tc : Thread Cert.ProjectIdeal.nD Cert.ProjectIdeal.τ).loc Cert.ProjectIdeal.main_v15_1) = v1 c
          ∧ r.2.mem ((c.tc : Thread Cert.ProjectIdeal.nD Cert.ProjectIdeal.τ).loc Cert.ProjectIdeal.main_v15_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.RotatedIdeal.defs (F := Ideal)) (onTc (τ := Cert.RotatedIdeal.τ) (Cert.RotatedIdeal.main (F := Ideal))) ⟨m', fun _ => 0, g'⟩ (fun r => ∀ c : Dev Cert.RotatedIdeal.nD,
          r.2.mem ((c.tc : Thread Cert.RotatedIdeal.nD Cert.RotatedIdeal.τ).loc Cert.RotatedIdeal.main_v65) = v0 c
          ∧ r.2.mem ((c.tc : Thread Cert.RotatedIdeal.nD Cert.RotatedIdeal.τ).loc Cert.RotatedIdeal.main_v83) = v1 c
          ∧ r.2.mem ((c.tc : Thread Cert.RotatedIdeal.nD Cert.RotatedIdeal.τ).loc Cert.RotatedIdeal.main_v85) = v2 c
          ∧ r.2.mem ((c.tc : Thread Cert.RotatedIdeal.nD Cert.RotatedIdeal.τ).loc Cert.RotatedIdeal.main_arg0) = m' ((c.tc : Thread Cert.RotatedIdeal.nD Cert.RotatedIdeal.τ).loc Cert.RotatedIdeal.main_arg0)
          ∧ r.2.mem ((c.tc : Thread Cert.RotatedIdeal.nD Cert.RotatedIdeal.τ).loc Cert.RotatedIdeal.main_arg1) = m' ((c.tc : Thread Cert.RotatedIdeal.nD Cert.RotatedIdeal.τ).loc Cert.RotatedIdeal.main_arg1)
          ∧ r.2.mem ((c.tc : Thread Cert.RotatedIdeal.nD Cert.RotatedIdeal.τ).loc Cert.RotatedIdeal.main_arg2) = m' ((c.tc : Thread Cert.RotatedIdeal.nD Cert.RotatedIdeal.τ).loc Cert.RotatedIdeal.main_arg2)
          ∧ r.2.mem ((c.tc : Thread Cert.RotatedIdeal.nD Cert.RotatedIdeal.τ).loc Cert.RotatedIdeal.main_arg3) = m' ((c.tc : Thread Cert.RotatedIdeal.nD Cert.RotatedIdeal.τ).loc Cert.RotatedIdeal.main_arg3)
          ∧ r.2.mem ((c.tc : Thread Cert.RotatedIdeal.nD Cert.RotatedIdeal.τ).loc Cert.RotatedIdeal.main_arg4) = m' ((c.tc : Thread Cert.RotatedIdeal.nD Cert.RotatedIdeal.τ).loc Cert.RotatedIdeal.main_arg4)
          ∧ r.2.mem ((c.tc : Thread Cert.RotatedIdeal.nD Cert.RotatedIdeal.τ).loc Cert.RotatedIdeal.main_arg5) = m' ((c.tc : Thread Cert.RotatedIdeal.nD Cert.RotatedIdeal.τ).loc Cert.RotatedIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertSumIdeal : Cert.ExpertSumIdeal.Facts) (hContext : Cert.Context.Facts) (hContextIdeal : Cert.ContextIdeal.Facts) (hContextPassIdeal : Cert.ContextPassIdeal.Facts) (hPostAttn : Cert.PostAttn.Facts) (hPostAttnIdeal : Cert.PostAttnIdeal.Facts) (hDenseLayerIdeal : Cert.DenseLayerIdeal.Facts) (hProject : Cert.Project.Facts) (hProjectIdeal : Cert.ProjectIdeal.Facts) (hRotatedIdeal : Cert.RotatedIdeal.Facts) (hPre_finite : Cert.Pre_finite.Facts) (hPre_routed : Cert.Pre_routed.Facts) (hPre_conditioned : Cert.Pre_conditioned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertSumIdeal (hExpertSumIdeal := hExpertSumIdeal)
    ∧ quiescent_ExpertSumIdeal_pre_routed (hExpertSumIdeal := hExpertSumIdeal) (hPre_routed := hPre_routed)
    ∧ quiescent_Context (hContext := hContext)
    ∧ quiescent_ContextIdeal (hContextIdeal := hContextIdeal)
    ∧ quiescent_ContextIdeal_pre_conditioned (hContextIdeal := hContextIdeal) (hPre_conditioned := hPre_conditioned)
    ∧ quiescent_ContextPassIdeal (hContextPassIdeal := hContextPassIdeal)
    ∧ quiescent_ContextPassIdeal_pre_conditioned (hContextPassIdeal := hContextPassIdeal) (hPre_conditioned := hPre_conditioned)
    ∧ quiescent_PostAttn (hPostAttn := hPostAttn)
    ∧ quiescent_PostAttnIdeal (hPostAttnIdeal := hPostAttnIdeal)
    ∧ quiescent_DenseLayerIdeal (hDenseLayerIdeal := hDenseLayerIdeal)
    ∧ quiescent_Project (hProject := hProject)
    ∧ quiescent_ProjectIdeal (hProjectIdeal := hProjectIdeal)
    ∧ quiescent_RotatedIdeal (hRotatedIdeal := hRotatedIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertSumIdeal (hExpertsIdeal := hExpertsIdeal) (hExpertSumIdeal := hExpertSumIdeal) (hPre_routed := hPre_routed)
    ∧ preserves_Context_ContextIdeal
    ∧ algebraic_ContextIdeal_ContextPassIdeal_pre_conditioned (hContextIdeal := hContextIdeal) (hContextPassIdeal := hContextPassIdeal) (hPre_conditioned := hPre_conditioned)
    ∧ preserves_PostAttn_PostAttnIdeal
    ∧ algebraic_PostAttnIdeal_DenseLayerIdeal (hPostAttnIdeal := hPostAttnIdeal) (hDenseLayerIdeal := hDenseLayerIdeal)
    ∧ preserves_Project_ProjectIdeal
    ∧ algebraic_ProjectIdeal_RotatedIdeal (hProjectIdeal := hProjectIdeal) (hRotatedIdeal := hRotatedIdeal)
-- ==== Pre_conditioned.lean ====
abbrev S32x256x1024 : Shape := ⟨3, ![32, 256, 1024]⟩
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1024x3072 : Shape := ⟨2, ![1024, 3072]⟩
abbrev S_ : Shape := ⟨0, ![]⟩

class Facts : Prop where
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S32x256x1024 .f32) (main_arg1 : FVec F S8x1024 .f32) (main_arg2 : FVec F S1024 .f32) (main_arg3 : FVec F S1024x6144 .f32) (main_arg4 : FVec F S6144 .f32) (main_arg5 : FVec F S1024 .f32) (main_arg6 : FVec F S1024x3072 .f32) : IVec S1024 1 × IVec S1024x6144 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x6144 .f32 := Host.absf main_arg3
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Pre_finite.lean ====
abbrev S8x2048x8x2x64 : Shape := ⟨5, ![8, 2048, 8, 2, 64]⟩
abbrev S8x2048x8x128 : Shape := ⟨4, ![8, 2048, 8, 128]⟩
abbrev S8x256x8x128 : Shape := ⟨4, ![8, 256, 8, 128]⟩
abbrev S64 : Shape := ⟨1, ![64]⟩
abbrev S128 : Shape := ⟨1, ![128]⟩
abbrev S_ : Shape := ⟨0, ![]⟩

class Facts : Prop where
  bcast_S_S8x2048x8x2x64 : S_.BroadcastsInDim S8x2048x8x2x64 (![] : Fin 0 → Fin S8x2048x8x2x64.rank)
  bcast_S_S8x2048x8x128 : S_.BroadcastsInDim S8x2048x8x128 (![] : Fin 0 → Fin S8x2048x8x128.rank)
  bcast_S_S8x256x8x128 : S_.BroadcastsInDim S8x256x8x128 (![] : Fin 0 → Fin S8x256x8x128.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_arg8 : FVec F S64 .f32) (main_v2 : IVec S8x2048x8x2x64 1) (main_v5 : IVec S8x2048x8x2x64 1) (main_v8 : IVec S8x2048x8x128 1) (main_v11 : IVec S8x256x8x128 1) (main_v14 : IVec S8x256x8x128 1) (main_v17 : IVec S64 1) : IVec S8x2048x8x2x64 1 × IVec S8x2048x8x2x64 1 × IVec S8x2048x8x128 1 × IVec S8x256x8x128 1 × IVec S8x256x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S8x2048x8x2x64 .f32) (main_arg1 : FVec F S8x2048x8x2x64 .f32) (main_arg2 : FVec F S8x2048x8x128 .f32) (main_arg3 : FVec F S8x256x8x128 .f32) (main_arg4 : FVec F S8x256x8x128 .f32) (main_arg5 : FVec F S64 .f32) (main_arg6 : FVec F S64 .f32) (main_arg7 : FVec F S64 .f32) (main_arg8 : FVec F S64 .f32) (main_arg9 : FVec F S128 .f32) : IVec S8x2048x8x2x64 1 × IVec S8x2048x8x2x64 1 × IVec S8x2048x8x128 1 × IVec S8x256x8x128 1 × IVec S8x256x8x128 1 × IVec S64 1 × IVec S64 1 × IVec S64 1 × IVec S64 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_v3 : FVec F S8x2048x8x2x64 .f32 := Host.absf main_arg1
  let main_cst_0 : FVec F S_ .f32 := constant S_ .f32 0x7F800000#32
  let main_v4 : FVec F S8x2048x8x2x64 .f32 := broadcastInDim S8x2048x8x2x64 ![] bcast_S_S8x2048x8x2x64 main_cst_0
  let main_v5 : IVec S8x2048x8x2x64 1 := cmpf .olt main_v3 main_v4
  let main_v6 : FVec F S8x2048x8x128 .f32 := Host.absf main_arg2
  let main_cst_1 : FVec F S_ .f32 := constant S_ .f32 0x7F800000#32
  let main_v7 : FVec F S8x2048x8x128 .f32 := broadcastInDim S8x2048x8x128 ![] bcast_S_S8x2048x8x128 main_cst_1
  let main_v8 : IVec S8x2048x8x128 1 := cmpf .olt main_v6 main_v7
  let main_v9 : FVec F S8x256x8x128 .f32 := Host.absf main_arg3
  let main_cst_2 : FVec F S_ .f32 := constant S_ .f32 0x7F800000#32
  let main_v10 : FVec F S8x256x8x128 .f32 := broadcastInDim S8x256x8x128 ![] bcast_S_S8x256x8x128 main_cst_2
  let main_v11 : IVec S8x256x8x128 1 := cmpf .olt main_v9 main_v10
  let main_v12 : FVec F S8x256x8x128 .f32 := Host.absf main_arg4
  let main_cst_3 : FVec F S_ .f32 := constant S_ .f32 0x7F800000#32
  let main_v13 : FVec F S8x256x8x128 .f32 := broadcastInDim S8x256x8x128 ![] bcast_S_S8x256x8x128 main_cst_3
  let main_v14 : IVec S8x256x8x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Pre_routed.lean ====
abbrev S223 : Shape := ⟨1, ![223]⟩
abbrev S1 : Shape := ⟨1, ![1]⟩
abbrev S57088x1024 : Shape := ⟨2, ![57088, 1024]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S223 : S_.BroadcastsInDim S223 (![] : Fin 0 → Fin S223.rank)
  bcast_S_S1 : S_.BroadcastsInDim S1 (![] : Fin 0 → Fin S1.rank)

variable [Facts]

def fn {F : FTy → Type} [FloatOps F] (main_arg0 : IVec S223 32) (main_arg1 : IVec S1 32) (main_arg2 : FVec F S57088x1024 .bf16) (main_arg3 : FVec F S8x1024x5632 .f32) (main_arg4 : FVec F S8x2816x1024 .f32) : IVec S223 1 × IVec S1 1 :=
  let main_c : IVec S_ 32 := constantI S_ 32 0#32
  let main_v0 : IVec S223 32 := broadcastInDim S223 ![] bcast_S_S223 main_c
  let main_v1 : IVec S223 1 := cmpi .sge main_arg0 main_v0
  let main_c_0 : IVec S_ 32 := constantI S_ 32 8#32
  let main_v2 : IVec S223 32 := broadcastInDim S223 ![] bcast_S_S223 main_c_0
  let main_v3 : IVec S223 1 := cmpi .slt main_arg0 main_v2
  let main_v4 : IVec S223 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S8x2048x8x2x64 : Shape := ⟨5, ![8, 2048, 8, 2, 64]⟩
abbrev S8x2048x8x128 : Shape := ⟨4, ![8, 2048, 8, 128]⟩
abbrev S8x256x8x128 : Shape := ⟨4, ![8, 256, 8, 128]⟩
abbrev S64 : Shape := ⟨1, ![64]⟩
abbrev S128 : Shape := ⟨1, ![128]⟩
abbrev S1x64 : Shape := ⟨2, ![1, 64]⟩
abbrev S4x64 : Shape := ⟨2, ![4, 64]⟩
abbrev S16384x1024 : Shape := ⟨2, ![16384, 1024]⟩
abbrev S_ : Shape := ⟨0, ![]⟩
abbrev S8x2048x1024 : Shape := ⟨3, ![8, 2048, 1024]⟩
abbrev S1x128 : Shape := ⟨2, ![1, 128]⟩
abbrev S8x256x1024 : Shape := ⟨3, ![8, 256, 1024]⟩
abbrev S512x128 : Shape := ⟨2, ![512, 128]⟩
abbrev S1x2048x128 : Shape := ⟨3, ![1, 2048, 128]⟩
abbrev S1x256x128 : Shape := ⟨3, ![1, 256, 128]⟩
abbrev S1 : Shape := ⟨1, ![1]⟩
abbrev S1x1 : Shape := ⟨2, ![1, 1]⟩
abbrev S2048x128 : Shape := ⟨2, ![2048, 128]⟩
abbrev S256x128 : Shape := ⟨2, ![256, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 33
  | .vmem => 14
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S8x256x8x128, .f32⟩
  | .hbm, ⟨4, _⟩ => ⟨S8x256x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S16384x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S16384x1024, .bf16⟩
  | .hbm, ⟨27, _⟩ => ⟨S8x2048x1024, .bf16⟩
  | .hbm, ⟨28, _⟩ => ⟨S8x2048x1024, .bf16⟩
  | .hbm, ⟨29, _⟩ => ⟨S1x128, .f32⟩
  | .hbm, ⟨30, _⟩ => ⟨S8x256x1024, .f32⟩
  | .hbm, ⟨31, _⟩ => ⟨S8x256x1024, .f32⟩
  | .hbm, ⟨32, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S512x128, .bf16⟩
  | .local _ .vmem, ⟨13, _⟩ => ⟨S512x128, .bf16⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x2048x8x2x64 : Shape := ⟨5, ![8, 2048, 8, 2, 64]⟩
abbrev S8x2048x8x128 : Shape := ⟨4, ![8, 2048, 8, 128]⟩
abbrev S8x256x8x128 : Shape := ⟨4, ![8, 256, 8, 128]⟩
abbrev S64 : Shape := ⟨1, ![64]⟩
abbrev S128 : Shape := ⟨1, ![128]⟩
abbrev S_ : Shape := ⟨0, ![]⟩
abbrev S8x256x8x2x64 : Shape := ⟨5, ![8, 256, 8, 2, 64]⟩
abbrev S8x2304x8x2x64 : Shape := ⟨5, ![8, 2304, 8, 2, 64]⟩
abbrev S8x2304x8x128 : Shape := ⟨4, ![8, 2304, 8, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S8x256x8x128, .f32⟩
  | .hbm, ⟨4, _⟩ => ⟨S8x256x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x256x8x2x64, .f32⟩
  | .hbm, ⟨22, _⟩ => ⟨S8x2304x8x2x64, .f32⟩
  | .hbm, ⟨23, _⟩ => ⟨S8x2304x8x128, .f32⟩
  | .hbm, ⟨24, _⟩ => ⟨S8x8x2x2048x2304, .f32⟩
  | .hbm, ⟨25, _⟩ => ⟨S_, .f32⟩
  | .hbm, ⟨26, _⟩ => ⟨S8x8x2x2048x2304, .f32⟩
  | .hbm, ⟨27, _⟩ => ⟨S8x8x2x2048x2304, .f32⟩
  | .hbm, ⟨28, _⟩ => ⟨S_, .f32⟩
  | .hbm, ⟨29, _⟩ => ⟨S8x8x2x2048, .f32⟩
  | .hbm, ⟨30, _⟩ => ⟨S_, .f32⟩
  | .hbm, ⟨31, _⟩ => ⟨S8x8x2x2048, .f32⟩
  | .hbm, ⟨32, _⟩ => ⟨S8x8x2x2048, .f32⟩
  | .hbm, ⟨33, _⟩ => ⟨S8x8x2x2048x1, .f32⟩
  | .hbm, ⟨34, _⟩ => ⟨S8x8x2x2048x2304, .f32⟩
  | .hbm, ⟨35, _⟩ => ⟨S8x8x2x2048x2304, .f32⟩
  | .hbm, ⟨36, _⟩ => ⟨S8x8x2x2048x2304, .f32⟩
  | .hbm, ⟨37, _⟩ => ⟨S_, .f32⟩
  | .hbm, ⟨38, _⟩ => ⟨S8x8x2x2048, .f32⟩
  | .hbm, ⟨39, _⟩ => ⟨S8x8x2x2048x1, .f32⟩
  | .hbm, ⟨40, _⟩ => ⟨S8x8x2x2048x2304, .f32⟩
  | .hbm, ⟨41, _⟩ => ⟨S8x8x2x2048x2304, .f32⟩
  | .hbm, ⟨42, _⟩ => ⟨S8x8x1x2048x2304, .f32⟩
  | .hbm, ⟨43, _⟩ => ⟨S8x8x2048x2304, .f32⟩
  | .hbm, ⟨44, _⟩ => ⟨S8x8x1x2048x2304, .f32⟩
  | .hbm, ⟨45, _⟩ => ⟨S8x8x2048x2304, .f32⟩
  | .hbm, ⟨46, _⟩ => ⟨S8x8x2048x2304, .f32⟩
  | .hbm, ⟨47, _⟩ => ⟨S8x8x2048x2304, .f32⟩
  | .hbm, ⟨48, _⟩ => ⟨S8x8x2048x2304, .f32⟩
  | .hbm, ⟨49, _⟩ => ⟨S8x8x128x2048, .f32⟩
  | .hbm, ⟨50, _⟩ => ⟨S8x2048x8x128, .f32⟩
  | .hbm, ⟨51, _⟩ => ⟨S8x2048x8x128, .f32⟩
  | .hbm, ⟨52, _⟩ => ⟨S_, .f32⟩
  | .hbm, ⟨53, _⟩ => ⟨S8x2048x8, .f32⟩
  | .hbm, ⟨54, _⟩ => ⟨S8x2048x8x1, .f32⟩
  | .hbm, ⟨55, _⟩ => ⟨S_, .f32⟩
  | .hbm, ⟨56, _⟩ => ⟨S8x2048x8x1, .f32⟩
  | .hbm, ⟨57, _⟩ => ⟨S8x2048x8x1, .f32⟩
  | .hbm, ⟨58, _⟩ => ⟨S_, .f32⟩
  | .hbm, ⟨59, _⟩ => ⟨S8x2048x8x1, .f32⟩
  | .hbm, ⟨60, _⟩ => ⟨S8x2048x8x1, .f32⟩
  | .hbm, ⟨61, _⟩ => ⟨S8x2048x8x1, .f32⟩
  | .hbm, ⟨62, _⟩ => ⟨S8x2048x8x128, .f32⟩
  | .hbm, ⟨63, _⟩ => ⟨S8x2048x8x128, .f32⟩
  | .hbm, ⟨64, _⟩ => ⟨S1x1x1x128, .f32⟩
  | .hbm, ⟨65, _⟩ => ⟨S8x2048x8x128, .f32⟩
  | .hbm, ⟨66, _⟩ => ⟨S8x2048x8x128, .f32⟩
  | .hbm, ⟨67, _⟩ => ⟨S_, .f32⟩
  | .hbm, ⟨68, _⟩ => ⟨S8x2048x8x128, .f32⟩
  | .hbm, ⟨69, _⟩ => ⟨S8x2048x8x128, .f32⟩
  | .hbm, ⟨70, _⟩ => ⟨S16384x1024, .f32⟩
  | .hbm, ⟨71, _⟩ => ⟨S16384x1024, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Experts.lean ====
abbrev S223 : Shape := ⟨1, ![223]⟩
abbrev S1 : Shape := ⟨1, ![1]⟩
abbrev S57088x1024 : Shape := ⟨2, ![57088, 1024]⟩
abbrev S8x1024x5632 : Shape := ⟨3, ![8, 1024, 5632]⟩
abbrev S8x2816x1024 : Shape := ⟨3, ![8, 2816, 1024]⟩
abbrev S256x1024 : Shape := ⟨2, ![256, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x1536 : Shape := ⟨2, ![1024, 1536]⟩
abbrev S256x1536 : Shape := ⟨2, ![256, 1536]⟩
abbrev S2816x1024 : Shape := ⟨2, ![2816, 1024]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 6
  | .vmem => 8
  | .smem => 2
  | _ => 0

abbrev bufTy : (tb : Table) → Fin (tcTables nBuf tb) → BufTy
  | .hbm, ⟨0, _⟩ => ⟨S57088x1024, .bf16⟩
  | .hbm, ⟨1, _⟩ => ⟨S8x1024x5632, .f32⟩
  | .hbm, ⟨2, _⟩ => ⟨S8x2816x1024, .f32⟩
  | .hbm, ⟨3, _⟩ => ⟨S8x1024x5632, .bf16⟩
  | .hbm, ⟨4, _⟩ => ⟨S8x2816x1024, .bf16⟩
  | .hbm, ⟨5, _⟩ => ⟨S57088x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x5632, .bf16⟩
  | .local _ .vmem, ⟨3, _⟩ => ⟨S1x1024x5632, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S256x1024, .bf16⟩
  | .local _ .vmem, ⟨7, _⟩ => ⟨S256x1024, .bf16⟩
  | .local _ .smem, ⟨0, _⟩ => ⟨S223, .i32⟩
  | .local _ .smem, ⟨1, _⟩ => ⟨S1, .i32⟩
  | _, _ => ⟨S57088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![223], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S223.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S223) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S223.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S223) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertSumIdeal.lean ====
abbrev S223 : Shape := ⟨1, ![223]⟩
abbrev S1 : Shape := ⟨1, ![1]⟩
abbrev S57088x1024 : Shape := ⟨2, ![57088, 1024]⟩
abbrev S8x1024x5632 : Shape := ⟨3, ![8, 1024, 5632]⟩
abbrev S8x2816x1024 : Shape := ⟨3, ![8, 2816, 1024]⟩
abbrev S_ : Shape := ⟨0, ![]⟩
abbrev S223x1 : Shape := ⟨2, ![223, 1]⟩
abbrev S223x256 : Shape := ⟨2, ![223, 256]⟩
abbrev S57088 : Shape := ⟨1, ![57088]⟩
abbrev S57088x1 : Shape := ⟨2, ![57088, 1]⟩
abbrev S8 : Shape := ⟨1, ![8]⟩
abbrev S1x8 : Shape := ⟨2, ![1, 8]⟩
abbrev S57088x8 : Shape := ⟨2, ![57088, 8]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S57088x5632 : Shape := ⟨2, ![57088, 5632]⟩
abbrev S57088x2816 : Shape := ⟨2, ![57088, 2816]⟩

abbrev nBuf : Space → Nat
  | .hbm => 207
  | .vmem => 0
  | .smem => 0
  | _ => 0

abbrev hbmTy0_0 (i : Nat) : BufTy := match i % 128 with
  | 0 => ⟨S223, .i32⟩
  | 1 => ⟨S1, .i32⟩
  | 2 => ⟨S57088x1024, .bf16⟩
  | 3 => ⟨S8x1024x5632, .f32⟩
  | 4 => ⟨S8x2816x1024, .f32⟩
  | 5 => ⟨S57088x1024, .f32⟩
  | 6 => ⟨S223, .i32⟩
  | 7 => ⟨S_, .i32⟩
  | 8 => ⟨S223, .i32⟩
  | 9 => ⟨S223, .i1⟩
  | 10 => ⟨S_, .i32⟩
  | 11 => ⟨S_, .i32⟩
  | 12 => ⟨S223, .i32⟩
  | 13 => ⟨S223, .i32⟩
  | 14 => ⟨S223x1, .i32⟩
  | 15 => ⟨S223x256, .i32⟩
  | 16 => ⟨S57088, .i32⟩
  | 17 => ⟨S57088x1, .i32⟩
  | 18 => ⟨S8, .i32⟩
  | 19 => ⟨S1x8, .i32⟩
  | 20 => ⟨S57088x8, .i32⟩
  | 21 => ⟨S57088x8, .i32⟩
  | 22 => ⟨S57088x8, .i1⟩
  | 23 => ⟨S_, .f32⟩
  | 24 => ⟨S_, .f32⟩
  | 25 => ⟨S57088x8, .f32⟩
  | 26 => ⟨S57088x8, .f32⟩
  | 27 => ⟨S57088x8, .f32⟩
  | 28 => ⟨S_, .f32⟩
  | 29 => ⟨S57088x1024, .f32⟩
  | 30 => ⟨S57088x1, .f32⟩
  | 31 => ⟨S1x1024x5632, .f32⟩
  | 32 => ⟨S1024x5632, .f32⟩
  | 33 => ⟨S1x2816x1024, .f32⟩
  | 34 => ⟨S2816x1024, .f32⟩
  | 35 => ⟨S57088x5632, .f32⟩
  | 36 => ⟨S57088x2816, .f32⟩
  | 37 => ⟨S57088x2816, .f32⟩
  | 38 => ⟨S57088x2816, .f32⟩
  | 39 => ⟨S57088x2816, .f32⟩
  | 40 => ⟨S_, .f32⟩
  | 41 => ⟨S57088x2816, .f32⟩
  | 42 => ⟨S57088x2816, .f32⟩
  | 43 => ⟨S_, .f32⟩
  | 44 => ⟨S57088x2816, .f32⟩
  | 45 => ⟨S57088x2816, .f32⟩
  | 46 => ⟨S57088x2816, .f32⟩
  | 47 => ⟨S57088x2816, .f32⟩
  | 48 => ⟨S57088x1024, .f32⟩
  | 49 => ⟨S57088x1024, .f32⟩
  | 50 => ⟨S57088x1024, .f32⟩
  | 51 => ⟨S57088x1024, .f32⟩
  | 52 => ⟨S57088x1, .f32⟩
  | 53 => ⟨S1x1024x5632, .f32⟩
  | 54 => ⟨S1024x5632, .f32⟩
  | 55 => ⟨S1x2816x1024, .f32⟩
  | 56 => ⟨S2816x1024, .f32⟩
  | 57 => ⟨S57088x5632, .f32⟩
  | 58 => ⟨S57088x2816, .f32⟩
  | 59 => ⟨S57088x2816, .f32⟩
  | 60 => ⟨S57088x2816, .f32⟩
  | 61 => ⟨S57088x2816, .f32⟩
  | 62 => ⟨S_, .f32⟩
  | 63 => ⟨S57088x2816, .f32⟩
  | 64 => ⟨S57088x2816, .f32⟩
  | 65 => ⟨S_, .f32⟩
  | 66 => ⟨S57088x2816, .f32⟩
  | 67 => ⟨S57088x2816, .f32⟩
  | 68 => ⟨S57088x2816, .f32⟩
  | 69 => ⟨S57088x2816, .f32⟩
  | 70 => ⟨S57088x1024, .f32⟩
  | 71 => ⟨S57088x1024, .f32⟩
  | 72 => ⟨S57088x1024, .f32⟩
  | 73 => ⟨S57088x1024, .f32⟩
  | 74 => ⟨S57088x1, .f32⟩
  | 75 => ⟨S1x1024x5632, .f32⟩
  | 76 => ⟨S1024x5632, .f32⟩
  | 77 => ⟨S1x2816x1024, .f32⟩
  | 78 => ⟨S2816x1024, .f32⟩
  | 79 => ⟨S57088x5632, .f32⟩
  | 80 => ⟨S57088x2816, .f32⟩
  | 81 => ⟨S57088x2816, .f32⟩
  | 82 => ⟨S57088x2816, .f32⟩
  | 83 => ⟨S57088x2816, .f32⟩
  | 84 => ⟨S_, .f32⟩
  | 85 => ⟨S57088x2816, .f32⟩
  | 86 => ⟨S57088x2816, .f32⟩
  | 87 => ⟨S_, .f32⟩
  | 88 => ⟨S57088x2816, .f32⟩
  | 89 => ⟨S57088x2816, .f32⟩
  | 90 => ⟨S57088x2816, .f32⟩
  | 91 => ⟨S57088x2816, .f32⟩
  | 92 => ⟨S57088x1024, .f32⟩
  | 93 => ⟨S57088x1024, .f32⟩
  | 94 => ⟨S57088x1024, .f32⟩
  | 95 => ⟨S57088x1024, .f32⟩
  | 96 => ⟨S57088x1, .f32⟩
  | 97 => ⟨S1x1024x5632, .f32⟩
  | 98 => ⟨S1024x5632, .f32⟩
  | 99 => ⟨S1x2816x1024, .f32⟩
  | 100 => ⟨S2816x1024, .f32⟩
  | 101 => ⟨S57088x5632, .f32⟩
  | 102 => ⟨S57088x2816, .f32⟩
  | 103 => ⟨S57088x2816, .f32⟩
  | 104 => ⟨S57088x2816, .f32⟩
  | 105 => ⟨S57088x2816, .f32⟩
  | 106 => ⟨S_, .f32⟩
  | 107 => ⟨S57088x2816, .f32⟩
  | 108 => ⟨S57088x2816, .f32⟩
  | 109 => ⟨S_, .f32⟩
  | 110 => ⟨S57088x2816, .f32⟩
  | 111 => ⟨S57088x2816, .f32⟩
  | 112 => ⟨S57088x2816, .f32⟩
  | 113 => ⟨S57088x2816, .f32⟩
  | 114 => ⟨S57088x1024, .f32⟩
  | 115 => ⟨S57088x1024, .f32⟩
  | 116 => ⟨S57088x1024, .f32⟩
  | 117 => ⟨S57088x1024, .f32⟩
  | 118 => ⟨S57088x1, .f32⟩
  | 119 => ⟨S1x1024x5632, .f32⟩
  | 120 => ⟨S1024x5632, .f32⟩
  | 121 => ⟨S1x2816x1024, .f32⟩
  | 122 => ⟨S2816x1024, .f32⟩
  | 123 => ⟨S57088x5632, .f32⟩
  | 124 => ⟨S57088x2816, .f32⟩
  | 125 => ⟨S57088x2816, .f32⟩
  | 126 => ⟨S57088x2816, .f32⟩
  | 127 => ⟨S57088x2816, .f32⟩
  | _ => ⟨S223, .i32⟩

abbrev hbmTy0_1 (i : Nat) : BufTy := match i % 128 with
  | 0 => ⟨S_, .f32⟩
  | 1 => ⟨S57088x2816, .f32⟩
  | 2 => ⟨S57088x2816, .f32⟩
  | 3 => ⟨S_, .f32⟩
  | 4 => ⟨S57088x2816, .f32⟩
  | 5 => ⟨S57088x2816, .f32⟩
  | 6 => ⟨S57088x2816, .f32⟩
  | 7 => ⟨S57088x2816, .f32⟩
  | 8 => ⟨S57088x1024, .f32⟩
  | 9 => ⟨S57088x1024, .f32⟩
  | 10 => ⟨S57088x1024, .f32⟩
  | 11 => ⟨S57088x1024, .f32⟩
  | 12 => ⟨S57088x1, .f32⟩
  | 13 => ⟨S1x1024x5632, .f32⟩
  | 14 => ⟨S1024x5632, .f32⟩
  | 15 => ⟨S1x2816x1024, .f32⟩
  | 16 => ⟨S2816x1024, .f32⟩
  | 17 => ⟨S57088x5632, .f32⟩
  | 18 => ⟨S57088x2816, .f32⟩
  | 19 => ⟨S57088x2816, .f32⟩
  | 20 => ⟨S57088x2816, .f32⟩
  | 21 => ⟨S57088x2816, .f32⟩
  | 22 => ⟨S_, .f32⟩
  | 23 => ⟨S57088x2816, .f32⟩
  | 24 => ⟨S57088x2816, .f32⟩
  | 25 => ⟨S_, .f32⟩
  | 26 => ⟨S57088x2816, .f32⟩
  | 27 => ⟨S57088x2816, .f32⟩
  | 28 => ⟨S57088x2816, .f32⟩
  | 29 => ⟨S57088x2816, .f32⟩
  | 30 => ⟨S57088x1024, .f32⟩
  | 31 => ⟨S57088x1024, .f32⟩
  | 32 => ⟨S57088x1024, .f32⟩
  | 33 => ⟨S57088x1024, .f32⟩
  | 34 => ⟨S57088x1, .f32⟩
  | 35 => ⟨S1x1024x5632, .f32⟩
  | 36 => ⟨S1024x5632, .f32⟩
  | 37 => ⟨S1x2816x1024, .f32⟩
  | 38 => ⟨S2816x1024, .f32⟩
  | 39 => ⟨S57088x5632, .f32⟩
  | 40 => ⟨S57088x2816, .f32⟩
  | 41 => ⟨S57088x2816, .f32⟩
  | 42 => ⟨S57088x2816, .f32⟩
  | 43 => ⟨S57088x2816, .f32⟩
  | 44 => ⟨S_, .f32⟩
  | 45 => ⟨S57088x2816, .f32⟩
  | 46 => ⟨S57088x2816, .f32⟩
  | 47 => ⟨S_, .f32⟩
  | 48 => ⟨S57088x2816, .f32⟩
  | 49 => ⟨S57088x2816, .f32⟩
  | 50 => ⟨S57088x2816, .f32⟩
  | 51 => ⟨S57088x2816, .f32⟩
  | 52 => ⟨S57088x1024, .f32⟩
  | 53 => ⟨S57088x1024, .f32⟩
  | 54 => ⟨S57088x1024, .f32⟩
  | 55 => ⟨S57088x1024, .f32⟩
  | 56 => ⟨S57088x1, .f32⟩
  | 57 => ⟨S1x1024x5632, .f32⟩
  | 58 => ⟨S1024x5632, .f32⟩
  | 59 => ⟨S1x2816x1024, .f32⟩
  | 60 => ⟨S2816x1024, .f32⟩
  | 61 => ⟨S57088x5632, .f32⟩
  | 62 => ⟨S57088x2816, .f32⟩
  | 63 => ⟨S57088x2816, .f32⟩
  | 64 => ⟨S57088x2816, .f32⟩
  | 65 => ⟨S57088x2816, .f32⟩
  | 66 => ⟨S_, .f32⟩
  | 67 => ⟨S57088x2816, .f32⟩
  | 68 => ⟨S57088x2816, .f32⟩
  | 69 => ⟨S_, .f32⟩
  | 70 => ⟨S57088x2816, .f32⟩
  | 71 => ⟨S57088x2816, .f32⟩
  | 72 => ⟨S57088x2816, .f32⟩
  | 73 => ⟨S57088x2816, .f32⟩
  | 74 => ⟨S57088x1024, .f32⟩
  | 75 => ⟨S57088x1024, .f32⟩
  | 76 => ⟨S57088x1024, .f32⟩
  | 77 => ⟨S57088x1024, .f32⟩
  | 78 => ⟨S57088x1024, .bf16⟩
  | _ => ⟨S223, .i32⟩

abbrev hbmTy (i : Nat) : BufTy := match i / 128 with
  | 0 => hbmTy0_0 i
  | 1 => hbmTy0_1 i
  | _ => ⟨S223, .i32⟩

abbrev bufTy : (tb : Table) → Fin (tcTables nBuf tb) → BufTy
  | .hbm, ⟨i, _⟩ => hbmTy i
  | _, _ => ⟨S223, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_v0 : Ref sig .tc := ⟨.hbm, 104, rfl⟩
abbrev main_call5_v1 : Ref sig .tc := ⟨.hbm, 105, rfl⟩
abbrev main_call5_cst : Ref sig .tc := ⟨.hbm, 106, rfl⟩
abbrev main_call5_v2 : Ref sig .tc := ⟨.hbm, 107, rfl⟩
abbrev main_call5_v3 : Ref sig .tc := ⟨.hbm, 108, rfl⟩
abbrev main_call5_cst_0 : Ref sig .tc := ⟨.hbm, 109, rfl⟩
abbrev main_call5_v4 : Ref sig .tc := ⟨.hbm, 110, rfl⟩
abbrev main_call5_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call7_v0 : Ref sig .tc := ⟨.hbm, 148, rfl⟩
abbrev main_call7_v1 : Ref sig .tc := ⟨.hbm, 149, rfl⟩
abbrev main_call7_cst : Ref sig .tc := ⟨.hbm, 150, rfl⟩
abbrev main_call7_v2 : Ref sig .tc := ⟨.hbm, 151, rfl⟩
abbrev main_call7_v3 : Ref sig .tc := ⟨.hbm, 152, rfl⟩
abbrev main_call7_cst_0 : Ref sig .tc := ⟨.hbm, 153, rfl⟩
abbrev main_call7_v4 : Ref sig .tc := ⟨.hbm, 154, rfl⟩
abbrev main_call7_v5 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_call8_v0 : Ref sig .tc := ⟨.hbm, 170, rfl⟩
abbrev main_call8_v1 : Ref sig .tc := ⟨.hbm, 171, rfl⟩
abbrev main_call8_cst : Ref sig .tc := ⟨.hbm, 172, rfl⟩
abbrev main_call8_v2 : Ref sig .tc := ⟨.hbm, 173, rfl⟩
abbrev main_call8_v3 : Ref sig .tc := ⟨.hbm, 174, rfl⟩
abbrev main_call8_cst_0 : Ref sig .tc := ⟨.hbm, 175, rfl⟩
abbrev main_call8_v4 : Ref sig .tc := ⟨.hbm, 176, rfl⟩
abbrev main_call8_v5 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩

abbrev nD : Nat := 1
abbrev τ : Topo := Topo.v7x

variable {F : FTy → Type} [FloatOps F]
-- ==== Context.lean ====
abbrev S32x256x1024 : Shape := ⟨3, ![32, 256, 1024]⟩
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1024x3072 : Shape := ⟨2, ![1024, 3072]⟩
abbrev S_ : Shape := ⟨0, ![]⟩
abbrev S16x1024 : Shape := ⟨2, ![16, 1024]⟩
abbrev S1 : Shape := ⟨1, ![1]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩
abbrev S16x6x1024 : Shape := ⟨3, ![16, 6, 1024]⟩
abbrev S8192x1024 : Shape := ⟨2, ![8192, 1024]⟩
abbrev S1x1024 : Shape := ⟨2, ![1, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩
abbrev S256x3072 : Shape := ⟨2, ![256, 3072]⟩
abbrev S32x256x8x128 : Shape := ⟨4, ![32, 256, 8, 128]⟩

abbrev nBuf : Space → Nat
  | .hbm => 26
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x3072, .f32⟩
  | .hbm, ⟨7, _⟩ => ⟨S_, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S_, .i32⟩
  | .hbm, ⟨13, _⟩ => ⟨S1, .i32⟩
  | .hbm, ⟨14, _⟩ => ⟨S16x1024, .f32⟩
  | .hbm, ⟨15, _⟩ => ⟨S1x6144, .f32⟩
  | .hbm, ⟨16, _⟩ => ⟨S16x6144, .f32⟩
  | .hbm, ⟨17, _⟩ => ⟨S16x6x1024, .f32⟩
  | .hbm, ⟨18, _⟩ => ⟨S8192x1024, .f32⟩
  | .hbm, ⟨19, _⟩ => ⟨S1024x3072, .bf16⟩
  | .hbm, ⟨20, _⟩ => ⟨S1x1024, .f32⟩
  | .hbm, ⟨21, _⟩ => ⟨S8192x1024, .bf16⟩
  | .hbm, ⟨22, _⟩ => ⟨S8192x1024, .f32⟩
  | .hbm, ⟨23, _⟩ => ⟨S8192x1024, .f32⟩
  | .hbm, ⟨24, _⟩ => ⟨S32x256x8x128, .f32⟩
  | .hbm, ⟨25, _⟩ => ⟨S32x256x8x128, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | .local _ .vmem, ⟨7, _⟩ => ⟨S256x1024, .f32⟩
  | .local _ .vmem, ⟨8, _⟩ => ⟨S256x1024, .f32⟩
  | .local _ .vmem, ⟨9, _⟩ => ⟨S1x6x1024, .f32⟩
  | .local _ .vmem, ⟨10, _⟩ => ⟨S1x1024, .f32⟩
  | .local _ .vmem, ⟨11, _⟩ => ⟨S1024x3072, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ContextPassIdeal.lean ====
abbrev S32x256x1024 : Shape := ⟨3, ![32, 256, 1024]⟩
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1024x3072 : Shape := ⟨2, ![1024, 3072]⟩
abbrev S1x1024 : Shape := ⟨2, ![1, 1024]⟩
abbrev S_ : Shape := ⟨0, ![]⟩
abbrev S1x6144 : Shape := ⟨2, ![1, 6144]⟩
abbrev S1x1x6x1024 : Shape := ⟨4, ![1, 1, 6, 1024]⟩
abbrev S1x1x1x1024 : Shape := ⟨4, ![1, 1, 1, 1024]⟩
abbrev S1x1x1024 : Shape := ⟨3, ![1, 1, 1024]⟩
abbrev S32x256 : Shape := ⟨2, ![32, 256]⟩
abbrev S32x256x1 : Shape := ⟨3, ![32, 256, 1]⟩
abbrev S32x256x3072 : Shape := ⟨3, ![32, 256, 3072]⟩
abbrev S32x256x8x2x64 : Shape := ⟨5, ![32, 256, 8, 2, 64]⟩
abbrev S32x256x8x128 : Shape := ⟨4, ![32, 256, 8, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x3072, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x6144, .f32⟩
  | .hbm, ⟨18, _⟩ => ⟨S1x6144, .f32⟩
  | .hbm, ⟨19, _⟩ => ⟨S1x6144, .f32⟩
  | .hbm, ⟨20, _⟩ => ⟨S1x1x6x1024, .f32⟩
  | .hbm, ⟨21, _⟩ => ⟨S1x1x1x1024, .f32⟩
  | .hbm, ⟨22, _⟩ => ⟨S1x1x1024, .f32⟩
  | .hbm, ⟨23, _⟩ => ⟨S1x1x1x1024, .f32⟩
  | .hbm, ⟨24, _⟩ => ⟨S1x1x1024, .f32⟩
  | .hbm, ⟨25, _⟩ => ⟨S1x1x1x1024, .f32⟩
  | .hbm, ⟨26, _⟩ => ⟨S1x1x1024, .f32⟩
  | .hbm, ⟨27, _⟩ => ⟨S1x1x1x1024, .f32⟩
  | .hbm, ⟨28, _⟩ => ⟨S1x1x1024, .f32⟩
  | .hbm, ⟨29, _⟩ => ⟨S1x1x1x1024, .f32⟩
  | .hbm, ⟨30, _⟩ => ⟨S1x1x1024, .f32⟩
  | .hbm, ⟨31, _⟩ => ⟨S1x1x1x1024, .f32⟩
  | .hbm, ⟨32, _⟩ => ⟨S1x1x1024, .f32⟩
  | .hbm, ⟨33, _⟩ => ⟨S32x256x1024, .f32⟩
  | .hbm, ⟨34, _⟩ => ⟨S_, .f32⟩
  | .hbm, ⟨35, _⟩ => ⟨S32x256, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S_, .f32⟩
  | .hbm, ⟨50, _⟩ => ⟨S1x1x1024, .f32⟩
  | .hbm, ⟨51, _⟩ => ⟨S1x1x1024, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S32x256x3072, .f32⟩
  | .hbm, ⟨57, _⟩ => ⟨S32x256x1024, .f32⟩
  | .hbm, ⟨58, _⟩ => ⟨S32x256x1024, .f32⟩
  | .hbm, ⟨59, _⟩ => ⟨S32x256x1024, .f32⟩
  | .hbm, ⟨60, _⟩ => ⟨S32x256x8x2x64, .f32⟩
  | .hbm, ⟨61, _⟩ => ⟨S32x256x8x2x64, .f32⟩
  | .hbm, ⟨62, _⟩ => ⟨S32x256x8x128, .f32⟩
  | .hbm, ⟨63, _⟩ => ⟨S32x256x8x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== PostAttn.lean ====
abbrev S8x2048x1024 : Shape := ⟨3, ![8, 2048, 1024]⟩
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S256x512 : Shape := ⟨2, ![256, 512]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S512x256 : Shape := ⟨2, ![512, 256]⟩
abbrev S512x512 : Shape := ⟨2, ![512, 512]⟩

abbrev nBuf : Space → Nat
  | .hbm => 20
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S256x512, .f32⟩
  | .hbm, ⟨10, _⟩ => ⟨S16384x1024, .f32⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S256x512, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x5632, .bf16⟩
  | .local _ .vmem, ⟨12, _⟩ => ⟨S2816x1024, .bf16⟩
  | .local _ .vmem, ⟨13, _⟩ => ⟨S256x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DenseLayerIdeal.lean ====
abbrev S8x2048x1024 : Shape := ⟨3, ![8, 2048, 1024]⟩
abbrev S16384x1024 : Shape := ⟨2, ![16384, 1024]⟩
abbrev S16x6x1024 : Shape := ⟨3, ![16, 6, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S256x512 : Shape := ⟨2, ![256, 512]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2048x4x256 : Shape := ⟨4, ![8, 2048, 4, 256]⟩
abbrev S8x2048x4x512 : Shape := ⟨4, ![8, 2048, 4, 512]⟩

abbrev nBuf : Space → Nat
  | .hbm => 124
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S256x512, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S16384x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x5632, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x1x1024, .f32⟩
  | .hbm, ⟨75, _⟩ => ⟨S8x1024, .f32⟩
  | .hbm, ⟨76, _⟩ => ⟨S8x1x1024, .f32⟩
  | .hbm, ⟨77, _⟩ => ⟨S8x1x1024, .f32⟩
  | .hbm, ⟨78, _⟩ => ⟨S8x1024, .f32⟩
  | .hbm, ⟨79, _⟩ => ⟨S8x1x1024, .f32⟩
  | .hbm, ⟨80, _⟩ => ⟨S8x1x1024, .f32⟩
  | .hbm, ⟨81, _⟩ => ⟨S8x1024, .f32⟩
  | .hbm, ⟨82, _⟩ => ⟨S8x1x1024, .f32⟩
  | .hbm, ⟨83, _⟩ => ⟨S8x1x1024, .f32⟩
  | .hbm, ⟨84, _⟩ => ⟨S8x1024, .f32⟩
  | .hbm, ⟨85, _⟩ => ⟨S8x1x1024, .f32⟩
  | .hbm, ⟨86, _⟩ => ⟨S8x1x1024, .f32⟩
  | .hbm, ⟨87, _⟩ => ⟨S8x1024, .f32⟩
  | .hbm, ⟨88, _⟩ => ⟨S8x1x1024, .f32⟩
  | .hbm, ⟨89, _⟩ => ⟨S8x1x1024, .f32⟩
  | .hbm, ⟨90, _⟩ => ⟨S8x1024, .f32⟩
  | .hbm, ⟨91, _⟩ => ⟨S8x1x1024, .f32⟩
  | .hbm, ⟨92, _⟩ => ⟨S8x2048x1024, .f32⟩
  | .hbm, ⟨93, _⟩ => ⟨S_, .f32⟩
  | .hbm, ⟨94, _⟩ => ⟨S8x2048, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S8x2048x1, .f32⟩
  | .hbm, ⟨103, _⟩ => ⟨S8x2048x1024, .f32⟩
  | .hbm, ⟨104, _⟩ => ⟨S8x2048x1024, .f32⟩
  | .hbm, ⟨105, _⟩ => ⟨S1x1x1024, .f32⟩
  | .hbm, ⟨106, _⟩ => ⟨S8x2048x1024, .f32⟩
  | .hbm, ⟨107, _⟩ => ⟨S8x2048x1024, .f32⟩
  | .hbm, ⟨108, _⟩ => ⟨S_, .f32⟩
  | .hbm, ⟨109, _⟩ => ⟨S8x1x1024, .f32⟩
  | .hbm, ⟨110, _⟩ => ⟨S8x1x1024, .f32⟩
  | .hbm, ⟨111, _⟩ => ⟨S8x2048x1024, .f32⟩
  | .hbm, ⟨112, _⟩ => ⟨S8x2048x1024, .f32⟩
  | .hbm, ⟨113, _⟩ => ⟨S8x2048x1024, .f32⟩
  | .hbm, ⟨114, _⟩ => ⟨S8x2048x1024, .f32⟩
  | .hbm, ⟨115, _⟩ => ⟨S8x2048x4x256, .f32⟩
  | .hbm, ⟨116, _⟩ => ⟨S8x2048x4x512, .f32⟩
  | .hbm, ⟨117, _⟩ => ⟨S16384x1024, .f32⟩
  | .hbm, ⟨118, _⟩ => ⟨S8x2048x4x256, .f32⟩
  | .hbm, ⟨119, _⟩ => ⟨S16384x1024, .f32⟩
  | .hbm, ⟨120, _⟩ => ⟨S16384x1024, .bf16⟩
  | .hbm, ⟨121, _⟩ => ⟨S8x2048x4x256, .f32⟩
  | .hbm, ⟨122, _⟩ => ⟨S16384x1024, .f32⟩
  | .hbm, ⟨123, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_3 : Ref sig .tc := ⟨.hbm, 93, rfl⟩
abbrev main_v71 : Ref sig .tc := ⟨.hbm, 94, rfl⟩
abbrev main_v72 : Ref sig .tc := ⟨.hbm, 95, rfl⟩
abbrev main_cst_4 : Ref sig .tc := ⟨.hbm, 96, rfl⟩
abbrev main_v73 : Ref sig .tc := ⟨.hbm, 97, rfl⟩
abbrev main_v74 : Ref sig .tc := ⟨.hbm, 98, rfl⟩
abbrev main_cst_5 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_6 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Project.lean ====
abbrev S8x2048x1024 : Shape := ⟨3, ![8, 2048, 1024]⟩
abbrev S16x6x1024 : Shape := ⟨3, ![16, 6, 1024]⟩
abbrev S1024 : Shape := ⟨1, ![1024]⟩
abbrev S1024x3072 : Shape := ⟨2, ![1024, 3072]⟩
abbrev S2048x64 : Shape := ⟨2, ![2048, 64]⟩
abbrev S16384x1024 : Shape := ⟨2, ![16384, 1024]⟩
abbrev S1x1024 : Shape := ⟨2, ![1, 1024]⟩
abbrev S64 : Shape := ⟨1, ![64]⟩
abbrev S_ : Shape := ⟨0, ![]⟩
abbrev S1x64 : Shape := ⟨2, ![1, 64]⟩
abbrev S2048x128 : Shape := ⟨2, ![2048, 128]⟩
abbrev S256x1024 : Shape := ⟨2, ![256, 1024]⟩
abbrev S1x6x1024 : Shape := ⟨3, ![1, 6, 1024]⟩
abbrev S256x128 : Shape := ⟨2, ![256, 128]⟩
abbrev S256 : Shape := ⟨1, ![256]⟩
abbrev S256x1 : Shape := ⟨2, ![256, 1]⟩
abbrev S1x1x1024 : Shape := ⟨3, ![1, 1, 1024]⟩
abbrev S256x3072 : Shape := ⟨2, ![256, 3072]⟩

abbrev nBuf : Space → Nat
  | .hbm => 54
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S2048x64, .f32⟩
  | .hbm, ⟨5, _⟩ => ⟨S2048x64, .f32⟩
  | .hbm, ⟨6, _⟩ => ⟨S16384x1024, .f32⟩
  | .hbm, ⟨7, _⟩ => ⟨S1024x3072, .bf16⟩
  | .hbm, ⟨8, _⟩ => ⟨S1x1024, .f32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S_, .i1⟩
  | .hbm, ⟨26, _⟩ => ⟨S64, .i1⟩
  | .hbm, ⟨27, _⟩ => ⟨S64, .i1⟩
  | .hbm, ⟨28, _⟩ => ⟨S64, .i1⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S1x64, .i1⟩
  | .hbm, ⟨36, _⟩ => ⟨S2048x64, .f32⟩
  | .hbm, ⟨37, _⟩ => ⟨S_, .f32⟩
  | .hbm, ⟨38, _⟩ => ⟨S_, .f32⟩
  | .hbm, ⟨39, _⟩ => ⟨S2048x64, .i1⟩
  | .hbm, ⟨40, _⟩ => ⟨S2048x64, .f32⟩
  | .hbm, ⟨41, _⟩ => ⟨S2048x64, .f32⟩
  | .hbm, ⟨42, _⟩ => ⟨S1x64, .i1⟩
  | .hbm, ⟨43, _⟩ => ⟨S_, .f32⟩
  | .hbm, ⟨44, _⟩ => ⟨S_, .f32⟩
  | .hbm, ⟨45, _⟩ => ⟨S2048x64, .i1⟩
  | .hbm, ⟨46, _⟩ => ⟨S2048x64, .f32⟩
  | .hbm, ⟨47, _⟩ => ⟨S2048x64, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S16384x1024, .bf16⟩
  | .hbm, ⟨52, _⟩ => ⟨S16384x1024, .bf16⟩
  | .hbm, ⟨53, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15_0 : Ref sig .tc := ⟨.hbm, 51, rfl⟩
abbrev main_v15_1 : Ref sig .tc := ⟨.hbm, 52, rfl⟩
abbrev main_v15_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectIdeal.lean ====
variable {F : FTy → Type} [FloatOps F] [Named F]
def κ : String → Option EReal := fun
  | "q_scale" => some (((Real.log 2)⁻¹ * (1 / 8) : ℝ) : EReal)
  | _ => none
-- ==== RotatedIdeal.lean ====
abbrev S8x2048x1024 : Shape := ⟨3, ![8, 2048, 1024]⟩
abbrev S16x6x1024 : Shape := ⟨3, ![16, 6, 1024]⟩
abbrev S1024 : Shape := ⟨1, ![1024]⟩
abbrev S1024x3072 : Shape := ⟨2, ![1024, 3072]⟩
abbrev S2048x64 : Shape := ⟨2, ![2048, 64]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x8x2x64 : Shape := ⟨5, ![8, 2048, 8, 2, 64]⟩
abbrev S8x2048x8x128 : Shape := ⟨4, ![8, 2048, 8, 128]⟩
abbrev S8x2048x8x2x16 : Shape := ⟨5, ![8, 2048, 8, 2, 16]⟩
abbrev S2048x1x1x64 : Shape := ⟨4, ![2048, 1, 1, 64]⟩
abbrev S1x2048x1x1x64 : Shape := ⟨5, ![1, 2048, 1, 1, 64]⟩
abbrev S16384x1024 : Shape := ⟨2, ![16384, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S2048x64, .f32⟩
  | .hbm, ⟨5, _⟩ => ⟨S2048x64, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x3072, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x8x2x64, .f32⟩
  | .hbm, ⟨52, _⟩ => ⟨S8x2048x8x2x64, .f32⟩
  | .hbm, ⟨53, _⟩ => ⟨S8x2048x8x128, .f32⟩
  | .hbm, ⟨54, _⟩ => ⟨S8x2048x8x2x16, .f32⟩
  | .hbm, ⟨55, _⟩ => ⟨S8x2048x8x2x16, .f32⟩
  | .hbm, ⟨56, _⟩ => ⟨S8x2048x8x2x16, .f32⟩
  | .hbm, ⟨57, _⟩ => ⟨S8x2048x8x2x16, .f32⟩
  | .hbm, ⟨58, _⟩ => ⟨S8x2048x8x2x16, .f32⟩
  | .hbm, ⟨59, _⟩ => ⟨S8x2048x8x2x16, .f32⟩
  | .hbm, ⟨60, _⟩ => ⟨S8x2048x8x2x64, .f32⟩
  | .hbm, ⟨61, _⟩ => ⟨S2048x1x1x64, .f32⟩
  | .hbm, ⟨62, _⟩ => ⟨S1x2048x1x1x64, .f32⟩
  | .hbm, ⟨63, _⟩ => ⟨S8x2048x8x2x64, .f32⟩
  | .hbm, ⟨64, _⟩ => ⟨S8x2048x8x2x64, .f32⟩
  | .hbm, ⟨65, _⟩ => ⟨S2048x1x1x64, .f32⟩
  | .hbm, ⟨66, _⟩ => ⟨S1x2048x1x1x64, .f32⟩
  | .hbm, ⟨67, _⟩ => ⟨S8x2048x8x2x64, .f32⟩
  | .hbm, ⟨68, _⟩ => ⟨S8x2048x8x2x64, .f32⟩
  | .hbm, ⟨69, _⟩ => ⟨S8x2048x8x2x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x2048x8x2x64, .f32⟩
  | .hbm, ⟨75, _⟩ => ⟨S8x2048x8x2x64, .f32⟩
  | .hbm, ⟨76, _⟩ => ⟨S16384x1024, .f32⟩
  | .hbm, ⟨77, _⟩ => ⟨S16384x1024, .bf16⟩
  | .hbm, ⟨78, _⟩ => ⟨S8x2048x8x2x16, .f32⟩
  | .hbm, ⟨79, _⟩ => ⟨S8x2048x8x2x16, .f32⟩
  | .hbm, ⟨80, _⟩ => ⟨S8x2048x8x2x16, .f32⟩
  | .hbm, ⟨81, _⟩ => ⟨S8x2048x8x2x16, .f32⟩
  | .hbm, ⟨82, _⟩ => ⟨S8x2048x8x2x16, .f32⟩
  | .hbm, ⟨83, _⟩ => ⟨S8x2048x8x2x16, .f32⟩
  | .hbm, ⟨84, _⟩ => ⟨S8x2048x8x2x64, .f32⟩
  | .hbm, ⟨85, _⟩ => ⟨S2048x1x1x64, .f32⟩
  | .hbm, ⟨86, _⟩ => ⟨S1x2048x1x1x64, .f32⟩
  | .hbm, ⟨87, _⟩ => ⟨S8x2048x8x2x64, .f32⟩
  | .hbm, ⟨88, _⟩ => ⟨S8x2048x8x2x64, .f32⟩
  | .hbm, ⟨89, _⟩ => ⟨S2048x1x1x64, .f32⟩
  | .hbm, ⟨90, _⟩ => ⟨S1x2048x1x1x64, .f32⟩
  | .hbm, ⟨91, _⟩ => ⟨S8x2048x8x2x64, .f32⟩
  | .hbm, ⟨92, _⟩ => ⟨S8x2048x8x2x64, .f32⟩
  | .hbm, ⟨93, _⟩ => ⟨S8x2048x8x2x64, .f32⟩
  | .hbm, ⟨94, _⟩ => ⟨S16384x1024, .f32⟩
  | .hbm, ⟨95, _⟩ => ⟨S16384x1024, .bf16⟩
  | .hbm, ⟨96, _⟩ => ⟨S16384x1024, .f32⟩
  | .hbm, ⟨97, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_3 : Ref sig .tc := ⟨.hbm, 70, rfl⟩
abbrev main_v60 : Ref sig .tc := ⟨.hbm, 71, rfl⟩
abbrev main_cst_4 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩

abbrev nD : Nat := 1
abbrev τ : Topo := Topo.v7x

variable {F : FTy → Type} [FloatOps F]
-- ==== Proof.Row.lean ====
/- One row of the attention block over the extended reals, and the block that the body stores, as rows. -/
module

public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The scores of one query row against every key, the product of the lanes below 64 (`b = true`) or of the others. -/
def rowScore {n : ℕ} (b : Bool) (q : Fin 128 → EReal) (K : Fin n → Fin 128 → EReal) (k : Fin n) : EReal :=
  ∑ d : Fin 128, if (decide (d.val < 64)) = b then q d * K k d else 0

/-- The greatest of a row's scores. -/
def rowMax (s : Fin 2304 → EReal) : EReal := Finset.univ.fold max ⊥ s

/-- The powers of two of a row's scores, less the greatest one. -/
def rowExp (s : Fin 2304 → EReal) (k : Fin 2304) : EReal := Ideal.exp2 (s k - rowMax s)

/-- A row's weighted values, divided by the sum of the weights. -/
def rowOut (s : Fin 2304 → EReal) (V : Fin 2304 → Fin 128 → EReal) (e : Fin 128) : EReal :=
  (∑ k, rowExp s k * V k e) * Ideal.div 1 (∑ k, rowExp s k)

/-- The difference of the two components' outputs. -/
def rowDiff (lam : EReal) (q : Fin 128 → EReal) (K V : Fin 2304 → Fin 128 → EReal) (e : Fin 128) : EReal :=
  rowOut (rowScore true q K) V e - lam * rowOut (rowScore false q K) V e

/-- A row divided by its root mean square, and scaled lane by lane. -/
def rowNorm (o g : Fin 128 → EReal) (e : Fin 128) : EReal :=
  o e * Ideal.rsqrt (Ideal.div (∑ x, o x * o x) (Ideal.ofBits .f32 0x43000000#32) + Ideal.ofBits .f32 0x3727C5AC#32) * g e

/-- Two lists put after one another: the tokens' entries below 2048, the cached ones from there on. -/
def chained {α : Type} (x : Fin 2048 → α) (y : Fin 256 → α) (k : Fin 2304) : α :=
  if hk : k.val < 2048 then x ⟨k.val, hk⟩ else y ⟨k.val - 2048, by omega⟩

/-- The greatest score of the two groups of keys. -/
def pairMax (s : Fin 2048 → EReal) (s' : Fin 256 → EReal) : EReal := max (Finset.univ.fold max ⊥ s) (Finset.univ.fold max ⊥ s')

/-- The weighted values of the two groups, divided by the sum of both groups' weights. -/
def pairOut (s : Fin 2048 → EReal) (s' : Fin 256 → EReal) (V : Fin 2048 → Fin 128 → EReal) (V' : Fin 256 → Fin 128 → EReal) (e : Fin 128) : EReal :=
  (∑ k, Ideal.exp2 (s k - pairMax s s') * V k e + ∑ k, Ideal.exp2 (s' k - pairMax s s') * V' k e)
    * Ideal.div 1 (∑ k, Ideal.exp2 (s k - pairMax s s') + ∑ k, Ideal.exp2 (s' k - pairMax s s'))

theorem chained_left {α : Type} (x : Fin 2048 → α) (y : Fin 256 → α) (k : Fin 2048) : chained x y (Fin.castAdd 256 k) = x k :=
  dif_pos k.isLt

theorem chained_right {α : Type} (x : Fin 2048 → α) (y : Fin 256 → α) (k : Fin 256) : chained x y (Fin.natAdd 2048 k) = y k := by
  have h : ¬(Fin.natAdd 2048 k).val < 2048 := by simp [Fin.natAdd]
  refine (dif_neg h).trans (congrArg y (Fin.ext ?_))
  simp [Fin.natAdd]

/-- A sum over all keys is the sum over the tokens' and the sum over the cached ones. -/
theorem sum_keys (f : Fin 2304 → EReal) : ∑ k, f k = ∑ k : Fin 2048, f (Fin.castAdd 256 k) + ∑ k : Fin 256, f (Fin.natAdd 2048 k) :=
  Fin.sum_univ_add (a := 2048) (b := 256) f

/-- The greatest of all scores is the greater of the two groups' greatest ones. -/
theorem rowMax_chained (s : Fin 2048 → EReal) (s' : Fin 256 → EReal) : rowMax (chained s s') = pairMax s s' := by
  refine le_antisymm (Finset.sup_le fun k _ => ?_) (max_le (Finset.sup_le fun k _ => ?_) (Finset.sup_le fun k _ => ?_))
  · unfold chained
    split
    · exact le_trans (Finset.le_sup (f := s) (Finset.mem_univ _)) (le_max_left _ _)
    · exact le_trans (Finset.le_sup (f := s') (Finset.mem_univ _)) (le_max_right _ _)
  · rw [← chained_left s s' k]
    exact Finset.le_sup (f := chained s s') (Finset.mem_univ _)
  · rw [← chained_right s s' k]
    exact Finset.le_sup (f := chained s s') (Finset.mem_univ _)

theorem rowScore_chained (b : Bool) (q : Fin 128 → EReal) (K : Fin 2048 → Fin 128 → EReal) (K' : Fin 256 → Fin 128 → EReal) :
    rowScore b q (chained K K') = chained (rowScore b q K) (rowScore b q K') := by
  funext k
  unfold rowScore chained
  split <;> rfl

theorem pairOut_eq (b : Bool) (q : Fin 128 → EReal) (K V : Fin 2048 → Fin 128 → EReal) (K' V' : Fin 256 → Fin 128 → EReal) (e : Fin 128) :
    pairOut (rowScore b q K) (rowScore b q K') V V' e = rowOut (rowScore b q (chained K K')) (chained V V') e := by
  rw [rowScore_chained]
  unfold pairOut rowOut rowExp
  rw [rowMax_chained, sum_keys, sum_keys]
  simp only [chained_left, chained_right]

section
variable {F : FTy → Type} [FloatOps F]

/-- What the body stores for 256 query rows, in the terms of the second of its two stores. -/
def rowBlock (lanes : IVec S1x128 32) (lam : FVec F S1x1 .f32) (sg : FVec F S1x128 .f32) (K V : FVec F S2048x128 .bf16)
    (K' V' : FVec F S256x128 .bf16) (q : Vec F S256x128 .bf16) : FVec F S256x128 .bf16 :=
  k0_pay1 lam sg V V' (k0_pay19 K V K' V' (k0_pay18 lanes q)) (k0_pay24 lanes K K' (k0_pay16 q) k0_pay17)
    (k0_pay25 lanes K K' (k0_pay16 q) k0_pay17)
end

theorem lanes_lt : ∀ x : Fin 128, IntOp.cmpi .slt (BitVec.ofNat 32 x.val) 64#32 = if (decide (x.val < 64)) = true then 1#1 else 0#1 := by
  decide +kernel

theorem lanes_ge : ∀ x : Fin 128, IntOp.cmpi .sge (BitVec.ofNat 32 x.val) 64#32 = if (decide (x.val < 64)) = false then 1#1 else 0#1 := by
  decide +kernel

/-- A choice by a bit that is set exactly where `p` holds. -/
theorem select_if {α : Type} (p : Prop) [Decidable p] (a b : α) :
    Scalar.select (if p then 1#1 else 0#1) a b = if p then a else b := by
  split <;> rfl

theorem bot_word : Ideal.ofBits .f32 0xFF800000#32 = (⊥ : EReal) := by
  simp [Ideal.ofBits, Ideal.ieee]

/-- The first component's output. -/
theorem pay19_apply (K V : FVec Ideal S2048x128 .bf16) (K' V' : FVec Ideal S256x128 .bf16) (q : Vec Ideal S256x128 .bf16) (r : Fin 256) (e : Fin 128) :
    k0_pay19 (F := Ideal) K V K' V' (k0_pay18 (iota .tc S1x128 32 [1] iota_S1x128_d1_w32) q) (ix2 r e)
      = pairOut (rowScore true (fun d => q (ix2 r d)) fun k d => K (ix2 k d)) (rowScore true (fun d => q (ix2 r d)) fun k d => K' (ix2 k d))
          (fun k e => V (ix2 k e)) (fun k e => V' (ix2 k e)) e := by
  pointwise [k0_pay19, k0_pay18, k0_pay16, k0_pay17]
  simp only [lanes_lt, select_if, bot_word]
  rfl

/-- The second component's weights of the tokens' keys. -/
theorem pay24_apply (K : FVec Ideal S2048x128 .bf16) (K' : FVec Ideal S256x128 .bf16) (q : Vec Ideal S256x128 .bf16) (r : Fin 256) (k : Fin 2048) :
    k0_pay24 (F := Ideal) (iota .tc S1x128 32 [1] iota_S1x128_d1_w32) K K' (k0_pay16 q) k0_pay17 (ix2 r k)
      = Ideal.exp2 (rowScore false (fun d => q (ix2 r d)) (fun k d => K (ix2 k d)) k
          - pairMax (rowScore false (fun d => q (ix2 r d)) fun k d => K (ix2 k d)) (rowScore false (fun d => q (ix2 r d)) fun k d => K' (ix2 k d))) := by
  pointwise [k0_pay24, k0_pay23, k0_pay22, k0_pay21, k0_pay20, k0_pay16, k0_pay17]
  simp only [lanes_ge, select_if, bot_word]
  rfl

/-- The second component's weights of the cached keys. -/
theorem pay25_apply (K : FVec Ideal S2048x128 .bf16) (K' : FVec Ideal S256x128 .bf16) (q : Vec Ideal S256x128 .bf16) (r : Fin 256) (k : Fin 256) :
    k0_pay25 (F := Ideal) (iota .tc S1x128 32 [1] iota_S1x128_d1_w32) K K' (k0_pay16 q) k0_pay17 (ix2 r k)
      = Ideal.exp2 (rowScore false (fun d => q (ix2 r d)) (fun k d => K' (ix2 k d)) k
          - pairMax (rowScore false (fun d => q (ix2 r d)) fun k d => K (ix2 k d)) (rowScore false (fun d => q (ix2 r d)) fun k d => K' (ix2 k d))) := by
  pointwise [k0_pay25, k0_pay23, k0_pay22, k0_pay21, k0_pay20, k0_pay16, k0_pay17]
  simp only [lanes_ge, select_if, bot_word]
  rfl

/-- The difference of a first component and the second one of the kept weights, before the normalisation. -/
def diffBlock (lam : FVec Ideal S1x1 .f32) (V : FVec Ideal S2048x128 .bf16) (V' : FVec Ideal S256x128 .bf16) (o : FVec Ideal S256x128 .f32)
    (p : FVec Ideal S256x2048 .f32) (p' : FVec Ideal S256x256 .f32) (r : Fin 256) (e : Fin 128) : EReal :=
  o (ix2 r e) - lam (ix2 0 0) * ((∑ k : Fin 2048, p (ix2 r k) * V (ix2 k e) + ∑ k : Fin 256, p' (ix2 r k) * V' (ix2 k e))
    * Ideal.div 1 (∑ k : Fin 2048, p (ix2 r k) + ∑ k : Fin 256, p' (ix2 r k)))

/-- The stored block at an index, over the first component and the second one's weights. -/
theorem pay1_apply (lam : FVec Ideal S1x1 .f32) (sg : FVec Ideal S1x128 .f32) (V : FVec Ideal S2048x128 .bf16) (V' : FVec Ideal S256x128 .bf16)
    (o : FVec Ideal S256x128 .f32) (p : FVec Ideal S256x2048 .f32) (p' : FVec Ideal S256x256 .f32) (r : Fin 256) (e : Fin 128) :
    k0_pay1 (F := Ideal) lam sg V V' o p p' (ix2 r e) = rowNorm (diffBlock lam V V' o p p' r) (fun e => sg (ix2 0 e)) e := by
  pointwise [k0_pay1]
  rfl

/-- The stored block at an index, as a row. -/
theorem rowBlock_apply (lam : FVec Ideal S1x1 .f32) (sg : FVec Ideal S1x128 .f32) (K V : FVec Ideal S2048x128 .bf16)
    (K' V' : FVec Ideal S256x128 .bf16) (q : Vec Ideal S256x128 .bf16) (r : Fin 256) (e : Fin 128) :
    rowBlock (F := Ideal) (iota .tc S1x128 32 [1] iota_S1x128_d1_w32) lam sg K V K' V' q (ix2 r e)
      = rowNorm (rowDiff (lam (ix2 0 0)) (fun d => q (ix2 r d)) (chained (fun k d => K (ix2 k d)) fun k d => K' (ix2 k d))
          (chained (fun k d => V (ix2 k d)) fun k d => V' (ix2 k d))) (fun e => sg (ix2 0 e)) e := by
  unfold rowBlock
  refine (pay1_apply _ _ _ _ _ _ _ r e).trans (congrArg (fun o => rowNorm o _ e) (funext fun x => ?_))
  unfold rowDiff diffBlock
  rw [← pairOut_eq, ← pairOut_eq]
  refine congrArg₂ (fun a b : EReal => a - lam (ix2 0 0) * b) (pay19_apply K V K' V' q r x) ?_
  exact congrArg₂ (fun (f : Fin 2048 → EReal) (g : Fin 256 → EReal) => (∑ k, f k * V (ix2 k x) + ∑ k, g k * V' (ix2 k x)) * Ideal.div 1 (∑ k, f k + ∑ k, g k))
    (funext (pay24_apply K K' q r)) (funext (pay25_apply K K' q r))

end Cert.Attn

end
-- ==== Proof.Blocks.lean ====
/- The block that the body leaves in the result's buffer: two stores, each of the same function of 256 query rows. -/
module

public import proofs.«01_k».proof.Proof.Gen.KernelIdeal.Frame
public import proofs.«01_k».proof.Proof.Row

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

/-- The block of 256 query rows, from the input windows' blocks. -/
abbrev blockOf (x0 : Vec F S4x64 .f32) (x1 : Vec F S1x128 .f32) (x3 x4 : Vec F S1x2048x128 .bf16) (x5 x6 : Vec F S1x256x128 .f32)
    (q : Vec F S256x128 .bf16) : FVec F S256x128 .bf16 :=
  rowBlock (iota .tc S1x128 32 [1] iota_S1x128_d1_w32) (k0_pay2 (View.ld x0 r0_0)) (k0_pay3 (View.ld x1 r0_1))
    (k0_pay4 (View.ld x3 r0_2)) (k0_pay5 (View.ld x4 r0_2)) (k0_pay6 (View.ld x5 r0_3)) (k0_pay7 (View.ld x6 r0_3)) q

/-- The two stores are one function of the two groups of query rows. -/
theorem out_eq (x0 : Vec F S4x64 .f32) (x1 : Vec F S1x128 .f32) (x2 : Vec F S512x128 .bf16) (x3 x4 : Vec F S1x2048x128 .bf16)
    (x5 x6 : Vec F S1x256x128 .f32) :
    out0_7 x0 x1 x2 x3 x4 x5 x6 = View.canon [
      ⟨r0_5, blockOf x0 x1 x3 x4 x5 x6 (View.ld x2 r0_5)⟩,
      ⟨r0_4, blockOf x0 x1 x3 x4 x5 x6 (View.ld x2 r0_4)⟩] := by
  rfl

end Cert.Attn

end
-- ==== Proof.Softmax.lean ====
/- The two spellings of one attention row agree at real entries. -/
module

public import proofs.«01_k».proof.Proof.Row

@[expose] public section

noncomputable section

namespace Cert.Attn

open Idealize.ShloMosaic

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of real entries is one of them. -/
theorem fold_max_real {n : ℕ} (hn : 0 < n) (f : Fin n → ℝ) :
    ∃ M : ℝ, (Finset.univ : Finset (Fin n)).fold max (⊥ : EReal) (fun i => (f i : EReal)) = (M : EReal) := by
  haveI : Nonempty (Fin n) := ⟨⟨0, hn⟩⟩
  obtain ⟨i, _, h⟩ := Finset.exists_mem_eq_sup Finset.univ Finset.univ_nonempty fun i => (f i : EReal)
  exact ⟨f i, h⟩

/-- The normalised weights of real entries. -/
def weight {n : ℕ} (a : Fin n → ℝ) (k : Fin n) : ℝ := Real.exp (a k) / ∑ j, Real.exp (a j)

theorem weight_shift {n : ℕ} (a : Fin n → ℝ) (M : ℝ) (k : Fin n) :
    weight (fun j => a j - M) k = weight a k := by
  unfold weight
  have h : ∀ j, Real.exp (a j - M) = Real.exp (a j) * Real.exp (-M) := fun j => by rw [← Real.exp_add, sub_eq_add_neg]
  simp only [h, ← Finset.sum_mul]
  rw [mul_div_mul_right _ _ (Real.exp_pos _).ne']

theorem sum_exp_pos {n : ℕ} (hn : 0 < n) (a : Fin n → ℝ) : 0 < ∑ j, Real.exp (a j) := by
  haveI : Nonempty (Fin n) := ⟨⟨0, hn⟩⟩
  exact Finset.sum_pos (fun j _ => Real.exp_pos _) Finset.univ_nonempty

theorem two_rpow (x : ℝ) : Real.rpow 2 x = Real.exp (Real.log 2 * x) := by
  show (2 : ℝ) ^ x = _
  rw [Real.rpow_def_of_pos (by norm_num)]

/-- A row's output at real scores `s`: the values weighted by the normalised weights of `s · log 2`. -/
theorem rowOut_real (s : Fin 2304 → ℝ) (V : Fin 2304 → Fin 128 → ℝ) (e : Fin 128) :
    rowOut (fun k => (s k : EReal)) (fun k e => (V k e : EReal)) e
      = ((∑ k, weight (fun k => Real.log 2 * s k) k * V k e : ℝ) : EReal) := by
  obtain ⟨M, hM⟩ := fold_max_real (by norm_num) s
  have he : ∀ k, rowExp (fun k => (s k : EReal)) k = ((Real.exp (Real.log 2 * s k - Real.log 2 * M) : ℝ) : EReal) := fun k => by
    unfold rowExp rowMax
    rw [hM, ← EReal.coe_sub, Ideal.exp2_coe, two_rpow, mul_sub]
  unfold rowOut
  simp only [he, ← EReal.coe_mul, sum_real]
  have hp := sum_exp_pos (by norm_num) (fun k => Real.log 2 * s k - Real.log 2 * M)
  rw [Ideal.div_coe hp.ne', one_mul, ← EReal.coe_mul, EReal.coe_eq_coe_iff, Finset.sum_mul]
  refine Finset.sum_congr rfl fun k _ => ?_
  rw [← weight_shift (fun k => Real.log 2 * s k) (Real.log 2 * M)]
  unfold weight
  ring

/-- The reference's weight of a key at real scores: the exponential less the greatest, over the sum of all. -/
def refWeight (s : Fin 2304 → EReal) (k : Fin 2304) : EReal :=
  Ideal.div (Ideal.exp (s k - max ⊥ (Finset.univ.fold max ⊥ s))) (0 + ∑ j, Ideal.exp (s j - max ⊥ (Finset.univ.fold max ⊥ s)))

theorem refWeight_real (s : Fin 2304 → ℝ) (k : Fin 2304) :
    refWeight (fun k => (s k : EReal)) k = ((weight s k : ℝ) : EReal) := by
  obtain ⟨M, hM⟩ := fold_max_real (by norm_num) s
  unfold refWeight
  rw [hM, bot_sup_eq, zero_add]
  simp only [← EReal.coe_sub, Ideal.exp_coe, sum_real]
  have hp := sum_exp_pos (by norm_num) (fun k => s k - M)
  rw [Ideal.div_coe hp.ne', ← EReal.coe_mul, EReal.coe_eq_coe_iff, ← weight_shift s M]
  unfold weight
  ring

/-- The reference's difference of weighted values. -/
def refDiff (lam : EReal) (s0 s1 : Fin 2304 → EReal) (V : Fin 2304 → Fin 128 → EReal) (e : Fin 128) : EReal :=
  ∑ k, V k e * (refWeight s0 k - lam * refWeight s1 k)

/-- The reference's scores of one component: the product of 64 lanes, scaled. -/
def refScore (q K : Fin 64 → EReal) : EReal := (∑ d, q d * K d) * Ideal.ofBits .f32 0x3E000000#32

theorem eighth_word : Ideal.ofBits .f32 0x3E000000#32 = (((1 : ℝ) / 8 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

/-- The scale that the kernel's host code multiplies the queries by. -/
def scale : EReal := Ideal.div (Ideal.ofBits .f32 0x3E000000#32) (Ideal.log (Ideal.ofBits .f32 0x40000000#32))

theorem log_two_pos : 0 < Real.log 2 := Real.log_pos (by norm_num)

theorem scale_real : scale = ((1 / 8 * (1 / Real.log 2) : ℝ) : EReal) := by
  unfold scale
  rw [eighth_word, two_word, Ideal.log_coe, if_neg (by norm_num), Ideal.div_coe log_two_pos.ne', ← EReal.coe_mul]

/-- A component's lane of the 128: component `b` starts at lane `64 b`. -/
def laneOf (b : Fin 2) (d : Fin 64) : Fin 128 := ⟨64 * b.val + d.val, by omega⟩

/-- A sum over the lanes of one component is the sum over its 64 lanes. -/
theorem sum_lanes (b : Fin 2) (f : Fin 128 → ℝ) :
    (∑ d : Fin 128, if decide (d.val < 64) = decide (b.val = 0) then f d else 0) = ∑ d : Fin 64, f (laneOf b d) := by
  rw [← Finset.sum_filter]
  symm
  refine Finset.sum_bij (fun d _ => laneOf b d) ?_ ?_ ?_ ?_
  · intro d _
    simp only [Finset.mem_filter, Finset.mem_univ, true_and, decide_eq_decide, laneOf]
    omega
  · intro a _ c _ h
    simp only [laneOf, Fin.mk.injEq] at h
    exact Fin.ext (by omega)
  · intro d hd
    simp only [Finset.mem_filter, Finset.mem_univ, true_and, decide_eq_decide] at hd
    exact ⟨⟨d.val - 64 * b.val, by omega⟩, Finset.mem_univ _, Fin.ext (by simp only [laneOf]; omega)⟩
  · intro _ _; rfl

theorem rowScore_real (b : Fin 2) (q : Fin 128 → ℝ) (K : Fin 2304 → Fin 128 → ℝ) (k : Fin 2304) :
    rowScore (decide (b.val = 0)) (fun d => (q d : EReal) * scale) (fun k d => (K k d : EReal)) k
      = (((∑ d : Fin 64, q (laneOf b d) * K k (laneOf b d)) * (1 / 8) * (1 / Real.log 2) : ℝ) : EReal) := by
  unfold rowScore
  rw [scale_real]
  have h : ∀ d : Fin 128, (if decide (d.val < 64) = decide (b.val = 0) then (q d : EReal) * ((1 / 8 * (1 / Real.log 2) : ℝ) : EReal) * (K k d : EReal) else 0)
      = (((if decide (d.val < 64) = decide (b.val = 0) then q d * K k d * (1 / 8 * (1 / Real.log 2)) else 0 : ℝ)) : EReal) := fun d => by
    split
    · rw [← EReal.coe_mul, ← EReal.coe_mul, EReal.coe_eq_coe_iff]; ring
    · rfl
  rw [Finset.sum_congr rfl fun d _ => h d, sum_real, sum_lanes b fun d => q d * K k d * (1 / 8 * (1 / Real.log 2)), ← Finset.sum_mul]
  rw [EReal.coe_eq_coe_iff]; ring

theorem refScore_real (q K : Fin 64 → ℝ) :
    refScore (fun d => (q d : EReal)) (fun d => (K d : EReal)) = (((∑ d, q d * K d) * (1 / 8) : ℝ) : EReal) := by
  unfold refScore
  rw [eighth_word]
  simp only [← EReal.coe_mul, sum_real]

theorem rowOut_eq (b : Fin 2) (q : Fin 128 → ℝ) (K V : Fin 2304 → Fin 128 → ℝ) (e : Fin 128) :
    rowOut (rowScore (decide (b.val = 0)) (fun d => (q d : EReal) * scale) (fun k d => (K k d : EReal))) (fun k e => (V k e : EReal)) e
      = ((∑ k, weight (fun k => (∑ d : Fin 64, q (laneOf b d) * K k (laneOf b d)) * (1 / 8)) k * V k e : ℝ) : EReal) := by
  rw [funext (rowScore_real b q K), rowOut_real]
  refine congrArg _ (Finset.sum_congr rfl fun k _ => ?_)
  refine congrArg (fun w => weight w k * V k e) (funext fun j => ?_)
  have := log_two_pos.ne'
  field_simp

/-- THE ROW: at real queries, keys, values and a real difference weight, the kernel's row of differences is the reference's. -/
theorem rowDiff_eq (lam : ℝ) (q : Fin 128 → ℝ) (K V : Fin 2304 → Fin 128 → ℝ) (e : Fin 128) :
    rowDiff (lam : EReal) (fun d => (q d : EReal) * scale) (fun k d => (K k d : EReal)) (fun k e => (V k e : EReal)) e
      = refDiff (lam : EReal) (fun k => refScore (fun d => (q (laneOf 0 d) : EReal)) fun d => (K k (laneOf 0 d) : EReal))
          (fun k => refScore (fun d => (q (laneOf 1 d) : EReal)) fun d => (K k (laneOf 1 d) : EReal)) (fun k e => (V k e : EReal)) e := by
  unfold rowDiff refDiff
  have h0 := rowOut_eq 0 q K V e
  have h1 := rowOut_eq 1 q K V e
  simp only [Fin.val_zero, decide_true, Fin.val_one, one_ne_zero, decide_false] at h0 h1
  rw [h0, h1]
  simp only [refScore_real, refWeight_real, ← EReal.coe_mul, ← EReal.coe_sub, sum_real]
  rw [EReal.coe_eq_coe_iff, Finset.mul_sum, ← Finset.sum_sub_distrib]
  exact Finset.sum_congr rfl fun k _ => by ring

/-- The weight of the second component, from the four vectors. -/
def lamOf (a b c d : Fin 64 → EReal) : EReal :=
  Ideal.exp (∑ x, a x * b x) - Ideal.exp (∑ x, c x * d x) + Ideal.ofBits .f32 0x3E4CCCCD#32

end Cert.Attn

end
-- ==== Proof.OutBlock.lean ====
/- What the body stores at an index of its output block. -/
module

public import proofs.«01_k».proof.Proof.Blocks
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem

theorem lam_read (x0 : Vec Ideal S4x64 .f32) :
    k0_pay2 (View.ld x0 r0_0) (ix2 0 0)
      = lamOf (fun d => x0 (ix2 0 d)) (fun d => x0 (ix2 1 d)) (fun d => x0 (ix2 2 d)) (fun d => x0 (ix2 3 d)) := by
  pointwise [k0_pay2]
  rfl

theorem gain_read (x1 : Vec Ideal S1x128 .f32) (e : Fin 128) :
    k0_pay3 (View.ld x1 r0_1) (ix2 0 e) = (show EReal from x1 (ix2 0 e)) * Ideal.ofBits .f32 0x3F4CCCCD#32 := by
  pointwise [k0_pay3]

theorem keys_read (x : Vec Ideal S1x2048x128 .bf16) (k : Fin 2048) (d : Fin 128) : k0_pay4 (View.ld x r0_2) (ix2 k d) = x (ix3 0 k d) := by
  pointwise [k0_pay4]

theorem vals_read (x : Vec Ideal S1x2048x128 .bf16) (k : Fin 2048) (d : Fin 128) : k0_pay5 (View.ld x r0_2) (ix2 k d) = x (ix3 0 k d) := by
  pointwise [k0_pay5]

theorem pastKeys_read (x : Vec Ideal S1x256x128 .f32) (k : Fin 256) (d : Fin 128) :
    k0_pay6 (View.ld x r0_3) (ix2 k d) = (show EReal from x (ix3 0 k d)) := by
  pointwise [k0_pay6]

theorem pastVals_read (x : Vec Ideal S1x256x128 .f32) (k : Fin 256) (d : Fin 128) :
    k0_pay7 (View.ld x r0_3) (ix2 k d) = (show EReal from x (ix3 0 k d)) := by
  pointwise [k0_pay7]

/-- One row of the output block, from its query row. -/
def rowFrom (x0 : Vec Ideal S4x64 .f32) (x1 : Vec Ideal S1x128 .f32) (x3 x4 : Vec Ideal S1x2048x128 .bf16) (x5 x6 : Vec Ideal S1x256x128 .f32)
    (q : Fin 128 → EReal) (e : Fin 128) : EReal :=
  rowNorm (rowDiff (lamOf (fun d => x0 (ix2 0 d)) (fun d => x0 (ix2 1 d)) (fun d => x0 (ix2 2 d)) (fun d => x0 (ix2 3 d))) q
    (chained (fun k d => x3 (ix3 0 k d)) (fun k d => x5 (ix3 0 k d))) (chained (fun k d => x4 (ix3 0 k d)) (fun k d => x6 (ix3 0 k d))))
    (fun e => (show EReal from x1 (ix2 0 e)) * Ideal.ofBits .f32 0x3F4CCCCD#32) e

theorem blockOf_apply (x0 : Vec Ideal S4x64 .f32) (x1 : Vec Ideal S1x128 .f32) (x3 x4 : Vec Ideal S1x2048x128 .bf16)
    (x5 x6 : Vec Ideal S1x256x128 .f32) (q : Vec Ideal S256x128 .bf16) (r : Fin 256) (e : Fin 128) :
    blockOf x0 x1 x3 x4 x5 x6 q (ix2 r e) = rowFrom x0 x1 x3 x4 x5 x6 (fun d => q (ix2 r d)) e := by
  refine (rowBlock_apply _ _ _ _ _ _ _ r e).trans ?_
  rw [lam_read, funext (gain_read x1), funext fun k => funext (keys_read x3 k), funext fun k => funext (vals_read x4 k),
    funext fun k => funext (pastKeys_read x5 k), funext fun k => funext (pastVals_read x6 k)]
  rfl

/-- The block's stores at an index: the row of the query row at that index. -/
theorem out_apply (x0 : Vec Ideal S4x64 .f32) (x1 : Vec Ideal S1x128 .f32) (x2 : Vec Ideal S512x128 .bf16) (x3 x4 : Vec Ideal S1x2048x128 .bf16)
    (x5 x6 : Vec Ideal S1x256x128 .f32) (y : S512x128.Idx) :
    out0_7 x0 x1 x2 x3 x4 x5 x6 y = rowFrom x0 x1 x3 x4 x5 x6 (fun d => x2 (ix2 (y 0) d)) (y 1) := by
  rw [out_eq]
  refine View.canon_apply_of_pieces (Val := Elt Ideal) (e := .bf16) (fun y : S512x128.Idx => rowFrom x0 x1 x3 x4 x5 x6 (fun d => x2 (ix2 (y 0) d)) (y 1)) _ ?_ y
    (cover0_7 _ _ y)
  intro p hp x
  simp only [List.mem_cons, List.not_mem_nil, or_false] at hp
  rcases hp with rfl | rfl <;>
    (refine (congrArg _ (eq_ix2 x)).trans ((blockOf_apply x0 x1 x3 x4 x5 x6 _ (x 0) (x 1)).trans ?_)
     refine congrArg₂ (rowFrom x0 x1 x3 x4 x5 x6) (funext fun d => congrArg x2 (funext fun a => Fin.ext ?_)) (Fin.ext ?_)
     · match a with
       | ⟨0, _⟩ => rfl
       | ⟨1, _⟩ => exact (Nat.zero_add _).trans (Nat.one_mul _)
     · exact ((Nat.zero_add _).trans (Nat.one_mul _)).symm)

end Cert.Attn

end
-- ==== Proof.Entry.lean ====
/- The call's operands when the grid starts, at an index, from the arguments. -/
module

public import proofs.«01_k».proof.Proof.Gen.KernelIdeal.Frame
public import proofs.«01_k».proof.Proof.Softmax
public import Idealize.ShloMosaic.Lib.Pipeline.ValueKit
public import Idealize.ShloMosaic.Lib.Claim
public import Idealize.ShloMosaic.Lib.StableHlo.RunRead

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

theorem vector_entry (y : (⟨S64, .f32⟩ : BufTy).Contents (Elt Ideal)) (d : Fin 64) :
    (broadcastInDim S1x64 ![1] bcast_S64_S1x64_1 y : (⟨S1x64, .f32⟩ : BufTy).Contents (Elt Ideal)) (ix2 0 d) = y (ix1 d) := by
  pointwise []

/-- The four vectors stacked, row by row. -/
theorem stack_apply (y0 y1 y2 y3 : FVec Ideal S1x64 .f32) (d : Fin 64) :
    let y := concatenate S4x64 0 [⟨S1x64, y0⟩, ⟨S1x64, y1⟩, ⟨S1x64, y2⟩, ⟨S1x64, y3⟩] concatenates_S1x64_S1x64_S1x64_S1x64_S4x64_d0
    y (ix2 0 d) = y0 (ix2 0 d) ∧ y (ix2 1 d) = y1 (ix2 0 d) ∧ y (ix2 2 d) = y2 (ix2 0 d) ∧ y (ix2 3 d) = y3 (ix2 0 d) := by
  dsimp only
  refine ⟨?_, ?_, ?_, ?_⟩
  all_goals pointwise []

theorem lam_entry (d : Fin 64) : V m c main_v4 (ix2 0 d) = m ((c : Thread nD τ).loc main_arg5) (ix1 d)
    ∧ V m c main_v4 (ix2 1 d) = m ((c : Thread nD τ).loc main_arg6) (ix1 d)
    ∧ V m c main_v4 (ix2 2 d) = m ((c : Thread nD τ).loc main_arg7) (ix1 d)
    ∧ V m c main_v4 (ix2 3 d) = m ((c : Thread nD τ).loc main_arg8) (ix1 d) := by
  have e0 : StableHlo.upto (hostOps0 (F := Ideal)) (fun b => m (c, b)) 4 (Proc.devRef .tc main_v0) = _ :=
    (StableHlo.upto_last_write (i := 0) [main_v1, main_v2, main_v3] rfl rfl (by decide) _).trans (StableHlo.unary_result' _ _ _ _)
  have e1 : StableHlo.upto (hostOps0 (F := Ideal)) (fun b => m (c, b)) 4 (Proc.devRef .tc main_v1) = _ :=
    (StableHlo.upto_last_write (i := 1) [main_v2, main_v3] rfl rfl (by decide) _).trans (StableHlo.unary_result' _ _ _ _)
  have e2 : StableHlo.upto (hostOps0 (F := Ideal)) (fun b => m (c, b)) 4 (Proc.devRef .tc main_v2) = _ :=
    (StableHlo.upto_last_write (i := 2) [main_v3] rfl rfl (by decide) _).trans (StableHlo.unary_result' _ _ _ _)
  have e3 : StableHlo.upto (hostOps0 (F := Ideal)) (fun b => m (c, b)) 4 (Proc.devRef .tc main_v3) = _ :=
    (StableHlo.upto_last_write (i := 3) [] rfl rfl (by decide) _).trans (StableHlo.unary_result' _ _ _ _)
  rw [StableHlo.upto_unwritten (n := 0) [] rfl (by decide)] at e0
  rw [StableHlo.upto_unwritten (n := 1) [main_v0] rfl (by decide)] at e1
  rw [StableHlo.upto_unwritten (n := 2) [main_v0, main_v1] rfl (by decide)] at e2
  rw [StableHlo.upto_unwritten (n := 3) [main_v0, main_v1, main_v2] rfl (by decide)] at e3
  have e : V m c main_v4 = _ := (StableHlo.after_last_write (i := 4) [main_v5, main_cst, main_v6, main_cst_0, main_v7, main_v8, main_v9, main_v10,
    main_v11, main_v12, main_v13, main_v14, main_v15, main_v16, main_v17, main_v18, main_v19] rfl rfl (by decide) _).trans
    (StableHlo.nary_result' _ _ _ _ _)
  obtain ⟨a0, a1, a2, a3⟩ := stack_apply (broadcastInDim S1x64 ![1] bcast_S64_S1x64_1 (m ((c : Thread nD τ).loc main_arg5) : (⟨S64, .f32⟩ : BufTy).Contents (Elt Ideal)))
    (broadcastInDim S1x64 ![1] bcast_S64_S1x64_1 (m ((c : Thread nD τ).loc main_arg6) : (⟨S64, .f32⟩ : BufTy).Contents (Elt Ideal)))
    (broadcastInDim S1x64 ![1] bcast_S64_S1x64_1 (m ((c : Thread nD τ).loc main_arg7) : (⟨S64, .f32⟩ : BufTy).Contents (Elt Ideal)))
    (broadcastInDim S1x64 ![1] bcast_S64_S1x64_1 (m ((c : Thread nD τ).loc main_arg8) : (⟨S64, .f32⟩ : BufTy).Contents (Elt Ideal))) d
  have e' : V m c main_v4 = concatenate S4x64 0 [⟨S1x64, broadcastInDim S1x64 ![1] bcast_S64_S1x64_1 (m ((c : Thread nD τ).loc main_arg5) : (⟨S64, .f32⟩ : BufTy).Contents (Elt Ideal))⟩,
      ⟨S1x64, broadcastInDim S1x64 ![1] bcast_S64_S1x64_1 (m ((c : Thread nD τ).loc main_arg6) : (⟨S64, .f32⟩ : BufTy).Contents (Elt Ideal))⟩,
      ⟨S1x64, broadcastInDim S1x64 ![1] bcast_S64_S1x64_1 (m ((c : Thread nD τ).loc main_arg7) : (⟨S64, .f32⟩ : BufTy).Contents (Elt Ideal))⟩,
      ⟨S1x64, broadcastInDim S1x64 ![1] bcast_S64_S1x64_1 (m ((c : Thread nD τ).loc main_arg8) : (⟨S64, .f32⟩ : BufTy).Contents (Elt Ideal))⟩] concatenates_S1x64_S1x64_S1x64_S1x64_S4x64_d0 := by
    refine e.trans ?_
    simp only [Matrix.cons_val_zero, Matrix.cons_val_one, Matrix.cons_val]
    rw [e0, e1, e2, e3]
  rw [e']
  exact ⟨a0.trans (vector_entry _ d), a1.trans (vector_entry _ d), a2.trans (vector_entry _ d), a3.trans (vector_entry _ d)⟩

theorem gain_entry (e : Fin 128) : V m c main_v17 (ix2 0 e) = m ((c : Thread nD τ).loc main_arg9) (ix1 e) := by
  entry_read
  pointwise []

theorem query_entry (b : Fin 8) (i : Fin 2048) (h : Fin 8) (d : Fin 128) :
    V m c main_v10 (ix2 ⟨b.val * 2048 + i.val, by omega⟩ ⟨h.val * 128 + d.val, by omega⟩)
      = (show EReal from m ((c : Thread nD τ).loc main_arg0) (ix5 b i h ⟨d.val / 64, by omega⟩ ⟨d.val % 64, by omega⟩)) * scale := by
  entry_read
  unfold scale
  pointwise []
  refine Ideal.mul_congr ?_ rfl
  blk_ext []

theorem key_entry (b : Fin 8) (i : Fin 2048) (h : Fin 8) (d : Fin 128) : V m c main_v15 (ix3 b i ⟨h.val * 128 + d.val, by omega⟩)
    = m ((c : Thread nD τ).loc main_arg1) (ix5 b i h ⟨d.val / 64, by omega⟩ ⟨d.val % 64, by omega⟩) := by
  entry_read
  pointwise []
  blk_ext []

theorem value_entry (b : Fin 8) (i : Fin 2048) (h : Fin 8) (d : Fin 128) : V m c main_v16 (ix3 b i ⟨h.val * 128 + d.val, by omega⟩)
    = m ((c : Thread nD τ).loc main_arg2) (ix4 b i h d) := by
  entry_read
  pointwise []
  blk_ext []

theorem pastKey_entry (b : Fin 8) (i : Fin 256) (h : Fin 8) (d : Fin 128) : V m c main_v18 (ix3 b i ⟨h.val * 128 + d.val, by omega⟩)
    = m ((c : Thread nD τ).loc main_arg3) (ix4 b i h d) := by
  entry_read
  pointwise []
  blk_ext []

theorem pastValue_entry (b : Fin 8) (i : Fin 256) (h : Fin 8) (d : Fin 128) : V m c main_v19 (ix3 b i ⟨h.val * 128 + d.val, by omega⟩)
    = m ((c : Thread nD τ).loc main_arg4) (ix4 b i h d) := by
  entry_read
  pointwise []
  blk_ext []

end Cert.Attn

end
-- ==== Proof.Array.lean ====
/- The result array after the run, as rows of the arguments. -/
module

public import proofs.«01_k».proof.Proof.OutBlock
public import proofs.«01_k».proof.Proof.Entry

@[expose] public section

set_option maxRecDepth 16384

noncomputable section

namespace Cert.Attn

open Cert.KernelIdeal Cert.KernelIdeal.Gen Idealize.ShloMosaic Idealize.ShloMosaic.TcCoe Idealize.SL.Sem

/-- One row of the kernel's attention, from the arguments. -/
def kerRow (x0 x1 : FVec Ideal S8x2048x8x2x64 .f32) (x2 : FVec Ideal S8x2048x8x128 .f32) (x3 x4 : FVec Ideal S8x256x8x128 .f32)
    (x5 x6 x7 x8 : FVec Ideal S64 .f32) (x9 : FVec Ideal S128 .f32) (b h : Fin 8) (i : Fin 2048) (e : Fin 128) : EReal :=
  rowNorm (rowDiff (lamOf (fun d => x5 (ix1 d)) (fun d => x6 (ix1 d)) (fun d => x7 (ix1 d)) (fun d => x8 (ix1 d)))
    (fun d => x0 (ix5 b i h ⟨d.val / 64, by omega⟩ ⟨d.val % 64, by omega⟩) * scale)
    (chained (fun k d => x1 (ix5 b k h ⟨d.val / 64, by omega⟩ ⟨d.val % 64, by omega⟩)) (fun k d => x3 (ix4 b k h d)))
    (chained (fun k d => x2 (ix4 b k h d)) (fun k d => x4 (ix4 b k h d))))
    (fun e => x9 (ix1 e) * Ideal.ofBits .f32 0x3F4CCCCD#32) e

variable (m : (ℓ : Loc nD τ sig) → Buf (Elt Ideal) ℓ) (c : Dev nD)

/-- A row of the block whose reads are known. -/
theorem rowFrom_eq (x0 : Vec Ideal S4x64 .f32) (x1 : Vec Ideal S1x128 .f32) (x3 x4 : Vec Ideal S1x2048x128 .bf16) (x5 x6 : Vec Ideal S1x256x128 .f32)
    (q : Fin 128 → EReal) (e : Fin 128) {l0 l1 l2 l3 : Fin 64 → EReal} {g q' : Fin 128 → EReal} {K W : Fin 2048 → Fin 128 → EReal}
    {K' W' : Fin 256 → Fin 128 → EReal} (h0 : ∀ d, x0 (ix2 0 d) = l0 d) (h1 : ∀ d, x0 (ix2 1 d) = l1 d) (h2 : ∀ d, x0 (ix2 2 d) = l2 d)
    (h3 : ∀ d, x0 (ix2 3 d) = l3 d) (hg : ∀ e, x1 (ix2 0 e) = g e) (hq : ∀ d, q d = q' d) (hK : ∀ k d, x3 (ix3 0 k d) = K k d)
    (hW : ∀ k d, x4 (ix3 0 k d) = W k d) (hK' : ∀ k d, x5 (ix3 0 k d) = K' k d) (hW' : ∀ k d, x6 (ix3 0 k d) = W' k d) :
    rowFrom x0 x1 x3 x4 x5 x6 q e
      = rowNorm (rowDiff (lamOf l0 l1 l2 l3) q' (chained K K') (chained W W')) (fun e => g e * Ideal.ofBits .f32 0x3F4CCCCD#32) e := by
  obtain rfl := funext h0
  obtain rfl := funext h1
  obtain rfl := funext h2
  obtain rfl := funext h3
  obtain rfl := funext hg
  obtain rfl := funext hq
  obtain rfl := funext fun k => funext (hK k)
  obtain rfl := funext fun k => funext (hW k)
  obtain rfl := funext fun k => funext (hK' k)
  obtain rfl := funext fun k => funext (hW' k)
  rfl

/-- Every window's block at every point. -/
theorem idx : ∀ t : Fin cfg0.N, win0_0.index t = ![0, 0] ∧ win0_1.index t = ![0, 0] ∧ win0_2.index t = ![t.val / 32 * 4 + t.val % 4, t.val / 4 % 8]
    ∧ win0_3.index t = ![t.val / 32, 0, t.val / 4 % 8] ∧ win0_4.index t = ![t.val / 32, 0, t.val / 4 % 8] ∧ win0_5.index t = ![t.val / 32, 0, t.val / 4 % 8]
    ∧ win0_6.index t = ![t.val / 32, 0, t.val / 4 % 8] ∧ win0_7.index t = ![t.val / 32 * 4 + t.val % 4, t.val / 4 % 8] ∧ t.val / 32 < 8 ∧ t.val < 256 :=
  (by decide +kernel : ∀ t : Fin grid0.N, _)

theorem lam_blk (t : Fin cfg0.N) (r : Fin 4) (d : Fin 64) : iblk m c 0 t (ix2 r d) = V m c main_v4 (ix2 r d) := by
  blk_ext [iblk, idx t]

theorem gain_blk (t : Fin cfg0.N) (e : Fin 128) : iblk m c 1 t (ix2 0 e) = V m c main_v17 (ix2 0 e) := by
  blk_ext [iblk, idx t]

theorem query_blk (t : Fin cfg0.N) (r : Fin 512) (d : Fin 128) : iblk m c 2 t (ix2 r d)
    = V m c main_v10 (ix2 ⟨(⟨t.val / 32, (idx t).2.2.2.2.2.2.2.2.1⟩ : Fin 8).val * 2048 + (⟨t.val % 4 * 512 + r.val, by omega⟩ : Fin 2048).val, by omega⟩
        ⟨(⟨t.val / 4 % 8, by omega⟩ : Fin 8).val * 128 + d.val, by omega⟩) := by
  blk_ext [iblk, idx t]

theorem key_blk (t : Fin cfg0.N) (k : Fin 2048) (d : Fin 128) : iblk m c 3 t (ix3 0 k d)
    = V m c main_v15 (ix3 ⟨t.val / 32, (idx t).2.2.2.2.2.2.2.2.1⟩ k ⟨(⟨t.val / 4 % 8, by omega⟩ : Fin 8).val * 128 + d.val, by omega⟩) := by
  blk_ext [iblk, idx t]

theorem value_blk (t : Fin cfg0.N) (k : Fin 2048) (d : Fin 128) : iblk m c 4 t (ix3 0 k d)
    = V m c main_v16 (ix3 ⟨t.val / 32, (idx t).2.2.2.2.2.2.2.2.1⟩ k ⟨(⟨t.val / 4 % 8, by omega⟩ : Fin 8).val * 128 + d.val, by omega⟩) := by
  blk_ext [iblk, idx t]

theorem pastKey_blk (t : Fin cfg0.N) (k : Fin 256) (d : Fin 128) : iblk m c 5 t (ix3 0 k d)
    = V m c main_v18 (ix3 ⟨t.val / 32, (idx t).2.2.2.2.2.2.2.2.1⟩ k ⟨(⟨t.val / 4 % 8, by omega⟩ : Fin 8).val * 128 + d.val, by omega⟩) := by
  blk_ext [iblk, idx t]

theorem pastValue_blk (t : Fin cfg0.N) (k : Fin 256) (d : Fin 128) : iblk m c 6 t (ix3 0 k d)
    = V m c main_v19 (ix3 ⟨t.val / 32, (idx t).2.2.2.2.2.2.2.2.1⟩ k ⟨(⟨t.val / 4 % 8, by omega⟩ : Fin 8).val * 128 + d.val, by omega⟩) := by
  blk_ext [iblk, idx t]

/-- The rows of the arguments on device `c`. -/
def rowAt (b h : Fin 8) (i : Fin 2048) (e : Fin 128) : EReal :=
  kerRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b h i e

theorem point (t : Fin cfg0.N) (r : Fin 512) (e : Fin 128) :
    rowFrom (iblk m c 0 t) (iblk m c 1 t) (iblk m c 3 t) (iblk m c 4 t) (iblk m c 5 t) (iblk m c 6 t) (fun d => iblk m c 2 t (ix2 r d)) e
      = rowAt m c ⟨t.val / 32, (idx t).2.2.2.2.2.2.2.2.1⟩ ⟨t.val / 4 % 8, by omega⟩ ⟨t.val % 4 * 512 + r.val, by omega⟩ e := by
  unfold rowAt kerRow
  exact rowFrom_eq _ _ _ _ _ _ _ e (fun d => (lam_blk m c t 0 d).trans (lam_entry m c d).1) (fun d => (lam_blk m c t 1 d).trans (lam_entry m c d).2.1)
    (fun d => (lam_blk m c t 2 d).trans (lam_entry m c d).2.2.1) (fun d => (lam_blk m c t 3 d).trans (lam_entry m c d).2.2.2)
    (fun e => (gain_blk m c t e).trans (gain_entry m c e))
    (fun d => (query_blk m c t r d).trans (query_entry m c ⟨t.val / 32, (idx t).2.2.2.2.2.2.2.2.1⟩ ⟨t.val % 4 * 512 + r.val, by omega⟩ ⟨t.val / 4 % 8, by omega⟩ d))
    (fun k d => (key_blk m c t k d).trans (key_entry m c ⟨t.val / 32, (idx t).2.2.2.2.2.2.2.2.1⟩ k ⟨t.val / 4 % 8, by omega⟩ d))
    (fun k d => (value_blk m c t k d).trans (value_entry m c ⟨t.val / 32, (idx t).2.2.2.2.2.2.2.2.1⟩ k ⟨t.val / 4 % 8, by omega⟩ d))
    (fun k d => (pastKey_blk m c t k d).trans (pastKey_entry m c ⟨t.val / 32, (idx t).2.2.2.2.2.2.2.2.1⟩ k ⟨t.val / 4 % 8, by omega⟩ d))
    (fun k d => (pastValue_blk m c t k d).trans (pastValue_entry m c ⟨t.val / 32, (idx t).2.2.2.2.2.2.2.2.1⟩ k ⟨t.val / 4 % 8, by omega⟩ d))

/-- The result array: at row `i` and lane `j`, the row of batch `i / 2048` and head `j / 128`. -/
def result : S16384x1024.Idx → Elt Ideal .bf16 := fun i =>
  rowAt m c ⟨(i 0).val / 2048, Nat.div_lt_of_lt_mul (i 0).isLt⟩ ⟨(i 1).val / 128, Nat.div_lt_of_lt_mul (i 1).isLt⟩
    ⟨(i 0).val % 2048, Nat.mod_lt _ (by decide)⟩ ⟨(i 1).val % 128, Nat.mod_lt _ (by decide)⟩

theorem final : (dats m 0 c).arrAt 7 (cfgs 0).N = result m c := by
  refine (dats m 0 c).arrAt_eq_of_covers 7 _ (by decide +kernel) fun t _ y => ?_
  blk_simp
  rw [after0_7, out_apply]
  refine (point m c t _ _).trans ?_
  have e0 : ((win0_7.blk t).view.emb y 0 : Nat) = (t.val / 32 * 4 + t.val % 4) * 512 + (y 0).val := by
    blk_simp [idx t]
  have e1 : ((win0_7.blk t).view.emb y 1 : Nat) = t.val / 4 % 8 * 128 + (y 1).val := by
    blk_simp [idx t]
  have y0 : (y 0).val < 512 := (y 0).isLt
  have y1 : (y 1).val < 128 := (y 1).isLt
  have same {b b' h h' : Fin 8} {i i' : Fin 2048} {e e' : Fin 128} (hb : b.val = b'.val) (hh : h.val = h'.val) (hi : i.val = i'.val)
      (he : e.val = e'.val) : rowAt m c b h i e = rowAt m c b' h' i' e' := by
    obtain rfl := Fin.ext hb
    obtain rfl := Fin.ext hh
    obtain rfl := Fin.ext hi
    obtain rfl := Fin.ext he
    rfl
  unfold result
  refine same ?_ ?_ ?_ ?_ <;> (dsimp only; (first | rw [e0] | rw [e1]); omega)

end Cert.Attn

end
-- ==== Proof.RefRow.lean ====
/- The reference's result at an index: a row of the attention, from the arguments. -/
module

public import proofs.«01_k».proof.Proof.Gen.ReferenceIdeal.Read
public import proofs.«01_k».proof.Proof.Softmax

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

abbrev HeadsArr := (⟨S8x2048x8x2x64, .f32⟩ : BufTy).Contents (Elt Ideal)
abbrev ValArr := (⟨S8x2048x8x128, .f32⟩ : BufTy).Contents (Elt Ideal)
abbrev PastArr := (⟨S8x256x8x128, .f32⟩ : BufTy).Contents (Elt Ideal)
abbrev LaneArr := (⟨S64, .f32⟩ : BufTy).Contents (Elt Ideal)

/-- A key's lane: of the tokens' keys below 2048, of the cached keys from there on. -/
def keyAt (x1 : HeadsArr) (x3 : PastArr) (b h : Fin 8) (k : Fin 2304) (c : Fin 2) (d : Fin 64) : EReal :=
  if hk : k.val < 2048 then x1 (ix5 b ⟨k.val, hk⟩ h c d)
  else x3 (ix4 b ⟨k.val - 2048, by omega⟩ h ⟨64 * c.val + d.val, by omega⟩)

/-- A value's lane, likewise. -/
def valAt (x2 : ValArr) (x4 : PastArr) (b h : Fin 8) (k : Fin 2304) (e : Fin 128) : EReal :=
  if hk : k.val < 2048 then x2 (ix4 b ⟨k.val, hk⟩ h e) else x4 (ix4 b ⟨k.val - 2048, by omega⟩ h e)

theorem lam_apply (x5 x6 x7 x8 : LaneArr) (i : S_.Idx) :
    val_main_v7 x5 x6 x7 x8 i = lamOf (fun d => x5 (ix1 d)) (fun d => x6 (ix1 d)) (fun d => x7 (ix1 d)) (fun d => x8 (ix1 d)) := by
  pointwise [val_main_v7, val_main_v6, val_main_v5, val_main_v4, val_main_v3, val_main_v2, val_main_v1, val_main_v0, val_main_cst, val_main_cst_0, val_main_cst_1]
  rfl

theorem keys_apply (x1 : HeadsArr) (x3 : PastArr) (b h : Fin 8) (k : Fin 2304) (c : Fin 2) (d : Fin 64) :
    val_main_v9 x1 x3 (ix5 b k h c d) = keyAt x1 x3 b h k c d := by
  pointwise [val_main_v9, val_main_v8]
  unfold keyAt
  split
  · rfl
  · have e : (⟨c.val * 64 + d.val, by omega⟩ : Fin 128) = ⟨64 * c.val + d.val, by omega⟩ := Fin.ext (by show c.val * 64 + d.val = 64 * c.val + d.val; omega)
    exact congrArg (fun l => x3 (ix4 b ⟨k.val - 2048, by omega⟩ h l)) e

theorem vals_apply (x2 : ValArr) (x4 : PastArr) (b h : Fin 8) (k : Fin 2304) (e : Fin 128) :
    val_main_v10 x2 x4 (ix4 b k h e) = valAt x2 x4 b h k e := by
  pointwise [val_main_v10]
  rfl

theorem score_apply (x0 x1 : HeadsArr) (x3 : PastArr) (b h : Fin 8) (c : Fin 2) (i : Fin 2048) (k : Fin 2304) :
    val_main_v13 x0 x1 x3 (ix5 b h c i k) = refScore (fun d => x0 (ix5 b i h c d)) (keyAt x1 x3 b h k c) := by
  pointwise [val_main_v13, val_main_v12, val_main_cst_2, val_main_v11, keys_apply]
  rfl

theorem max_apply (x0 x1 : HeadsArr) (x3 : PastArr) (b h : Fin 8) (c : Fin 2) (i : Fin 2048) :
    val_main_v14 x0 x1 x3 (ix4 b h c i) = Finset.univ.fold max ⊥ fun k => val_main_v13 x0 x1 x3 (ix5 b h c i k) := by
  unfold val_main_v14
  generalize val_main_v13 x0 x1 x3 = y
  pointwise [val_main_cst_3, bot_word]

theorem top_apply (x0 x1 : HeadsArr) (x3 : PastArr) (b h : Fin 8) (c : Fin 2) (i : Fin 2048) (k : Fin 2304) :
    val_main_v18 x0 x1 x3 (ix5 b h c i k) = max ⊥ (val_main_v14 x0 x1 x3 (ix4 b h c i)) := by
  refine (val_main_v18_apply x0 x1 x3 _).trans ((val_main_v17_apply x0 x1 x3 _).trans ((val_main_v16_apply x0 x1 x3 _).trans ?_))
  rw [val_main_v15_apply, val_main_cst_4_apply]
  generalize val_main_v14 x0 x1 x3 = y
  refine congrArg₂ max bot_word (congrArg y (funext fun a => Fin.ext ?_))
  match a with
  | ⟨0, _⟩ => rfl
  | ⟨1, _⟩ => rfl
  | ⟨2, _⟩ => rfl
  | ⟨3, _⟩ => rfl

theorem exp_apply (x0 x1 : HeadsArr) (x3 : PastArr) (b h : Fin 8) (c : Fin 2) (i : Fin 2048) (k : Fin 2304) :
    val_main_v20 x0 x1 x3 (ix5 b h c i k)
      = Ideal.exp (val_main_v13 x0 x1 x3 (ix5 b h c i k) - val_main_v18 x0 x1 x3 (ix5 b h c i k)) := by
  unfold val_main_v20 val_main_v19
  generalize val_main_v18 x0 x1 x3 = y
  generalize val_main_v13 x0 x1 x3 = z
  pointwise []

theorem total_apply (x0 x1 : HeadsArr) (x3 : PastArr) (b h : Fin 8) (c : Fin 2) (i : Fin 2048) (k : Fin 2304) :
    val_main_v23 x0 x1 x3 (ix5 b h c i k) = 0 + ∑ j, val_main_v20 x0 x1 x3 (ix5 b h c i j) := by
  unfold val_main_v23 val_main_v22 val_main_v21
  generalize val_main_v20 x0 x1 x3 = y
  pointwise [val_main_cst_5]

theorem weight_apply (x0 x1 : HeadsArr) (x3 : PastArr) (b h : Fin 8) (c : Fin 2) (i : Fin 2048) (k : Fin 2304) :
    val_main_v24 x0 x1 x3 (ix5 b h c i k)
      = refWeight (fun k => refScore (fun d => x0 (ix5 b i h c d)) (keyAt x1 x3 b h k c)) k := by
  have e (k : Fin 2304) : val_main_v20 x0 x1 x3 (ix5 b h c i k) = Ideal.exp (refScore (fun d => x0 (ix5 b i h c d)) (keyAt x1 x3 b h k c)
      - max ⊥ (Finset.univ.fold max ⊥ fun k => refScore (fun d => x0 (ix5 b i h c d)) (keyAt x1 x3 b h k c))) := by
    rw [exp_apply, top_apply, max_apply]
    simp only [score_apply]
  refine (val_main_v24_apply x0 x1 x3 _).trans ?_
  rw [total_apply, e]
  simp only [e]
  unfold refWeight
  simp only [Ideal.hostDivf_def]

theorem first_apply (x0 x1 : HeadsArr) (x3 : PastArr) (b h : Fin 8) (i : Fin 2048) (k : Fin 2304) :
    val_main_v26 x0 x1 x3 (ix4 b h i k) = val_main_v24 x0 x1 x3 (ix5 b h 0 i k) := by
  unfold val_main_v26 val_main_v25
  generalize val_main_v24 x0 x1 x3 = y
  pointwise []

theorem second_apply (x0 x1 : HeadsArr) (x3 : PastArr) (b h : Fin 8) (i : Fin 2048) (k : Fin 2304) :
    val_main_v28 x0 x1 x3 (ix4 b h i k) = val_main_v24 x0 x1 x3 (ix5 b h 1 i k) := by
  unfold val_main_v28 val_main_v27
  generalize val_main_v24 x0 x1 x3 = y
  pointwise []

theorem parts_apply (x0 x1 : HeadsArr) (x3 : PastArr) (x5 x6 x7 x8 : LaneArr) (b h : Fin 8) (i : Fin 2048) (k : Fin 2304) :
    val_main_v31 x0 x1 x3 x5 x6 x7 x8 (ix4 b h i k)
      = val_main_v24 x0 x1 x3 (ix5 b h 0 i k)
        - val_main_v7 x5 x6 x7 x8 (fun a => a.elim0) * val_main_v24 x0 x1 x3 (ix5 b h 1 i k) := by
  rw [val_main_v31_apply, val_main_v30_apply, val_main_v29_apply, first_apply, second_apply]
  generalize val_main_v24 x0 x1 x3 = y
  generalize val_main_v7 x5 x6 x7 x8 = l
  exact congrArg (fun p : EReal => (y (ix5 b h 0 i k) : EReal) - p * (y (ix5 b h 1 i k) : EReal)) (congrArg l (funext fun a => a.elim0))

theorem mix_apply (x0 x1 : HeadsArr) (x2 : ValArr) (x3 x4 : PastArr) (x5 x6 x7 x8 : LaneArr) (b h : Fin 8) (i : Fin 2048) (e : Fin 128) :
    val_main_v33 x0 x1 x2 x3 x4 x5 x6 x7 x8 (ix4 b i h e)
      = ∑ k, val_main_v10 x2 x4 (ix4 b k h e) * val_main_v31 x0 x1 x3 x5 x6 x7 x8 (ix4 b h i k) := by
  unfold val_main_v33 val_main_v32
  generalize val_main_v10 x2 x4 = v
  generalize val_main_v31 x0 x1 x3 x5 x6 x7 x8 = y
  pointwise []

/-- A row of the reference's attention, before it is normalised. -/
def refRow (x0 x1 : HeadsArr) (x2 : ValArr) (x3 x4 : PastArr) (x5 x6 x7 x8 : LaneArr) (b h : Fin 8) (i : Fin 2048) (e : Fin 128) : EReal :=
  refDiff (lamOf (fun d => x5 (ix1 d)) (fun d => x6 (ix1 d)) (fun d => x7 (ix1 d)) (fun d => x8 (ix1 d)))
    (fun k => refScore (fun d => x0 (ix5 b i h 0 d)) (keyAt x1 x3 b h k 0))
    (fun k => refScore (fun d => x0 (ix5 b i h 1 d)) (keyAt x1 x3 b h k 1)) (valAt x2 x4 b h) e

theorem diff_apply (x0 x1 : HeadsArr) (x2 : ValArr) (x3 x4 : PastArr) (x5 x6 x7 x8 : LaneArr) (b h : Fin 8) (i : Fin 2048) (e : Fin 128) :
    val_main_v33 x0 x1 x2 x3 x4 x5 x6 x7 x8 (ix4 b i h e) = refRow x0 x1 x2 x3 x4 x5 x6 x7 x8 b h i e := by
  rw [mix_apply]
  unfold refRow refDiff
  refine Finset.sum_congr rfl fun k _ => ?_
  rw [vals_apply, parts_apply, weight_apply, weight_apply, lam_apply]

theorem scaled_apply (x0 x1 : HeadsArr) (x2 : ValArr) (x3 x4 : PastArr) (x5 x6 x7 x8 : LaneArr)
    (x9 : (⟨S128, .f32⟩ : BufTy).Contents (Elt Ideal)) (i : Fin 16384) (j : Fin 1024) :
    val_main_v50 x0 x1 x2 x3 x4 x5 x6 x7 x8 x9 (ix2 i j)
      = rowNorm (fun e => val_main_v33 x0 x1 x2 x3 x4 x5 x6 x7 x8 (ix4 ⟨i.val / 2048, by omega⟩ ⟨i.val % 2048, by omega⟩ ⟨j.val / 128, by omega⟩ e))
          (fun e => x9 (ix1 e) * Ideal.ofBits .f32 0x3F4CCCCD#32) ⟨j.val % 128, by omega⟩ := by
  unfold val_main_v50 val_main_v49 val_main_v48 val_main_v46 val_main_v43 val_main_v42 val_main_v41 val_main_v40 val_main_v38 val_main_v36 val_main_v35 val_main_v34
  generalize val_main_v33 x0 x1 x2 x3 x4 x5 x6 x7 x8 = y
  unfold rowNorm
  pointwise [val_main_v47, val_main_v45, val_main_v44, val_main_v39, val_main_v37, val_main_cst_6, val_main_cst_7, val_main_cst_8, val_main_cst_9]
  exact mul_assoc _ _ _

end Cert.Attn

end
-- ==== Proof.Finite.lean ====
/- What the precondition says: every entry of the arguments it reads is a real number. -/
module

public import proofs.«01_k».proof.Proof.Gen.Pre_finite
public import proofs.«01_k».proof.Defs
public import Idealize.ShloMosaic.Lib.Pointwise

@[expose] public section

set_option maxRecDepth 16384

noncomputable section

namespace Cert.Attn

open Idealize.ShloMosaic Idealize.ShloMosaic.TcCoe Idealize.SL.Sem

theorem top_word : Ideal.ofBits .f32 0x7F800000#32 = (⊤ : EReal) := by
  simp [Ideal.ofBits, Ideal.ieee]

/-- A number whose magnitude is below the infinite word is real. -/
theorem real_of_below (x : EReal) (h : FloatOps.cmpf (F := Ideal) (φ := .f32) .olt (FloatOps.hostAbsf (F := Ideal) (φ := .f32) x) (Ideal.ofBits .f32 0x7F800000#32) = 1#1) :
    ∃ r : ℝ, x = r := by
  rw [top_word, Ideal.cmpf_def] at h
  have hx : max x (-x) < ⊤ := by
    by_contra hn
    have : Ideal.cmp CmpFPredicate.olt (max x (-x)) ⊤ = 0#1 := by simp [Ideal.cmp, hn]
    exact absurd (this.symm.trans h) (by decide)
  induction x using EReal.rec with
  | bot => simp at hx
  | top => simp at hx
  | coe r => exact ⟨r, rfl⟩

theorem real_array {S : Shape} (x : FVec Ideal S .f32) (y : FVec Ideal S .f32) (hy : ∀ i, y i = Ideal.ofBits .f32 0x7F800000#32)
    (h : cmpf .olt (Host.absf x) y = fun _ => 1#1) : ∃ r : S.Idx → ℝ, x = fun i => (r i : EReal) := by
  have : ∀ i, ∃ r : ℝ, x i = r := fun i => real_of_below (x i) (by
    have := congrFun h i
    rw [← hy i]
    exact this)
  choose r hr using this
  exact ⟨r, funext hr⟩

open Cert.KernelIdeal in
theorem real_args [Cert.Pre_finite.Facts] (m : (ℓ : Loc nD τ sig) → Buf (Elt Ideal) ℓ) (h : Cert.Pre_KernelIdeal_finite m) (c : Dev nD) :
    (∃ r : S8x2048x8x2x64.Idx → ℝ, m ((c.tc : Thread nD τ).loc main_arg0) = fun i => (r i : EReal))
    ∧ (∃ r : S8x2048x8x2x64.Idx → ℝ, m ((c.tc : Thread nD τ).loc main_arg1) = fun i => (r i : EReal))
    ∧ (∃ r : S8x2048x8x128.Idx → ℝ, m ((c.tc : Thread nD τ).loc main_arg2) = fun i => (r i : EReal))
    ∧ (∃ r : S8x256x8x128.Idx → ℝ, m ((c.tc : Thread nD τ).loc main_arg3) = fun i => (r i : EReal))
    ∧ (∃ r : S8x256x8x128.Idx → ℝ, m ((c.tc : Thread nD τ).loc main_arg4) = fun i => (r i : EReal))
    ∧ (∃ r : S64.Idx → ℝ, m ((c.tc : Thread nD τ).loc main_arg5) = fun i => (r i : EReal))
    ∧ (∃ r : S64.Idx → ℝ, m ((c.tc : Thread nD τ).loc main_arg6) = fun i => (r i : EReal))
    ∧ (∃ r : S64.Idx → ℝ, m ((c.tc : Thread nD τ).loc main_arg7) = fun i => (r i : EReal))
    ∧ (∃ r : S64.Idx → ℝ, m ((c.tc : Thread nD τ).loc main_arg8) = fun i => (r i : EReal)) := by
  obtain ⟨h0, h1, h2, h3, h4, h5, h6, h7, h8⟩ := h c
  exact ⟨real_array _ _ (fun _ => rfl) h0, real_array _ _ (fun _ => rfl) h1, real_array _ _ (fun _ => rfl) h2, real_array _ _ (fun _ => rfl) h3,
    real_array _ _ (fun _ => rfl) h4, real_array _ _ (fun _ => rfl) h5, real_array _ _ (fun _ => rfl) h6, real_array _ _ (fun _ => rfl) h7,
    real_array _ _ (fun _ => rfl) h8⟩

end Cert.Attn

end
-- ==== Proof.Compare.lean ====
/- The kernel's row is the reference's row when the arguments are real numbers. -/
module

public import proofs.«01_k».proof.Proof.Array
public import proofs.«01_k».proof.Proof.RefRow
public import proofs.«01_k».proof.Proof.Finite

@[expose] public section

set_option maxRecDepth 16384

noncomputable section

namespace Cert.Attn

open Cert.KernelIdeal Idealize.ShloMosaic Idealize.ShloMosaic.TcCoe Idealize.SL.Sem

theorem lam_word : Ideal.ofBits .f32 0x3E4CCCCD#32 = ((13421773 / 67108864 : ℝ) : EReal) := by
  simp [Ideal.ofBits, Ideal.ieee, -EReal.coe_mul]
  norm_num

theorem exp_dot_real (a b : Fin 64 → ℝ) : ∃ r : ℝ, Ideal.exp (∑ x, (a x : EReal) * (b x : EReal)) = r := by
  refine ⟨Real.exp (∑ x, a x * b x), ?_⟩
  simp only [← EReal.coe_mul]
  rw [sum_real, Ideal.exp_coe]

/-- The mixing weight of real vectors is real. -/
theorem lam_real (a b c d : Fin 64 → ℝ) :
    ∃ r : ℝ, lamOf (fun x => (a x : EReal)) (fun x => (b x : EReal)) (fun x => (c x : EReal)) (fun x => (d x : EReal)) = r := by
  obtain ⟨u, hu⟩ := exp_dot_real a b
  obtain ⟨v, hv⟩ := exp_dot_real c d
  refine ⟨u - v + 13421773 / 67108864, ?_⟩
  unfold lamOf
  rw [hu, hv, lam_word, EReal.coe_add, EReal.coe_sub]

/-- The 2304 keys or values of real arrays, as real numbers. -/
def joinedReal (x : Fin 2048 → Fin 128 → ℝ) (y : Fin 256 → Fin 128 → ℝ) (k : Fin 2304) (d : Fin 128) : ℝ :=
  if hk : k.val < 2048 then x ⟨k.val, hk⟩ d else y ⟨k.val - 2048, by omega⟩ d

theorem joined_real (x : Fin 2048 → Fin 128 → ℝ) (y : Fin 256 → Fin 128 → ℝ) :
    chained (fun k d => (x k d : EReal)) (fun k d => (y k d : EReal)) = fun k d => (joinedReal x y k d : EReal) := by
  funext k d
  unfold chained joinedReal
  split <;> rfl

theorem lane_div (c : Fin 2) (d : Fin 64) : (⟨(laneOf c d).val / 64, by omega⟩ : Fin 2) = c :=
  Fin.ext (by simp only [laneOf]; omega)

theorem lane_mod (c : Fin 2) (d : Fin 64) : (⟨(laneOf c d).val % 64, by omega⟩ : Fin 64) = d :=
  Fin.ext (by simp only [laneOf]; omega)

theorem keyAt_real (r1 : S8x2048x8x2x64.Idx → ℝ) (r3 : S8x256x8x128.Idx → ℝ) (b h : Fin 8) (k : Fin 2304) (c : Fin 2) :
    keyAt (fun i => (r1 i : EReal)) (fun i => (r3 i : EReal)) b h k c
      = fun d => (joinedReal (fun k d => r1 (ix5 b k h ⟨d.val / 64, by omega⟩ ⟨d.val % 64, by omega⟩)) (fun k d => r3 (ix4 b k h d)) k (laneOf c d) : EReal) := by
  funext d
  unfold keyAt joinedReal
  split
  · exact congrArg (fun p => ((r1 p : ℝ) : EReal)) (congrArg₂ (ix5 b _ h) (lane_div c d).symm (lane_mod c d).symm)
  · rfl

theorem valAt_real (r2 : S8x2048x8x128.Idx → ℝ) (r4 : S8x256x8x128.Idx → ℝ) (b h : Fin 8) :
    valAt (fun i => (r2 i : EReal)) (fun i => (r4 i : EReal)) b h
      = fun k e => (joinedReal (fun k d => r2 (ix4 b k h d)) (fun k d => r4 (ix4 b k h d)) k e : EReal) := by
  funext k e
  unfold valAt joinedReal
  split <;> rfl

theorem row_meets (r0 r1 : S8x2048x8x2x64.Idx → ℝ) (r2 : S8x2048x8x128.Idx → ℝ) (r3 r4 : S8x256x8x128.Idx → ℝ) (r5 r6 r7 r8 : S64.Idx → ℝ)
    (x9 : FVec Ideal S128 .f32) (b h : Fin 8) (i : Fin 2048) (e : Fin 128) :
    kerRow (fun i => (r0 i : EReal)) (fun i => (r1 i : EReal)) (fun i => (r2 i : EReal)) (fun i => (r3 i : EReal)) (fun i => (r4 i : EReal))
        (fun i => (r5 i : EReal)) (fun i => (r6 i : EReal)) (fun i => (r7 i : EReal)) (fun i => (r8 i : EReal)) x9 b h i e
      = rowNorm (fun e => refRow (fun i => (r0 i : EReal)) (fun i => (r1 i : EReal)) (fun i => (r2 i : EReal)) (fun i => (r3 i : EReal))
          (fun i => (r4 i : EReal)) (fun i => (r5 i : EReal)) (fun i => (r6 i : EReal)) (fun i => (r7 i : EReal)) (fun i => (r8 i : EReal)) b h i e)
          (fun e => x9 (ix1 e) * Ideal.ofBits .f32 0x3F4CCCCD#32) e := by
  unfold kerRow refRow
  obtain ⟨lam, hlam⟩ := lam_real (fun d => r5 (ix1 d)) (fun d => r6 (ix1 d)) (fun d => r7 (ix1 d)) (fun d => r8 (ix1 d))
  rw [hlam, joined_real, joined_real]
  refine congrArg (fun o => rowNorm o _ e) (funext fun e => ?_)
  refine (rowDiff_eq lam (fun d => r0 (ix5 b i h ⟨d.val / 64, by omega⟩ ⟨d.val % 64, by omega⟩)) _ _ e).trans ?_
  simp only [lane_div, lane_mod, keyAt_real, valAt_real]

variable (m : (ℓ : Loc nD τ sig) → Buf (Elt Ideal) ℓ) (c : Dev nD)

/-- The kernel's result is the reference's last value of the same arguments. -/
theorem result_eq [Cert.Pre_finite.Facts] (hm : Cert.Pre_KernelIdeal_finite m) :
    result m c = Cert.ReferenceIdeal.Read.val_main_v50 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  obtain ⟨⟨r0, h0⟩, ⟨r1, h1⟩, ⟨r2, h2⟩, ⟨r3, h3⟩, ⟨r4, h4⟩, ⟨r5, h5⟩, ⟨r6, h6⟩, ⟨r7, h7⟩, ⟨r8, h8⟩⟩ := real_args m hm c
  funext i
  obtain ⟨a, d, rfl⟩ : ∃ (a : Fin 16384) (d : Fin 1024), i = ix2 a d := ⟨i 0, i 1, eq_ix2 i⟩
  rw [scaled_apply]
  unfold result rowAt
  rw [h0, h1, h2, h3, h4, h5, h6, h7, h8]
  rw [row_meets]
  simp only [diff_apply]
  rfl

end Cert.Attn

end
-- ==== Proof.CtxRow.lean ====
/- The context pass's rows over the extended reals, and the two bodies' blocks as such rows. -/
module

public import proofs.«01_k».proof.Proof.Gen.ContextIdeal.Frame
public import Idealize.ShloMosaic.Lib.Pointwise
public import Idealize.ShloMosaic.Lib.Pipeline.ValueKit

@[expose] public section

set_option maxRecDepth 16384

noncomputable section

namespace Cert.Ctx

open Cert.ContextIdeal Cert.ContextIdeal.Gen Idealize.ShloMosaic Idealize.ShloMosaic.TcCoe Idealize.SL.Sem

/-- A number times its logistic. -/
def gated (x : EReal) : EReal := x * Ideal.logistic x

/-- One lane of the modulation: the gated conditioning vector against a column, and the bias. -/
def modLane (u w : Fin 1024 → EReal) (b : EReal) : EReal := ∑ k, gated (u k) * w k + b

/-- The same lane from high and low parts, the low parts being what is left after the high ones. -/
def splitLane (u w : Fin 1024 → EReal) (b : EReal) : EReal :=
  ∑ k, gated (u k) * w k + ∑ k, gated (u k) * (w k - w k) + ∑ k, (gated (u k) - gated (u k)) * w k + b

/-- One lane of a token divided by its root mean square, scaled, and modulated. -/
def normLane (x g sc sh : Fin 1024 → EReal) (k : Fin 1024) : EReal :=
  x k * Ideal.rsqrt (Ideal.div (∑ i, x i * x i) (Ideal.ofBits .f32 0x44800000#32) + Ideal.ofBits .f32 0x358637BD#32) * g k
    * (1 + sc k) + sh k

/-- One lane of a token's projection. -/
def projLane (x g sc sh w : Fin 1024 → EReal) : EReal := ∑ k, normLane x g sc sh k * w k

theorem mod_pay (v0 : Vec Ideal S16x1024 .f32) (v8 : Vec Ideal S1024x1536 .f32) (v18 : Vec Ideal S1x1536 .f32) (r : Fin 16) (j : Fin 1536) :
    k0_pay1 v0 v8 v18 (ix2 r j) = splitLane (fun k => v0 (ix2 r k)) (fun k => v8 (ix2 k j)) (v18 (ix2 0 j)) := by
  pointwise [k0_pay1]
  rfl

theorem mod_read (x0 : Vec Ideal S16x1024 .f32) (x1 : Vec Ideal S1024x1536 .f32) (x2 : Vec Ideal S1x1536 .f32) (r : Fin 16) (j : Fin 1536) :
    out0_3 x0 x1 x2 (ix2 r j) = splitLane (fun k => x0 (ix2 r k)) (fun k => x1 (ix2 k j)) (x2 (ix2 0 j)) := by
  unfold out0_3
  refine (congrFun (View.canon_cons_unit_lit inb_S16x1536_S16x1536_0_0 _ [] (by decide)) (ix2 r j)).trans ?_
  rw [View.ld_unit_lit inb_S16x1024_S16x1024_0_0 x0 (by decide), View.ld_unit_lit inb_S1024x1536_S1024x1536_0_0 x1 (by decide),
    View.ld_unit_lit inb_S1x1536_S1x1536_0_0 x2 (by decide)]
  exact mod_pay _ _ _ r j

theorem proj_read (v0 : Vec Ideal S256x1024 .f32) (v2 : Vec Ideal S1x1024 .f32) (v16 v22 : Vec Ideal S1x1x1024 .f32) (v27 : Vec Ideal S1024x3072 .bf16)
    (p : Fin 256) (j : Fin 3072) :
    k1_pay2 v0 v2 v16 v22 v27 (ix2 p j)
      = projLane (fun k => v0 (ix2 p k)) (fun k => v2 (ix2 0 k)) (fun k => v16 (ix3 0 0 k)) (fun k => v22 (ix3 0 0 k)) (fun k => v27 (ix2 k j)) := by
  pointwise [k1_pay2]
  rfl

theorem key_read (x0 : Vec Ideal S256x1024 .f32) (x1 : Vec Ideal S1x6x1024 .f32) (x2 : Vec Ideal S1x1024 .f32) (x3 : Vec Ideal S1024x3072 .bf16)
    (p : Fin 256) (j : Fin 1024) :
    out1_5 x0 x1 x2 x3 (ix2 p j) = projLane (fun k => x0 (ix2 p k)) (fun k => x2 (ix2 0 k)) (fun k => x1 (ix3 0 1 k)) (fun k => x1 (ix3 0 0 k))
      (fun k => x3 (ix2 k ⟨1024 + j.val, by omega⟩)) := by
  unfold out1_5
  refine (congrFun (View.canon_cons_unit_lit inb_S256x1024_S256x1024_0_0 _ [] (by decide)) (ix2 p j)).trans ?_
  pointwise [k1_pay4, proj_read]

theorem value_read (x0 : Vec Ideal S256x1024 .f32) (x1 : Vec Ideal S1x6x1024 .f32) (x2 : Vec Ideal S1x1024 .f32) (x3 : Vec Ideal S1024x3072 .bf16)
    (p : Fin 256) (j : Fin 1024) :
    out1_6 x0 x1 x2 x3 (ix2 p j) = projLane (fun k => x0 (ix2 p k)) (fun k => x2 (ix2 0 k)) (fun k => x1 (ix3 0 1 k)) (fun k => x1 (ix3 0 0 k))
      (fun k => x3 (ix2 k ⟨2048 + j.val, by omega⟩)) := by
  unfold out1_6
  refine (congrFun (View.canon_cons_unit_lit inb_S256x1024_S256x1024_0_0 _ [] (by decide)) (ix2 p j)).trans ?_
  pointwise [k1_pay1, proj_read]

end Cert.Ctx

end
-- ==== Proof.CtxRef.lean ====
/- The reference's context pass at an index: a token's projection, from the arguments. -/
module

public import proofs.«01_k».proof.Proof.CtxRow
public import proofs.«01_k».proof.Proof.Gen.ContextPassIdeal.Read

@[expose] public section

set_option maxRecDepth 16384

noncomputable section

namespace Cert.Ctx

open Cert.ContextPassIdeal Cert.ContextPassIdeal.Gen Cert.ContextPassIdeal.Read Idealize.ShloMosaic Idealize.ShloMosaic.TcCoe Idealize.SL.Sem

abbrev TokenArr := (⟨S32x256x1024, .f32⟩ : BufTy).Contents (Elt Ideal)
abbrev VecArr := (⟨S1024, .f32⟩ : BufTy).Contents (Elt Ideal)
abbrev ModArr := (⟨S1024x6144, .f32⟩ : BufTy).Contents (Elt Ideal)
abbrev BiasArr := (⟨S6144, .f32⟩ : BufTy).Contents (Elt Ideal)
abbrev ProjArr := (⟨S1024x3072, .f32⟩ : BufTy).Contents (Elt Ideal)

theorem gated_apply (x2 : VecArr) (k : Fin 1024) : val_main_v1 x2 (ix2 0 k) = gated (x2 (ix1 k)) := by
  pointwise [val_main_v1, val_main_v0, val_main_call0_v5, val_main_call0_v4, val_main_call0_v3, val_main_call0_v2, val_main_call0_v1, val_main_call0_v0,
    val_main_call0_cst, val_main_call0_cst_0]
  rfl

theorem mod_apply (x2 : VecArr) (x3 : ModArr) (x4 : BiasArr) (j : Fin 6144) :
    val_main_v4 x2 x3 x4 (ix2 0 j) = modLane (fun k => x2 (ix1 k)) (fun k => x3 (ix2 k j)) (x4 (ix1 j)) := by
  pointwise [val_main_v4, val_main_v3, val_main_v2, gated_apply]
  rfl

theorem shift_apply (x2 : VecArr) (x3 : ModArr) (x4 : BiasArr) (k : Fin 1024) :
    val_main_v7 x2 x3 x4 (ix3 0 0 k) = modLane (fun i => x2 (ix1 i)) (fun i => x3 (ix2 i ⟨k.val, by omega⟩)) (x4 (ix1 ⟨k.val, by omega⟩)) := by
  refine Eq.trans ?_ (mod_apply x2 x3 x4 ⟨k.val, by omega⟩)
  pointwise [val_main_v7, val_main_v6, val_main_v5]

theorem scale_apply (x2 : VecArr) (x3 : ModArr) (x4 : BiasArr) (k : Fin 1024) :
    val_main_v9 x2 x3 x4 (ix3 0 0 k) = modLane (fun i => x2 (ix1 i)) (fun i => x3 (ix2 i ⟨1024 + k.val, by omega⟩)) (x4 (ix1 ⟨1024 + k.val, by omega⟩)) := by
  refine Eq.trans ?_ (mod_apply x2 x3 x4 ⟨1024 + k.val, by omega⟩)
  pointwise [val_main_v9, val_main_v8, val_main_v5]

theorem norm_apply (x0 : TokenArr) (x2 : VecArr) (x3 : ModArr) (x4 : BiasArr) (x5 : VecArr) (b : Fin 32) (l : Fin 256) (k : Fin 1024) :
    val_main_v36 x0 x2 x3 x4 x5 (ix3 b l k)
      = normLane (fun k => x0 (ix3 b l k)) (fun k => x5 (ix1 k)) (fun k => val_main_v9 x2 x3 x4 (ix3 0 0 k)) (fun k => val_main_v7 x2 x3 x4 (ix3 0 0 k)) k := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_cst, val_main_cst_0,
    val_main_cst_1, val_main_cst_2]
  rfl

theorem project_apply (x0 : TokenArr) (x2 : VecArr) (x3 : ModArr) (x4 : BiasArr) (x5 : VecArr) (x6 : ProjArr) (b : Fin 32) (l : Fin 256) (j : Fin 3072) :
    val_main_v37 x0 x2 x3 x4 x5 x6 (ix3 b l j)
      = projLane (fun k => x0 (ix3 b l k)) (fun k => x5 (ix1 k)) (fun k => val_main_v9 x2 x3 x4 (ix3 0 0 k)) (fun k => val_main_v7 x2 x3 x4 (ix3 0 0 k))
          (fun k => x6 (ix2 k j)) := by
  pointwise [val_main_v37, norm_apply]
  rfl

theorem keys_apply (x0 : TokenArr) (x2 : VecArr) (x3 : ModArr) (x4 : BiasArr) (x5 : VecArr) (x6 : ProjArr) (b : Fin 32) (l : Fin 256) (h : Fin 8) (d : Fin 128) :
    val_main_v44 x0 x2 x3 x4 x5 x6 (ix4 b l h d) = val_main_v37 x0 x2 x3 x4 x5 x6 (ix3 b l ⟨1024 + (h.val * 128 + d.val), by omega⟩) := by
  pointwise [val_main_v44, val_main_v42, val_main_v39]
  exact congrArg (fun j => val_main_v37 x0 x2 x3 x4 x5 x6 (ix3 b l j)) (Fin.ext (by dsimp only; omega))

theorem values_apply (x0 : TokenArr) (x2 : VecArr) (x3 : ModArr) (x4 : BiasArr) (x5 : VecArr) (x6 : ProjArr) (b : Fin 32) (l : Fin 256) (h : Fin 8) (d : Fin 128) :
    val_main_v43 x0 x2 x3 x4 x5 x6 (ix4 b l h d) = val_main_v37 x0 x2 x3 x4 x5 x6 (ix3 b l ⟨2048 + (h.val * 128 + d.val), by omega⟩) := by
  pointwise [val_main_v43, val_main_v40]

end Cert.Ctx

end
-- ==== Proof.CtxRun.lean ====
/- The context pass from launch to end: what every run leaves in each of its arrays. -/
module

public import proofs.«01_k».proof.Proof.Gen.ContextIdeal.Frame

@[expose] public section

set_option maxRecDepth 16384

noncomputable section

namespace Cert.Ctx

open Cert.ContextIdeal Cert.ContextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and leaves in each array outside the staging buffers what the last of @main's stretches leaves there. -/
theorem run : θ_run (defs (F := F)) (onTc (τ := τ) (main (F := F))) ⟨m, fun _ => 0, ρ⟩ (fun r =>
    ∀ c : Dev nD, ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.Ctx

end
-- ==== Proof.CtxArray.lean ====
/- The arrays that the two grids leave, from the arrays they start from. -/
module

public import proofs.«01_k».proof.Proof.CtxRow
public import Idealize.ShloMosaic.Lib.Pipeline.ValueKit

@[expose] public section

set_option maxRecDepth 16384

noncomputable section

namespace Cert.Ctx

open Cert.ContextIdeal Cert.ContextIdeal.Gen Idealize.ShloMosaic Idealize.ShloMosaic.TcCoe Idealize.SL.Sem

variable (V : (c : Dev nD) → (b : Ref sig .tc) → Buf (Elt Ideal) ((c : Thread nD τ).loc b)) (c : Dev nD)

/-! ## The modulation -/

theorem modIdx : ∀ t : Fin cfg0.N, win0_0.index t = ![0, 0] ∧ win0_1.index t = ![0, t.val] ∧ win0_2.index t = ![0, t.val]
    ∧ win0_3.index t = ![0, t.val] ∧ t.val < 4 :=
  (by decide +kernel : ∀ t : Fin grid0.N, _)

theorem cond_blk (t : Fin cfg0.N) (r : Fin 16) (k : Fin 1024) : iblk0 V c 0 t (ix2 r k) = V c main_v4 (ix2 r k) := by
  blk_ext [iblk0, modIdx t]

theorem weight_blk (t : Fin cfg0.N) (k : Fin 1024) (j : Fin 1536) :
    iblk0 V c 1 t (ix2 k j) = V c main_arg3 (ix2 k ⟨t.val * 1536 + j.val, by have := (modIdx t).2.2.2.2; omega⟩) := by
  blk_ext [iblk0, modIdx t]

theorem bias_blk (t : Fin cfg0.N) (j : Fin 1536) :
    iblk0 V c 2 t (ix2 0 j) = V c main_v5 (ix2 0 ⟨t.val * 1536 + j.val, by have := (modIdx t).2.2.2.2; omega⟩) := by
  blk_ext [iblk0, modIdx t]

/-- The modulation's array. -/
def modArray : S16x6144.Idx → Elt Ideal .f32 := fun i =>
  splitLane (fun k => V c main_v4 (ix2 (i 0) k)) (fun k => V c main_arg3 (ix2 k (i 1))) (V c main_v5 (ix2 0 (i 1)))

theorem mod_final : (dat0 V c).arrAt 3 cfg0.N = modArray V c := by
  refine (dat0 V c).arrAt_eq_of_covers 3 _ (by decide +kernel) fun t _ y => ?_
  blk_simp
  rw [after0_3]
  refine (congrArg _ (eq_ix2 y)).trans ((mod_read _ _ _ (y 0) (y 1)).trans ?_)
  have e0 : ((win0_3.blk t).view.emb y 0 : Nat) = (y 0).val := by
    blk_simp [modIdx t]
  have e1 : ((win0_3.blk t).view.emb y 1 : Nat) = t.val * 1536 + (y 1).val := by
    blk_simp [modIdx t]
  have y1 : (y 1).val < 1536 := (y 1).isLt
  have ht := (modIdx t).2.2.2.2
  have same {r r' : Fin 16} {j j' : Fin 6144} (hr : r.val = r'.val) (hj : j.val = j'.val) :
      splitLane (fun k => V c main_v4 (ix2 r k)) (fun k => V c main_arg3 (ix2 k j)) (V c main_v5 (ix2 0 j))
        = splitLane (fun k => V c main_v4 (ix2 r' k)) (fun k => V c main_arg3 (ix2 k j')) (V c main_v5 (ix2 0 j')) := by
    obtain rfl := Fin.ext hr
    obtain rfl := Fin.ext hj
    rfl
  refine Eq.trans ?_ (same (r := y 0) (j := ⟨t.val * 1536 + (y 1).val, by omega⟩) e0.symm e1.symm)
  rw [funext (cond_blk V c t (y 0)), funext fun k => weight_blk V c t k (y 1)]
  exact congrArg (splitLane _ _) (bias_blk V c t (y 1))

/-! ## The projections -/

theorem projIdx : ∀ t : Fin cfg1.N, win1_0.index t = ![t.val, 0] ∧ win1_1.index t = ![0, 0, 0] ∧ win1_2.index t = ![0, 0]
    ∧ win1_3.index t = ![0, 0] ∧ win1_5.index t = ![t.val, 0] ∧ win1_6.index t = ![t.val, 0] ∧ t.val < 32 :=
  (by decide +kernel : ∀ t : Fin grid1.N, _)

theorem token_blk (t : Fin cfg1.N) (p : Fin 256) (k : Fin 1024) :
    iblk1 V c 0 t (ix2 p k) = V c main_v8 (ix2 ⟨t.val * 256 + p.val, by have := (projIdx t).2.2.2.2.2.2; omega⟩ k) := by
  blk_ext [iblk1, projIdx t]

theorem mod_blk (t : Fin cfg1.N) (a : Fin 6) (k : Fin 1024) : iblk1 V c 1 t (ix3 0 a k) = V c main_v7 (ix3 0 a k) := by
  blk_ext [iblk1, projIdx t]

theorem gain_blk (t : Fin cfg1.N) (k : Fin 1024) : iblk1 V c 2 t (ix2 0 k) = V c main_v10 (ix2 0 k) := by
  blk_ext [iblk1, projIdx t]

theorem proj_blk (t : Fin cfg1.N) (k : Fin 1024) (j : Fin 3072) : iblk1 V c 3 t (ix2 k j) = V c main_v9 (ix2 k j) := by
  blk_ext [iblk1, projIdx t]

/-- One lane of a token's keys (`o` = 1024) or values (`o` = 2048), from the second grid's operands. -/
def lane (o : ℕ) (ho : o + 1024 ≤ 3072) (r : Fin 8192) (j : Fin 1024) : EReal :=
  projLane (fun k => V c main_v8 (ix2 r k)) (fun k => V c main_v10 (ix2 0 k)) (fun k => V c main_v7 (ix3 0 1 k))
    (fun k => V c main_v7 (ix3 0 0 k)) (fun k => V c main_v9 (ix2 k ⟨o + j.val, by omega⟩))

theorem lane_blk (o : ℕ) (ho : o + 1024 ≤ 3072) (t : Fin cfg1.N) (p : Fin 256) (j : Fin 1024) (r : Fin 8192) (j' : Fin 1024)
    (hr : r.val = t.val * 256 + p.val) (hj : j'.val = j.val) :
    projLane (fun k => iblk1 V c 0 t (ix2 p k)) (fun k => iblk1 V c 2 t (ix2 0 k)) (fun k => iblk1 V c 1 t (ix3 0 1 k))
      (fun k => iblk1 V c 1 t (ix3 0 0 k)) (fun k => iblk1 V c 3 t (ix2 k ⟨o + j.val, by omega⟩)) = lane V c o ho r j' := by
  obtain ⟨r, hlt⟩ := r
  obtain rfl : r = t.val * 256 + p.val := hr
  obtain rfl := Fin.ext hj
  rw [funext (token_blk V c t p), funext (gain_blk V c t), funext (mod_blk V c t 0), funext (mod_blk V c t 1),
    funext fun k => proj_blk V c t k ⟨o + j'.val, by omega⟩]
  rfl

theorem key_final : (dat1 V c).arrAt 5 cfg1.N = fun i : S8192x1024.Idx => (lane V c 1024 (by omega) (i 0) (i 1) : Elt Ideal .f32) := by
  refine (dat1 V c).arrAt_eq_of_covers 5 _ (by decide +kernel) fun t _ y => ?_
  blk_simp
  rw [after1_5]
  refine (congrArg _ (eq_ix2 y)).trans ((key_read _ _ _ _ (y 0) (y 1)).trans ?_)
  refine lane_blk V c 1024 (by omega) t (y 0) (y 1) _ _ ?_ ?_
  · blk_simp [projIdx t]
  · blk_simp [projIdx t]

theorem value_final : (dat1 V c).arrAt 6 cfg1.N = fun i : S8192x1024.Idx => (lane V c 2048 (by omega) (i 0) (i 1) : Elt Ideal .f32) := by
  refine (dat1 V c).arrAt_eq_of_covers 6 _ (by decide +kernel) fun t _ y => ?_
  blk_simp
  rw [after1_6]
  refine (congrArg _ (eq_ix2 y)).trans ((value_read _ _ _ _ (y 0) (y 1)).trans ?_)
  refine lane_blk V c 2048 (by omega) t (y 0) (y 1) _ _ ?_ ?_
  · blk_simp [projIdx t]
  · blk_simp [projIdx t]

end Cert.Ctx

end
-- ==== Proof.CtxEntry.lean ====
/- The two grids' operands at an index, from the arguments. -/
module

public import proofs.«01_k».proof.Proof.CtxArray
public import Idealize.ShloMosaic.Lib.Claim
public import Idealize.ShloMosaic.Lib.StableHlo.RunRead
public import Idealize.ShloMosaic.Lib.Routing.OpsSet
public import Idealize.ShloMosaic.Lib.Routing.OpsPair

@[expose] public section

set_option maxRecDepth 16384

noncomputable section

namespace Cert.Ctx

open Cert.ContextIdeal Cert.ContextIdeal.Gen Idealize.ShloMosaic Idealize.ShloMosaic.TcCoe Idealize.SL.Sem

variable (m : (ℓ : Loc nD τ sig) → Buf (Elt Ideal) ℓ) (ρ : Dev nD → PrngReg) (c : Dev nD)

/-! ## The conditioning rows -/

/-- A row written over row 0: read at row 0 it is that row. -/
theorem first_row (x : FVec Ideal S16x1024 .f32) (i : IVec S1 32) (hi : (i (ix1 0)).toInt = 0) (u : FVec Ideal S1024 .f32) (k : Fin 1024) :
    Host.scatter scatter_S16x1024_S1_S1024_0_0_0_0 (fun _ b => b) x i u (ix2 0 k) = u (ix1 k) := by
  have lands (k' : Fin 1024) : scatter_S16x1024_S1_S1024_0_0_0_0.resultIdx? (ix1 k') i = some (ix2 0 k) ↔ k' = k := by
    refine (Routing.resultIdx?_ix2 _ _ _ _ _).trans ?_
    have a : scatter_S16x1024_S1_S1024_0_0_0_0.start (ix1 k') i 0 = 0 :=
      (congrArg (fun q => (i q).toInt) (funext fun (b : Fin 1) => match b with | 0 => Subsingleton.elim (α := Fin 1) _ _)).trans hi
    have b : scatter_S16x1024_S1_S1024_0_0_0_0.window (ix1 k') 0 = 0 := rfl
    have d : scatter_S16x1024_S1_S1024_0_0_0_0.start (ix1 k') i 1 = 0 := rfl
    have e : scatter_S16x1024_S1_S1024_0_0_0_0.window (ix1 k') 1 = k'.val := rfl
    rw [a, b, d, e, Fin.ext_iff]
    simp
  refine Routing.scatter_set_hit _ x i u _ _ (fun j hj => congrArg u ?_) (ix1 k) ((lands k).2 rfl)
  have hj' : scatter_S16x1024_S1_S1024_0_0_0_0.resultIdx? (ix1 (j 0)) i = some (ix2 0 k) := (congrArg (fun t => ScatterDims.resultIdx? _ t i) (eq_ix1 j)).symm.trans hj
  exact (eq_ix1 j).trans (congrArg ix1 ((lands (j 0)).1 hj'))

/-- Eight rows written over the rows from 1 on leave row 0. -/
theorem later_rows (x : FVec Ideal S16x1024 .f32) (i : IVec S1 32) (hi : (i (ix1 0)).toInt = 1) (u : FVec Ideal S8x1024 .f32) (k : Fin 1024) :
    Host.scatter scatter_S16x1024_S1_S8x1024_01_n_0_0 (fun _ b => b) x i u (ix2 0 k) = x (ix2 0 k) := by
  refine Routing.scatter_set_miss _ x i u _ fun j hj => ?_
  have h := ((Routing.resultIdx?_ix2 _ _ _ _ _).1 hj).1
  have a : scatter_S16x1024_S1_S8x1024_01_n_0_0.start j i 0 = 1 :=
    (congrArg (fun q => (i q).toInt) (funext fun (b : Fin 1) => match b with | 0 => Subsingleton.elim (α := Fin 1) _ _)).trans hi
  rw [a] at h
  simp at h
  omega

theorem cond_entry (k : Fin 1024) : V1 m ρ c main_v4 (ix2 0 k) = m ((c : Thread nD τ).loc main_arg2) (ix1 k) := by
  have e4 : V1 m ρ c main_v4 = _ := (StableHlo.after_last_write (i := 7) [main_v5] rfl rfl (by decide) _).trans (StableHlo.ternary_result' _ _ _ _ _ _)
  have e2 : StableHlo.upto (hostOps0 (F := Ideal)) (W0 m ρ c) 7 (Proc.devRef .tc main_v2) = _ :=
    (StableHlo.upto_last_write (i := 4) [main_c_0, main_v3] rfl rfl (by decide) _).trans (StableHlo.ternary_result' _ _ _ _ _ _)
  have e3 : StableHlo.upto (hostOps0 (F := Ideal)) (W0 m ρ c) 7 (Proc.devRef .tc main_v3) = _ :=
    (StableHlo.upto_last_write (i := 6) [] rfl rfl (by decide) _).trans (StableHlo.unary_result' _ _ _ _)
  have e1 : StableHlo.upto (hostOps0 (F := Ideal)) (W0 m ρ c) 4 (Proc.devRef .tc main_v1) = _ :=
    (StableHlo.upto_last_write (i := 3) [] rfl rfl (by decide) _).trans (StableHlo.unary_result' _ _ _ _)
  have o3 : StableHlo.upto (hostOps0 (F := Ideal)) (W0 m ρ c) 6 (Proc.devRef .tc main_c_0) = _ :=
    (StableHlo.upto_last_write (i := 5) [] rfl rfl (by decide) _).trans (StableHlo.nullary_result' _ _ _)
  have o1 : StableHlo.upto (hostOps0 (F := Ideal)) (W0 m ρ c) 3 (Proc.devRef .tc main_c) = _ :=
    (StableHlo.upto_last_write (i := 2) [] rfl rfl (by decide) _).trans (StableHlo.nullary_result' _ _ _)
  have a2 : StableHlo.upto (hostOps0 (F := Ideal)) (W0 m ρ c) 4 (Proc.devRef .tc main_arg2) = _ :=
    StableHlo.upto_unwritten (n := 4) [main_cst, main_v0, main_c, main_v1] rfl (by decide) _
  refine (congrFun e4 _).trans ((later_rows _ _ ?_ _ k).trans ((congrFun e2 _).trans ((first_row _ _ ?_ _ k).trans (congrFun a2 (ix1 k)))))
  · rw [e3, o3]
    rfl
  · rw [e1, o1]
    rfl

theorem bias_entry (j : Fin 6144) : V1 m ρ c main_v5 (ix2 0 j) = m ((c : Thread nD τ).loc main_arg4) (ix1 j) := by
  show StableHlo.after (hostOps0 (F := Ideal)) (W0 m ρ c) (Proc.devRef .tc main_v5) (ix2 0 j) = _
  entry_read
  pointwise []

theorem weight_entry : V1 m ρ c main_arg3 = m ((c : Thread nD τ).loc main_arg3) := W1_args m ρ c main_arg3 (by decide)

/-- The modulation's first row. -/
theorem mod_row (j : Fin 6144) : W2 m ρ c (Proc.devRef .tc main_v6) (ix2 0 j)
    = splitLane (fun k => m ((c : Thread nD τ).loc main_arg2) (ix1 k)) (fun k => m ((c : Thread nD τ).loc main_arg3) (ix2 k j))
        (m ((c : Thread nD τ).loc main_arg4) (ix1 j)) := by
  refine (congrFun ((W2_arr m ρ c 3).trans (mod_final (V1 m ρ) c)) (ix2 0 j)).trans ?_
  show splitLane (fun k => V1 m ρ c main_v4 (ix2 0 k)) (fun k => V1 m ρ c main_arg3 (ix2 k j)) (V1 m ρ c main_v5 (ix2 0 j)) = _
  rw [funext (cond_entry m ρ c), weight_entry, bias_entry]

/-! ## The second grid's operands -/

theorem mod_entry (a : Fin 6) (k : Fin 1024) :
    V3 m ρ c main_v7 (ix3 0 a k) = W2 m ρ c (Proc.devRef .tc main_v6) (ix2 0 ⟨a.val * 1024 + k.val, by omega⟩) := by
  show StableHlo.after (hostOps1 (F := Ideal)) (W2 m ρ c) (Proc.devRef .tc main_v7) (ix3 0 a k) = _
  entry_read
  pointwise []
  blk_ext []

theorem token_entry (b : Fin 32) (l : Fin 256) (k : Fin 1024) :
    V3 m ρ c main_v8 (ix2 ⟨b.val * 256 + l.val, by omega⟩ k) = m ((c : Thread nD τ).loc main_arg0) (ix3 b l k) := by
  rw [← W2_args m ρ c main_arg0 (by decide)]
  show StableHlo.after (hostOps1 (F := Ideal)) (W2 m ρ c) (Proc.devRef .tc main_v8) (ix2 ⟨b.val * 256 + l.val, by omega⟩ k) = _
  entry_read
  pointwise []
  blk_ext []

theorem gain_entry (k : Fin 1024) : V3 m ρ c main_v10 (ix2 0 k) = m ((c : Thread nD τ).loc main_arg5) (ix1 k) := by
  rw [← W2_args m ρ c main_arg5 (by decide)]
  show StableHlo.after (hostOps1 (F := Ideal)) (W2 m ρ c) (Proc.devRef .tc main_v10) (ix2 0 k) = _
  entry_read
  pointwise []

theorem proj_entry (k : Fin 1024) (j : Fin 3072) : V3 m ρ c main_v9 (ix2 k j) = m ((c : Thread nD τ).loc main_arg6) (ix2 k j) := by
  rw [← W2_args m ρ c main_arg6 (by decide)]
  show StableHlo.after (hostOps1 (F := Ideal)) (W2 m ρ c) (Proc.devRef .tc main_v9) (ix2 k j) = _
  entry_read
  rfl

/-! ## The results -/

theorem keys_exit (b : Fin 32) (l : Fin 256) (h : Fin 8) (d : Fin 128) : W5 m ρ c (Proc.devRef .tc main_v12) (ix4 b l h d)
    = lane (V3 m ρ) c 1024 (by omega) ⟨b.val * 256 + l.val, by omega⟩ ⟨h.val * 128 + d.val, by omega⟩ := by
  refine Eq.trans ?_ (congrFun ((W4_arr m ρ c 5).trans (key_final (V3 m ρ) c)) (ix2 ⟨b.val * 256 + l.val, by omega⟩ ⟨h.val * 128 + d.val, by omega⟩))
  show StableHlo.after (hostOps2 (F := Ideal)) (W4 m ρ c) (Proc.devRef .tc main_v12) (ix4 b l h d) = W4 m ρ c (Proc.devRef .tc main_v11_1) _
  entry_read
  pointwise []
  blk_ext []

theorem values_exit (b : Fin 32) (l : Fin 256) (h : Fin 8) (d : Fin 128) : W5 m ρ c (Proc.devRef .tc main_v13) (ix4 b l h d)
    = lane (V3 m ρ) c 2048 (by omega) ⟨b.val * 256 + l.val, by omega⟩ ⟨h.val * 128 + d.val, by omega⟩ := by
  refine Eq.trans ?_ (congrFun ((W4_arr m ρ c 6).trans (value_final (V3 m ρ) c)) (ix2 ⟨b.val * 256 + l.val, by omega⟩ ⟨h.val * 128 + d.val, by omega⟩))
  show StableHlo.after (hostOps2 (F := Ideal)) (W4 m ρ c) (Proc.devRef .tc main_v13) (ix4 b l h d) = W4 m ρ c (Proc.devRef .tc main_v11_2) _
  entry_read
  pointwise []
  blk_ext []

end Cert.Ctx

end
-- ==== Proof.CtxCompare.lean ====
/- The context pass compared: with a real conditioning vector and modulation the low parts vanish. -/
module

public import proofs.«01_k».proof.Proof.CtxRef
public import proofs.«01_k».proof.Proof.CtxRun
public import proofs.«01_k».proof.Proof.CtxEntry
public import proofs.«01_k».proof.Proof.Finite
public import proofs.«01_k».proof.Proof.Gen.Pre_conditioned
public import proofs.«01_k».proof.Proof.Gen.Context.Frame
public import proofs.«01_k».proof.Proof.Gen.ContextPassIdeal.Run
public import proofs.«01_k».proof.Defs

@[expose] public section

set_option maxRecDepth 16384

noncomputable section

namespace Cert.Ctx

open Cert.ContextIdeal Cert.ContextIdeal.Gen Idealize.ShloMosaic Idealize.ShloMosaic.TcCoe Idealize.SL.Sem

theorem gated_real (r : ℝ) : ∃ g : ℝ, gated (r : EReal) = g :=
  ⟨r * (1 + Real.exp (-r))⁻¹, by rw [gated, Ideal.logistic_coe, EReal.coe_mul]⟩

theorem low_zero (r : ℝ) : (r : EReal) - r = 0 := by
  rw [← EReal.coe_sub, sub_self, EReal.coe_zero]

/-- Of real numbers the low parts are zero. -/
theorem split_eq (u w : Fin 1024 → ℝ) (b : EReal) :
    splitLane (fun k => (u k : EReal)) (fun k => (w k : EReal)) b = modLane (fun k => (u k : EReal)) (fun k => (w k : EReal)) b := by
  have hz (k : Fin 1024) : gated (u k : EReal) - gated (u k : EReal) = 0 := by
    obtain ⟨g, hg⟩ := gated_real (u k)
    rw [hg, low_zero]
  unfold splitLane modLane
  simp only [hz, low_zero, mul_zero, zero_mul, Finset.sum_const_zero, add_zero]

variable (m : (ℓ : Loc nD τ sig) → Buf (Elt Ideal) ℓ) (ρ : Dev nD → PrngReg) (c : Dev nD)

theorem real_args [Cert.Pre_conditioned.Facts] (h : Cert.Pre_ContextIdeal_conditioned m) :
    (∃ r : S1024.Idx → ℝ, m ((c.tc : Thread nD τ).loc main_arg2) = fun i => (r i : EReal))
    ∧ (∃ r : S1024x6144.Idx → ℝ, m ((c.tc : Thread nD τ).loc main_arg3) = fun i => (r i : EReal)) :=
  ⟨Cert.Attn.real_array _ _ (fun _ => rfl) (h c).1, Cert.Attn.real_array _ _ (fun _ => rfl) (h c).2⟩

theorem mod_eq [Cert.Pre_conditioned.Facts] (h : Cert.Pre_ContextIdeal_conditioned m) (j : Fin 6144) :
    W2 m ρ c (Proc.devRef .tc main_v6) (ix2 0 j)
      = modLane (fun k => m ((c.tc : Thread nD τ).loc main_arg2) (ix1 k)) (fun k => m ((c.tc : Thread nD τ).loc main_arg3) (ix2 k j))
          (m ((c.tc : Thread nD τ).loc main_arg4) (ix1 j)) := by
  obtain ⟨⟨u, hu⟩, ⟨w, hw⟩⟩ := real_args m c h
  refine (mod_row m ρ c j).trans ?_
  rw [hu, hw]
  exact split_eq (fun k => u (ix1 k)) (fun k => w (ix2 k j)) _

/-- The reference's projection of the same arguments. -/
abbrev projected (b : Fin 32) (l : Fin 256) (j : Fin 3072) : EReal :=
  Cert.ContextPassIdeal.Read.val_main_v37 (F := Ideal) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (ix3 b l j)

theorem lane_eq [Cert.Pre_conditioned.Facts] (h : Cert.Pre_ContextIdeal_conditioned m) (o : ℕ) (ho : o + 1024 ≤ 3072) (b : Fin 32) (l : Fin 256) (j : Fin 1024) :
    lane (V3 m ρ) c o ho ⟨b.val * 256 + l.val, by omega⟩ j = projected m c b l ⟨o + j.val, by omega⟩ := by
  refine Eq.trans ?_ (project_apply _ _ _ _ _ _ b l _).symm
  unfold lane
  have e0 := funext (token_entry m ρ c b l)
  have e5 := funext (gain_entry m ρ c)
  have e6 := funext fun k => proj_entry m ρ c k ⟨o + j.val, by omega⟩
  have sc : (fun k => V3 m ρ c main_v7 (ix3 0 1 k)) = fun k => Cert.ContextPassIdeal.Read.val_main_v9 (F := Ideal)
      (m ((c.tc : Thread nD τ).loc main_arg2)) (m ((c.tc : Thread nD τ).loc main_arg3)) (m ((c.tc : Thread nD τ).loc main_arg4)) (ix3 0 0 k) :=
    funext fun k => (mod_entry m ρ c 1 k).trans ((mod_eq m ρ c h ⟨1024 + k.val, by omega⟩).trans (scale_apply _ _ _ k).symm)
  have sh : (fun k => V3 m ρ c main_v7 (ix3 0 0 k)) = fun k => Cert.ContextPassIdeal.Read.val_main_v7 (F := Ideal)
      (m ((c.tc : Thread nD τ).loc main_arg2)) (m ((c.tc : Thread nD τ).loc main_arg3)) (m ((c.tc : Thread nD τ).loc main_arg4)) (ix3 0 0 k) :=
    funext fun k => (mod_entry m ρ c 0 k).trans
      ((congrArg (fun q => W2 m ρ c (Proc.devRef .tc main_v6) (ix2 0 q)) (Fin.ext (by show 0 * 1024 + k.val = k.val; omega))).trans
        ((mod_eq m ρ c h ⟨k.val, by omega⟩).trans (shift_apply _ _ _ k).symm))
  exact congr (congr (congr (congr (congrArg projLane e0) e5) sc) sh) e6

theorem keys_eq [Cert.Pre_conditioned.Facts] (h : Cert.Pre_ContextIdeal_conditioned m) :
    W5 m ρ c (Proc.devRef .tc main_v12) = Cert.ContextPassIdeal.Read.val_main_v44 (F := Ideal) (m ((c.tc : Thread nD τ).loc main_arg0))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  funext i
  obtain ⟨b, l, hh, d, rfl⟩ : ∃ (b : Fin 32) (l : Fin 256) (hh : Fin 8) (d : Fin 128), i = ix4 b l hh d := ⟨i 0, i 1, i 2, i 3, eq_ix4 i⟩
  exact (keys_exit m ρ c b l hh d).trans ((lane_eq m ρ c h 1024 (by omega) b l _).trans (keys_apply _ _ _ _ _ _ b l hh d).symm)

theorem values_eq [Cert.Pre_conditioned.Facts] (h : Cert.Pre_ContextIdeal_conditioned m) :
    W5 m ρ c (Proc.devRef .tc main_v13) = Cert.ContextPassIdeal.Read.val_main_v43 (F := Ideal) (m ((c.tc : Thread nD τ).loc main_arg0))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  funext i
  obtain ⟨b, l, hh, d, rfl⟩ : ∃ (b : Fin 32) (l : Fin 256) (hh : Fin 8) (d : Fin 128), i = ix4 b l hh d := ⟨i 0, i 1, i 2, i 3, eq_ix4 i⟩
  exact (values_exit m ρ c b l hh d).trans ((lane_eq m ρ c h 2048 (by omega) b l _).trans (values_apply _ _ _ _ _ _ b l hh d).symm)

theorem frame_pass : Cert.quiescent_ContextPassIdeal := fun m ρ _ => (θ_run (Cert.ContextPassIdeal.defs (F := Ideal)) _ _).mono
  (fun r h => ⟨fun c => (h c).2.2, Idealize.ShloMosaic.sem_eq_zero_of_no_sems (by decide) r.2⟩) (Cert.ContextPassIdeal.Value.run (F := Ideal) m ρ)

theorem algebraic [Cert.Pre_conditioned.Facts] : Cert.algebraic_ContextIdeal_ContextPassIdeal_pre_conditioned := by
  intro m g m' g' hpre hagree
  refine ⟨fun c => W5 m g c (Proc.devRef .tc main_v12), fun c => W5 m g c (Proc.devRef .tc main_v13), ?_, ?_⟩
  · exact (θ_run _ _ _).mono (fun r h c => ⟨h c _ (mem_uc main_v12 (by decide)), h c _ (mem_uc main_v13 (by decide)),
      (h c _ (mem_uc main_arg0 (by decide))).trans (W5_main_arg0 m g c),
      (h c _ (mem_uc main_arg1 (by decide))).trans (W5_main_arg1 m g c),
      (h c _ (mem_uc main_arg2 (by decide))).trans (W5_main_arg2 m g c),
      (h c _ (mem_uc main_arg3 (by decide))).trans (W5_main_arg3 m g c),
      (h c _ (mem_uc main_arg4 (by decide))).trans (W5_main_arg4 m g c),
      (h c _ (mem_uc main_arg5 (by decide))).trans (W5_main_arg5 m g c),
      (h c _ (mem_uc main_arg6 (by decide))).trans (W5_main_arg6 m g c)⟩) (run (F := Ideal) m g)
  · refine (θ_run _ _ _).mono (fun r h c => ?_) (Cert.ContextPassIdeal.Value.run (F := Ideal) m' g')
    obtain ⟨h0, -, h2, h3, h4, h5, h6⟩ := hagree c
    refine ⟨(h c).1.trans ((Cert.ContextPassIdeal.Read.val_main_v44_eq _ _ _ _ _ _).trans (Eq.trans ?_ (keys_eq m g c hpre).symm)),
      (h c).2.1.trans ((Cert.ContextPassIdeal.Read.val_main_v43_eq _ _ _ _ _ _).trans (Eq.trans ?_ (values_eq m g c hpre).symm)), (h c).2.2⟩
    · exact congr (congr (congr (congr (congr (congrArg (Cert.ContextPassIdeal.Read.val_main_v44 (F := Ideal)) h0) h2) h3) h4) h5) h6
    · exact congr (congr (congr (congr (congr (congrArg (Cert.ContextPassIdeal.Read.val_main_v43 (F := Ideal)) h0) h2) h3) h4) h5) h6

end Cert.Ctx

end
-- ==== Proof.MoeBody.lean ====
/- One grid point of the experts' call: what the body stores when its row tile is in use and when it is not. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.Claim

@[expose] public section

set_option maxRecDepth 16384

noncomputable section

namespace Cert.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two prefetched tables as the body sees them: the tiles' experts and the count of tiles in use. -/
abbrev expertM : Memref sig .tc .smem S223 .i32 := Memref.whole main_arg0
abbrev countM : Memref sig .tc .smem S1 .i32 := Memref.whole main_arg1

/-- Contents of a table, and the half of it that the body holds. -/
abbrev Table (c : Dev nD) {S : Shape} {e : EltTy} (M : Memref sig .tc .smem S e) : Type := Buf (Elt F) (M.view.loc (c : Thread nD τ))
abbrev held (c : Dev nD) {S : Shape} {e : EltTy} (M : Memref sig .tc .smem S e) (f : Table (F := F) c M) : sProp 𝕄 :=
  M.view.loc (c : Thread nD τ) ↦{fullShare.right} f

/-- The number of tiles in use, as the body loads it. -/
abbrev count (c : Dev nD) (f : Table (F := F) c countM) : BitVec 32 :=
  countM.view.readAt (Elt F) (Rect.unit (s := S1) ![0] S1.size inb_S1_S1_0).toLoadRect f (Shape.Idx.first (numel1_S1.symm ▸ Nat.one_pos))

/-- The second branch is the negation of the first. -/
theorem cond_not (i : grid0.Coords) (v : BitVec 32) : k0_cond2 i v = 1#1 ↔ ¬ k0_cond1 i v = 1#1 := by
  have key : ∀ b : BitVec 1, Scalar.cmpi .ne (Scalar.extui (Scalar.xori b 1#1) : BitVec 32) 0#32 = 1#1 ↔ ¬ Scalar.cmpi .ne (Scalar.extui b : BitVec 32) 0#32 = 1#1 := by
    decide
  exact key _

/-- What one grid point is given and what it must give back, its output's stores being `L`. -/
abbrev Triple (c : Dev nD) (i : grid0.Coords) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) (x : Vec F S256x1024 .bf16) (wgu : Vec F S1x1024x5632 .bf16)
    (wd : Vec F S1x2816x1024 .bf16) (e : Table (F := F) c expertM) (n : Table (F := F) c countM) (L : List (View.Piece (Elt F) S256x1024 .bf16)) : Prop :=
  ∀ (E : Set ℕ) (K : PUnit → sProp 𝕄),
    iprop(owns (c : Thread nD τ) a3 fullShare x ∗ owns (c : Thread nD τ) a4 fullShare wgu ∗ owns (c : Thread nD τ) a5 fullShare wd
        ∗ (∃ d, owns (c : Thread nD τ) a6 fullShare d) ∗ held c expertM e ∗ held c countM n
        ∗ (iprop(owns (c : Thread nD τ) a3 fullShare x ∗ owns (c : Thread nD τ) a4 fullShare wgu ∗ owns (c : Thread nD τ) a5 fullShare wd
            ∗ (∃ f, a6.view.loc (c : Thread nD τ) ↦[a6.view.set]{fullShare} a6.view.writes (Elt F) f L) ∗ held c expertM e ∗ held c countM n) -∗ K ⟨⟩))
      ⊢ wp frame (wpE (defs₀ (F := F)) Variants.none c none) E
          (cc0_moe_experts i expertM (Memref.isWhole_whole _) countM (Memref.isWhole_whole _) a3 h3 a4 h4 a5 h5 a6 h6) K

set_option maxHeartbeats 1000000 in
/-- A tile in use. -/
def used (c : Dev nD) (i : grid0.Coords) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) (x : Vec F S256x1024 .bf16) (wgu : Vec F S1x1024x5632 .bf16)
    (wd : Vec F S1x2816x1024 .bf16) (e : Table (F := F) c expertM) (n : Table (F := F) c countM) (hu : k0_cond1 i (count c n) = 1#1) :
    { L : List (View.Piece (Elt F) S256x1024 .bf16) // Triple c i a3 h3 a4 h4 a5 h5 a6 h6 x wgu wd e n L } := by
  have hn : ¬ k0_cond2 i (count c n) = 1#1 := fun h => (cond_not i _).mp h hu
  refine ⟨?_, fun E K => ?run⟩
  case run =>
    simp only [cc0_moe_experts_eq_skeleton]; unfold cc0_moe_experts_skel
    simp only [k0_part1_eq_skeleton]
    unfold owns
    iintro ⟨⟨%f3, %hf3, H3⟩, ⟨%f4, %hf4, H4⟩, ⟨%f5, %hf5, H5⟩, ⟨%d6, %f6, -, H6⟩, He, Hn, Hk⟩
    obtain rfl := h3.eq_unread hf3
    obtain rfl := h4.eq_unread hf4
    obtain rfl := h5.eq_unread hf5
    sl_exec (disch := first | sl_exact hu | sl_exact hn)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [He]; · iexact He
    iexact Hn

set_option maxHeartbeats 1000000 in
/-- A tile past the count. -/
def unused (c : Dev nD) (i : grid0.Coords) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) (x : Vec F S256x1024 .bf16) (wgu : Vec F S1x1024x5632 .bf16)
    (wd : Vec F S1x2816x1024 .bf16) (e : Table (F := F) c expertM) (n : Table (F := F) c countM) (hu : ¬ k0_cond1 i (count c n) = 1#1) :
    { L : List (View.Piece (Elt F) S256x1024 .bf16) // Triple c i a3 h3 a4 h4 a5 h5 a6 h6 x wgu wd e n L } := by
  have hn : k0_cond2 i (count c n) = 1#1 := (cond_not i _).mpr hu
  refine ⟨?_, fun E K => ?run⟩
  case run =>
    simp only [cc0_moe_experts_eq_skeleton]; unfold cc0_moe_experts_skel
    simp only [k0_part1_eq_skeleton]
    unfold owns
    iintro ⟨⟨%f3, %hf3, H3⟩, ⟨%f4, %hf4, H4⟩, ⟨%f5, %hf5, H5⟩, ⟨%d6, %f6, -, H6⟩, He, Hn, Hk⟩
    obtain rfl := h3.eq_unread hf3
    obtain rfl := h4.eq_unread hf4
    obtain rfl := h5.eq_unread hf5
    sl_exec (disch := first | sl_exact hu | sl_exact hn)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [He]; · iexact He
    iexact Hn

end Cert.Moe

end
-- ==== Proof.MoeTile.lean ====
/- The block that one grid point of the experts' call leaves, as a function of the blocks it is given. -/
module

public import proofs.«01_k».proof.Proof.MoeBody
public import Idealize.ShloMosaic.Lib.VecWindow
public import Idealize.ShloMosaic.Lib.ValueLayout

@[expose] public section

set_option maxRecDepth 16384

noncomputable section

namespace Cert.Moe

open Cert.ExpertsIdeal Cert.ExpertsIdeal.Gen
open Idealize.ShloMosaic Idealize.ShloMosaic.TcCoe Idealize.ShloMosaic.ValueIdx Idealize.SL.Sem

variable {F : FTy → Type} [FloatOps F]

/-- Columns `o … o + W` of one expert's gate and up weights, and rows of its down weights. -/
def cols (o W : ℕ) (h : o + W ≤ 5632) (w : Vec F S1x1024x5632 .bf16) : Vec F ⟨2, ![1024, W]⟩ .bf16 :=
  fun y => w (ix3 (0 : Fin 1) (y 0) (⟨o + (y 1).val, by have : (y 1).val < W := (y 1).isLt; omega⟩ : Fin 5632))

def rows (o W : ℕ) (h : o + W ≤ 2816) (w : Vec F S1x2816x1024 .bf16) : Vec F ⟨2, ![W, 1024]⟩ .bf16 :=
  fun y => w (ix3 (0 : Fin 1) (⟨o + (y 0).val, by have : (y 0).val < W := (y 0).isLt; omega⟩ : Fin 2816) (y 1))

theorem cols_read (o W : ℕ) (h : o + W ≤ 5632) (a : Memref sig .tc .vmem S1x1024x5632 .bf16) (ha : a.IsWhole) (w : Vec F S1x1024x5632 .bf16)
    (inb : ∀ d, (![0, o] : Fin 2 → ℕ) d + (![1024, W] : Fin 2 → ℕ) d ≤ S1024x5632.size d) :
    ((a.slice (Rect.unit (s := S1x1024x5632) ![0, 0, 0] S1x1024x5632.size inb_S1x1024x5632_S1x1024x5632_0_0_0) (fun _ => rfl)).squeeze S1024x5632
        squeezes_S1x1024x5632_S1024x5632).view.readAt (Elt F) (Rect.unit (s := S1024x5632) ![0, o] ![1024, W] inb).toLoadRect (ha.unread w)
      = cols o W h w := by
  funext y
  obtain ⟨p, q, rfl⟩ : ∃ (p : Fin 1024) (q : Fin W), y = ix2 p q := ⟨y 0, y 1, eq_ix2 y⟩
  have hq := q.isLt
  have hy : (Rect.unit (s := S1024x5632) ![0, o] ![1024, W] inb).emb (ix2 p q) = ix2 p (⟨o + q.val, by omega⟩ : Fin 5632) := by
    refine (eq_ix2 _).trans ?_
    congr 1 <;> apply Fin.ext <;> simp [Rect.emb, Rect.unit]
  rw [View.readAt_eq_ld, Memref.read_squeeze_full, ha.read_unread]
  show w (Shape.reshapeEquiv squeezes_S1x1024x5632_S1024x5632.numel_eq ((Rect.unit (s := S1024x5632) ![0, o] ![1024, W] inb).emb (ix2 p q))) = _
  rw [hy]
  exact congrArg w (reshapeEquiv_ix2_1ab _ _ _)

theorem rows_read (o W : ℕ) (h : o + W ≤ 2816) (a : Memref sig .tc .vmem S1x2816x1024 .bf16) (ha : a.IsWhole) (w : Vec F S1x2816x1024 .bf16)
    (inb : ∀ d, (![o, 0] : Fin 2 → ℕ) d + (![W, 1024] : Fin 2 → ℕ) d ≤ S2816x1024.size d) :
    ((a.slice (Rect.unit (s := S1x2816x1024) ![0, 0, 0] S1x2816x1024.size inb_S1x2816x1024_S1x2816x1024_0_0_0) (fun _ => rfl)).squeeze S2816x1024
        squeezes_S1x2816x1024_S2816x1024).view.readAt (Elt F) (Rect.unit (s := S2816x1024) ![o, 0] ![W, 1024] inb).toLoadRect (ha.unread w)
      = rows o W h w := by
  funext y
  obtain ⟨p, q, rfl⟩ : ∃ (p : Fin W) (q : Fin 1024), y = ix2 p q := ⟨y 0, y 1, eq_ix2 y⟩
  have hp := p.isLt
  have hy : (Rect.unit (s := S2816x1024) ![o, 0] ![W, 1024] inb).emb (ix2 p q) = ix2 (⟨o + p.val, by omega⟩ : Fin 2816) q := by
    refine (eq_ix2 _).trans ?_
    congr 1 <;> apply Fin.ext <;> simp [Rect.emb, Rect.unit]
  rw [View.readAt_eq_ld, Memref.read_squeeze_full, ha.read_unread]
  show w (Shape.reshapeEquiv squeezes_S1x2816x1024_S2816x1024.numel_eq ((Rect.unit (s := S2816x1024) ![o, 0] ![W, 1024] inb).emb (ix2 p q))) = _
  rw [hy]
  exact congrArg w (reshapeEquiv_ix2_1ab _ _ _)

/-- The block of a tile in use: the two halves of the feed-forward width, one after the other. -/
def tile (x : Vec F S256x1024 .bf16) (wgu : Vec F S1x1024x5632 .bf16) (wd : Vec F S1x2816x1024 .bf16) : Vec F S256x1024 .bf16 :=
  k0_pay1 x (k0_pay3 x (cols 0 1536 (by omega) wgu) (cols 2816 1536 (by omega) wgu) (rows 0 1536 (by omega) wd))
    (k0_pay4 x (cols 1536 1280 (by omega) wgu)) (k0_pay5 (cols 4352 1280 (by omega) wgu)) (rows 1536 1280 (by omega) wd)

theorem used_read (c : Dev nD) (i : grid0.Coords) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) (x : Vec F S256x1024 .bf16) (wgu : Vec F S1x1024x5632 .bf16)
    (wd : Vec F S1x2816x1024 .bf16) (e : Table (F := F) c expertM) (n : Table (F := F) c countM) (hu : k0_cond1 i (count c n) = 1#1)
    (f : a6.view.ty.Contents (Elt F)) :
    a6.view.read (Elt F) (a6.view.writes (Elt F) f (used c i a3 h3 a4 h4 a5 h5 a6 h6 x wgu wd e n hu).1) = tile x wgu wd := by
  unfold used
  dsimp only
  rw [View.read_writes_full]
  unfold used.sl.r_1 used.sl.r_2 used.sl.r_3 used.sl.r_4 used.sl.v43 used.sl.v10 used.sl.v15 used.sl.v24 used.sl.v29 used.sl.v34 tile
  rw [← cols_read 0 1536 _ a4 h4, ← cols_read 2816 1536 _ a4 h4, ← cols_read 1536 1280 _ a4 h4, ← cols_read 4352 1280 _ a4 h4, ← rows_read 0 1536 _ a5 h5, ← rows_read 1536 1280 _ a5 h5]
  have hx : View.readAt (Elt F) a3.view (Rect.unit ![0, 0] S256x1024.size inb_S256x1024_S256x1024_0_0).toLoadRect (h3.unread x) = x := by
    rw [View.readAt_full, h3.read_unread]
  rw [hx]

theorem unused_read (c : Dev nD) (i : grid0.Coords) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) (x : Vec F S256x1024 .bf16) (wgu : Vec F S1x1024x5632 .bf16)
    (wd : Vec F S1x2816x1024 .bf16) (e : Table (F := F) c expertM) (n : Table (F := F) c countM) (hu : ¬ k0_cond1 i (count c n) = 1#1)
    (f : a6.view.ty.Contents (Elt F)) :
    a6.view.read (Elt F) (a6.view.writes (Elt F) f (unused c i a3 h3 a4 h4 a5 h5 a6 h6 x wgu wd e n hu).1) = k0_pay2 := by
  unfold unused
  dsimp only
  rw [View.read_writes_full]

end Cert.Moe

end
-- ==== Proof.MoeRow.lean ====
/- One row of an expert's gated feed-forward layer, and the kernel's block as such rows. -/
module

public import proofs.«01_k».proof.Proof.MoeTile
public import Idealize.ShloMosaic.Lib.Pointwise

@[expose] public section

set_option maxRecDepth 16384

noncomputable section

namespace Cert.Moe

open Cert.ExpertsIdeal Cert.ExpertsIdeal.Gen
open Idealize.ShloMosaic Idealize.ShloMosaic.TcCoe Idealize.SL.Sem

/-- A row times a column. -/
def along (h : Fin 1024 → EReal) (W : Fin 1024 → Fin 5632 → EReal) (j : Fin 5632) : EReal := ∑ k, h k * W k j

/-- The gated unit. -/
def gated (g u : EReal) : EReal := g * Ideal.logistic g * u

/-- One hidden entry: the gate in column `j`, the up projection 2816 columns further. -/
def hidden (h : Fin 1024 → EReal) (W : Fin 1024 → Fin 5632 → EReal) (j : Fin 2816) : EReal :=
  gated (along h W ⟨j.val, by omega⟩) (along h W ⟨2816 + j.val, by omega⟩)

/-- One row of an expert's layer. -/
def expertRow (h : Fin 1024 → EReal) (W : Fin 1024 → Fin 5632 → EReal) (D : Fin 2816 → Fin 1024 → EReal) (d : Fin 1024) : EReal :=
  ∑ j, hidden h W j * D j d

theorem expertRow_split (h : Fin 1024 → EReal) (W : Fin 1024 → Fin 5632 → EReal) (D : Fin 2816 → Fin 1024 → EReal) (d : Fin 1024) :
    expertRow h W D d = (∑ j : Fin 1536, hidden h W ⟨j.val, by omega⟩ * D ⟨j.val, by omega⟩ d)
      + ∑ j : Fin 1280, hidden h W ⟨1536 + j.val, by omega⟩ * D ⟨1536 + j.val, by omega⟩ d :=
  Fin.sum_univ_add fun j : Fin (1536 + 1280) => hidden h W j * D j d

theorem first_half (x : Vec Ideal S256x1024 .bf16) (a b : Vec Ideal S1024x1536 .bf16) (w : Vec Ideal S1536x1024 .bf16) (p : Fin 256) (d : Fin 1024) :
    k0_pay3 x a b w (ix2 p d) = ∑ j : Fin 1536, gated (∑ k : Fin 1024, x (ix2 p k) * a (ix2 k j)) (∑ k : Fin 1024, x (ix2 p k) * b (ix2 k j)) * w (ix2 j d) := by
  pointwise [k0_pay3]
  rfl

theorem second_gate (x : Vec Ideal S256x1024 .bf16) (a : Vec Ideal S1024x1280 .bf16) (p : Fin 256) (j : Fin 1280) :
    k0_pay4 x a (ix2 p j) = ∑ k : Fin 1024, x (ix2 p k) * a (ix2 k j) := by
  pointwise [k0_pay4]

theorem second_up (b : Vec Ideal S1024x1280 .bf16) (k : Fin 1024) (j : Fin 1280) : k0_pay5 b (ix2 k j) = b (ix2 k j) := by
  pointwise [k0_pay5]

theorem both_halves (x : Vec Ideal S256x1024 .bf16) (y : FVec Ideal S256x1024 .f32) (g : FVec Ideal S256x1280 .f32) (b : FVec Ideal S1024x1280 .bf16)
    (w : Vec Ideal S1280x1024 .bf16) (p : Fin 256) (d : Fin 1024) :
    k0_pay1 x y g b w (ix2 p d) = y (ix2 p d) + ∑ j : Fin 1280, gated (g (ix2 p j)) (∑ k : Fin 1024, x (ix2 p k) * b (ix2 k j)) * w (ix2 j d) := by
  pointwise [k0_pay1]
  rfl

theorem no_tile (p : Fin 256) (d : Fin 1024) : (k0_pay2 (F := Ideal)) (ix2 p d) = 0 := by
  pointwise [k0_pay2]

theorem cols_apply {o W : ℕ} (h : o + W ≤ 5632) (w : Vec Ideal S1x1024x5632 .bf16) (k : Fin 1024) (j : Fin W) :
    cols o W h w (ix2 k j) = w (ix3 0 k ⟨o + j.val, by omega⟩) := rfl

theorem rows_apply {o W : ℕ} (h : o + W ≤ 2816) (w : Vec Ideal S1x2816x1024 .bf16) (j : Fin W) (d : Fin 1024) :
    rows o W h w (ix2 j d) = w (ix3 0 ⟨o + j.val, by omega⟩ d) := rfl

theorem along_at {h h' : Fin 1024 → EReal} {W : Fin 1024 → EReal} {W' : Fin 1024 → Fin 5632 → EReal} {j : Fin 5632} (hW : ∀ k, W k = W' k j)
    (hh : ∀ k, h k = h' k) : (∑ k, h k * W k) = along h' W' j :=
  Finset.sum_congr rfl fun k _ => congrArg₂ (· * ·) (hh k) (hW k)

theorem tile_apply (x : Vec Ideal S256x1024 .bf16) (wgu : Vec Ideal S1x1024x5632 .bf16) (wd : Vec Ideal S1x2816x1024 .bf16) (p : Fin 256) (d : Fin 1024) :
    tile x wgu wd (ix2 p d) = expertRow (fun k => x (ix2 p k)) (fun k j => wgu (ix3 0 k j)) (fun j d => wd (ix3 0 j d)) d := by
  have at_col {j j' : Fin 5632} (e : j.val = j'.val) (k : Fin 1024) : wgu (ix3 0 k j) = wgu (ix3 0 k j') := by rw [Fin.ext e]
  have at_row {j j' : Fin 2816} (e : j.val = j'.val) : wd (ix3 0 j d) = wd (ix3 0 j' d) := by rw [Fin.ext e]
  unfold tile
  refine (both_halves _ _ _ _ _ p d).trans ?_
  rw [expertRow_split]
  refine congrArg₂ (· + ·) ((first_half _ _ _ _ p d).trans ?_) ?_
  · refine Finset.sum_congr rfl fun j _ => congrArg₂ (· * ·) (congrArg₂ gated (along_at (fun k => ?_) fun k => rfl) (along_at (fun k => ?_) fun k => rfl)) ?_
    · exact (cols_apply _ _ k j).trans (at_col (by show 0 + j.val = j.val; omega) k)
    · exact (cols_apply _ _ k j).trans (at_col rfl k)
    · exact (rows_apply _ _ j d).trans (at_row (by show 0 + j.val = j.val; omega))
  · refine Finset.sum_congr rfl fun j _ => congrArg₂ (· * ·) (congrArg₂ gated ((second_gate _ _ p j).trans (along_at (fun k => ?_) fun k => rfl)) (along_at (fun k => ?_) fun k => rfl)) ?_
    · exact (cols_apply _ _ k j).trans (at_col rfl k)
    · exact (second_up _ k j).trans ((cols_apply _ _ k j).trans (at_col (by show 4352 + j.val = 2816 + (1536 + j.val); omega) k))
    · exact (rows_apply _ _ j d).trans (at_row rfl)

end Cert.Moe

end
-- ==== Proof.PostRow.lean ====
/- A token's row through the dense layer over the extended reals, and the body's blocks as such rows. -/
module

public import proofs.«01_k».proof.Proof.CtxRow
public import proofs.«01_k».proof.Proof.MoeRow
public import proofs.«01_k».proof.Proof.Gen.PostAttnIdeal.Frame
public import Idealize.ShloMosaic.Lib.Pointwise
public import Idealize.ShloMosaic.Lib.Pipeline.ValueKit

@[expose] public section

set_option maxRecDepth 16384

noncomputable section

namespace Cert.Post

open Cert.PostAttnIdeal Cert.PostAttnIdeal.Gen Idealize.ShloMosaic Idealize.ShloMosaic.TcCoe Idealize.SL.Sem
open Cert.Ctx (normLane)
open Cert.Moe (along hidden expertRow expertRow_split)

/-- One lane of a token plus its gated attention output. -/
def mixedLane (x o g : Fin 1024 → EReal) (W : Fin 1024 → Fin 1024 → EReal) (j : Fin 1024) : EReal := x j + g j * ∑ k, o k * W k j

/-- One lane of that token plus its gated feed-forward output; `M` holds the six modulation rows. -/
def layerLane (x o : Fin 1024 → EReal) (M : Fin 6 → Fin 1024 → EReal) (g : Fin 1024 → EReal) (W : Fin 1024 → Fin 1024 → EReal)
    (U : Fin 1024 → Fin 5632 → EReal) (D : Fin 2816 → Fin 1024 → EReal) (j : Fin 1024) : EReal :=
  mixedLane x o (M 2) W j + M 5 j * expertRow (normLane (mixedLane x o (M 2) W) g (M 4) (M 3)) U D j

/-- One lane of a group of 256 channels against a half of the table. -/
def groupLane (h : Fin 1024 → EReal) (T : Fin 256 → Fin 512 → EReal) (o : ℕ) (ho : o + 256 ≤ 512) (j : Fin 1024) : EReal :=
  ∑ i : Fin 256, h ⟨j.val / 256 * 256 + i.val, by omega⟩ * T i ⟨o + j.val % 256, by omega⟩

theorem mixed_read (v0 : Vec Ideal S512x1024 .f32) (v2 : Vec Ideal S1x1x1024 .f32) (v4 : Vec Ideal S512x1024 .bf16) (v5 : Vec Ideal S1024x1024 .bf16)
    (r : Fin 512) (j : Fin 1024) :
    k0_pay9 v0 v2 v4 v5 (ix2 r j)
      = mixedLane (fun k => v0 (ix2 r k)) (fun k => v4 (ix2 r k)) (fun k => v2 (ix3 0 0 k)) (fun k j => v5 (ix2 k j)) j := by
  pointwise [k0_pay9]
  rfl

theorem normed_read (v0 : Vec Ideal S512x1024 .f32) (v2 : Vec Ideal S1x1x1024 .f32) (v4 : Vec Ideal S512x1024 .bf16) (v5 : Vec Ideal S1024x1024 .bf16)
    (v11 : Vec Ideal S1x1024 .f32) (v25 v31 : Vec Ideal S1x1x1024 .f32) (r : Fin 512) (j : Fin 1024) :
    k0_pay10 v0 v2 v4 v5 v11 v25 v31 (ix2 r j)
      = normLane (fun k => k0_pay9 v0 v2 v4 v5 (ix2 r k)) (fun k => v11 (ix2 0 k)) (fun k => v25 (ix3 0 0 k)) (fun k => v31 (ix3 0 0 k)) j := by
  pointwise [k0_pay10]
  rfl

theorem fed_read (v10 v34 : FVec Ideal S512x1024 .f32) (v35 : Vec Ideal S1x1x1024 .f32) (a b : Vec Ideal S1024x1536 .bf16) (w : Vec Ideal S1536x1024 .bf16)
    (a' b' : Vec Ideal S1024x1280 .bf16) (w' : Vec Ideal S1280x1024 .bf16) (r : Fin 512) (j : Fin 1024) :
    k0_pay11 v10 v34 v35 a b w a' b' w' (ix2 r j) = v10 (ix2 r j) + v35 (ix3 0 0 j)
      * (∑ i : Fin 1536, Cert.Moe.gated (∑ k : Fin 1024, v34 (ix2 r k) * a (ix2 k i)) (∑ k : Fin 1024, v34 (ix2 r k) * b (ix2 k i)) * w (ix2 i j)
        + ∑ i : Fin 1280, Cert.Moe.gated (∑ k : Fin 1024, v34 (ix2 r k) * a' (ix2 k i)) (∑ k : Fin 1024, v34 (ix2 r k) * b' (ix2 k i)) * w' (ix2 i j)) := by
  pointwise [k0_pay11]
  rfl

theorem next_read (v67 : FVec Ideal S512x1024 .f32) (v70 : FVec Ideal S1x1024 .f32) (v83 v89 : Vec Ideal S1x1x1024 .f32) (r : Fin 512) (j : Fin 1024) :
    k0_pay13 v67 v70 v83 v89 (ix2 r j)
      = normLane (fun k => v67 (ix2 r k)) (fun k => v70 (ix2 0 k)) (fun k => v83 (ix3 0 0 k)) (fun k => v89 (ix3 0 0 k)) j := by
  pointwise [k0_pay13]
  rfl

/-! ## The loads of columns and rows -/

theorem up_ld7 (x7 : Vec Ideal S1024x5632 .bf16) (k : Fin 1024) (i : Fin 1536) : View.ld x7 r0_7 (ix2 k i) = x7 (ix2 k ⟨i.val, by omega⟩) := by
  pointwise []

theorem up_ld8 (x7 : Vec Ideal S1024x5632 .bf16) (k : Fin 1024) (i : Fin 1536) : View.ld x7 r0_8 (ix2 k i) = x7 (ix2 k ⟨2816 + i.val, by omega⟩) := by
  pointwise []

theorem up_ld10 (x7 : Vec Ideal S1024x5632 .bf16) (k : Fin 1024) (i : Fin 1280) : View.ld x7 r0_10 (ix2 k i) = x7 (ix2 k ⟨1536 + i.val, by omega⟩) := by
  pointwise []

theorem up_ld11 (x7 : Vec Ideal S1024x5632 .bf16) (k : Fin 1024) (i : Fin 1280) :
    View.ld x7 r0_11 (ix2 k i) = x7 (ix2 k ⟨2816 + (1536 + i.val), by omega⟩) := by
  pointwise []
  exact congrArg x7 (congrArg (ix2 k) (Fin.ext (by show 4352 + i.val = 2816 + (1536 + i.val); omega)))

theorem down_ld9 (x8 : Vec Ideal S2816x1024 .bf16) (i : Fin 1536) (j : Fin 1024) : View.ld x8 r0_9 (ix2 i j) = x8 (ix2 ⟨i.val, by omega⟩ j) := by
  pointwise []

theorem down_ld12 (x8 : Vec Ideal S2816x1024 .bf16) (i : Fin 1280) (j : Fin 1024) : View.ld x8 r0_12 (ix2 i j) = x8 (ix2 ⟨1536 + i.val, by omega⟩ j) := by
  pointwise []

theorem whole_ld (x0 : Vec Ideal S512x1024 .f32) (r : Fin 512) (k : Fin 1024) : View.ld x0 r0_0 (ix2 r k) = x0 (ix2 r k) := by
  pointwise []

theorem whole_ld' (x1 : Vec Ideal S512x1024 .bf16) (r : Fin 512) (k : Fin 1024) : View.ld x1 r0_0 (ix2 r k) = x1 (ix2 r k) := by
  pointwise []

theorem proj_ld (x6 : Vec Ideal S1024x1024 .bf16) (k j : Fin 1024) : View.ld x6 r0_2 (ix2 k j) = x6 (ix2 k j) := by
  pointwise []

theorem gain_ld (x4 : Vec Ideal S1x1024 .f32) (k : Fin 1024) : View.ld x4 r0_3 (ix2 0 k) = x4 (ix2 0 k) := by
  pointwise []

theorem table_ld (x9 : Vec Ideal S256x512 .bf16) (i : Fin 256) (k : Fin 512) : View.ld x9 r0_15 (ix2 i k) = x9 (ix2 i k) := by
  pointwise []

theorem mod_ld (x : Vec Ideal S1x6x1024 .f32) (k : Fin 1024) :
    View.ld x r0_14 (ix3 0 0 k) = x (ix3 0 0 k) ∧ View.ld x r0_13 (ix3 0 0 k) = x (ix3 0 1 k) ∧ View.ld x r0_1 (ix3 0 0 k) = x (ix3 0 2 k)
      ∧ View.ld x r0_5 (ix3 0 0 k) = x (ix3 0 3 k) ∧ View.ld x r0_4 (ix3 0 0 k) = x (ix3 0 4 k) ∧ View.ld x r0_6 (ix3 0 0 k) = x (ix3 0 5 k) := by
  refine ⟨?_, ?_, ?_, ?_, ?_, ?_⟩ <;> pointwise []

variable (x0 : Vec Ideal S512x1024 .f32) (x1 : Vec Ideal S512x1024 .bf16) (x2 x3 : Vec Ideal S1x6x1024 .f32) (x4 x5 : Vec Ideal S1x1024 .f32)
  (x6 : Vec Ideal S1024x1024 .bf16) (x7 : Vec Ideal S1024x5632 .bf16) (x8 : Vec Ideal S2816x1024 .bf16) (x9 : Vec Ideal S256x512 .bf16)

/-- The layer's row `r` of a block. -/
abbrev blockLane (r : Fin 512) : Fin 1024 → EReal :=
  layerLane (fun k => x0 (ix2 r k)) (fun k => x1 (ix2 r k)) (fun a k => x2 (ix3 0 a k)) (fun k => x4 (ix2 0 k)) (fun k j => x6 (ix2 k j))
    (fun k j => x7 (ix2 k j)) (fun k j => x8 (ix2 k j))

theorem layer_read (r : Fin 512) (j : Fin 1024) : k0_pay21 x0 x1 x2 x3 x4 x5 x6 x7 x8 x9 (ix2 r j) = blockLane x0 x1 x2 x4 x6 x7 x8 r j := by
  have hm (k : Fin 1024) : k0_pay19 x0 x1 x2 x3 x4 x5 x6 x7 x8 x9 (ix2 r k)
      = mixedLane (fun k => x0 (ix2 r k)) (fun k => x1 (ix2 r k)) (fun k => x2 (ix3 0 2 k)) (fun k j => x6 (ix2 k j)) k := by
    refine (mixed_read _ _ _ _ r k).trans ?_
    rw [funext (whole_ld x0 r), funext (whole_ld' x1 r), funext fun k => (mod_ld x2 k).2.2.1, funext fun k => funext (proj_ld x6 k)]
  have hn (k : Fin 1024) : k0_pay20 x0 x1 x2 x3 x4 x5 x6 x7 x8 x9 (ix2 r k)
      = normLane (mixedLane (fun k => x0 (ix2 r k)) (fun k => x1 (ix2 r k)) (fun k => x2 (ix3 0 2 k)) (fun k j => x6 (ix2 k j)))
          (fun k => x4 (ix2 0 k)) (fun k => x2 (ix3 0 4 k)) (fun k => x2 (ix3 0 3 k)) k := by
    refine (normed_read _ _ _ _ _ _ _ r k).trans ?_
    rw [funext (gain_ld x4), funext fun k => (mod_ld x2 k).2.2.2.2.1, funext fun k => (mod_ld x2 k).2.2.2.1]
    exact congrArg (fun f => normLane f _ _ _ k) (funext hm)
  refine (fed_read _ _ _ _ _ _ _ _ _ r j).trans ?_
  unfold blockLane layerLane
  rw [expertRow_split]
  refine congr (congrArg _ (hm j)) (congr (congrArg _ (mod_ld x2 j).2.2.2.2.2) (congr (congrArg _ ?_) ?_))
  · refine Finset.sum_congr rfl fun i _ => ?_
    refine congr (congrArg _ (congr (congrArg _ ?_) ?_)) (down_ld9 x8 i j)
    · exact Finset.sum_congr rfl fun k _ => congr (congrArg _ (hn k)) (up_ld7 x7 k i)
    · exact Finset.sum_congr rfl fun k _ => congr (congrArg _ (hn k)) (up_ld8 x7 k i)
  · refine Finset.sum_congr rfl fun i _ => ?_
    refine congr (congrArg _ (congr (congrArg _ ?_) ?_)) (down_ld12 x8 i j)
    · exact Finset.sum_congr rfl fun k _ => congr (congrArg _ (hn k)) (up_ld10 x7 k i)
    · exact Finset.sum_congr rfl fun k _ => congr (congrArg _ (hn k)) (up_ld11 x7 k i)

theorem out10_read (r : Fin 512) (j : Fin 1024) : out0_10 x0 x1 x2 x3 x4 x5 x6 x7 x8 x9 (ix2 r j) = blockLane x0 x1 x2 x4 x6 x7 x8 r j := by
  unfold out0_10
  exact (congrFun (View.canon_cons_unit_lit inb_S512x1024_S512x1024_0_0 _ [] (by decide)) (ix2 r j)).trans (layer_read x0 x1 x2 x3 x4 x5 x6 x7 x8 x9 r j)

end Cert.Post

end
-- ==== Proof.PostOut.lean ====
/- The two spectra's blocks at an index: a group of a token's channels against a half of the table. -/
module

public import proofs.«01_k».proof.Proof.PostRow

@[expose] public section

set_option maxRecDepth 16384

noncomputable section

namespace Cert.Post

open Cert.PostAttnIdeal Cert.PostAttnIdeal.Gen Idealize.ShloMosaic Idealize.ShloMosaic.TcCoe Idealize.SL.Sem
open Cert.Ctx (normLane)

/-- A group's sum, from the group's number and the lane in it. -/
theorem group_at (h : Fin 1024 → EReal) (T : Fin 256 → Fin 512 → EReal) (o : ℕ) (ho : o + 256 ≤ 512) (q : ℕ) (hq : q < 4) (j : Fin 256) (j' : Fin 1024)
    (hj : j'.val = q * 256 + j.val) : ∑ i : Fin 256, h ⟨q * 256 + i.val, by omega⟩ * T i ⟨o + j.val, by omega⟩ = groupLane h T o ho j' := by
  refine Finset.sum_congr rfl fun i _ => congr (congrArg _ (congrArg h (Fin.ext ?_))) (congrArg (T i) (Fin.ext ?_))
  · show q * 256 + i.val = j'.val / 256 * 256 + i.val
    omega
  · show o + j.val = o + j'.val % 256
    omega

theorem piece_0a (v67 : FVec Ideal S512x1024 .f32) (v70 : FVec Ideal S1x1024 .f32) (v83 v89 : Vec Ideal S1x1x1024 .f32) (T : Vec Ideal S256x512 .bf16)
    (r : Fin 512) (j : Fin 256) : k0_pay15 v67 v70 v83 v89 T (ix2 r j)
      = ∑ i : Fin 256, k0_pay13 v67 v70 v83 v89 (ix2 r ⟨0 * 256 + i.val, by omega⟩) * T (ix2 i ⟨0 + j.val, by omega⟩) := by
  simp only [Nat.zero_mul, Nat.zero_add]
  pointwise [k0_pay15, k0_pay14]

theorem piece_0b (v67 : FVec Ideal S512x1024 .f32) (v70 : FVec Ideal S1x1024 .f32) (v83 v89 : Vec Ideal S1x1x1024 .f32) (T : Vec Ideal S256x512 .bf16)
    (r : Fin 512) (j : Fin 256) : k0_pay16 v67 v70 v83 v89 T (ix2 r j)
      = ∑ i : Fin 256, k0_pay13 v67 v70 v83 v89 (ix2 r ⟨0 * 256 + i.val, by omega⟩) * T (ix2 i ⟨256 + j.val, by omega⟩) := by
  simp only [Nat.zero_mul, Nat.zero_add]
  pointwise [k0_pay16, k0_pay14]

theorem piece_1a (v67 : FVec Ideal S512x1024 .f32) (v70 : FVec Ideal S1x1024 .f32) (v83 v89 : Vec Ideal S1x1x1024 .f32) (T : Vec Ideal S256x512 .bf16)
    (r : Fin 512) (j : Fin 256) : k0_pay1 (k0_pay18 v67 v70 v83 v89 T) (ix2 r j)
      = ∑ i : Fin 256, k0_pay13 v67 v70 v83 v89 (ix2 r ⟨1 * 256 + i.val, by omega⟩) * T (ix2 i ⟨0 + j.val, by omega⟩) := by
  simp only [Nat.one_mul, Nat.zero_add]
  pointwise [k0_pay1, k0_pay18, k0_pay17]

theorem piece_1b (v67 : FVec Ideal S512x1024 .f32) (v70 : FVec Ideal S1x1024 .f32) (v83 v89 : Vec Ideal S1x1x1024 .f32) (T : Vec Ideal S256x512 .bf16)
    (r : Fin 512) (j : Fin 256) : k0_pay2 (k0_pay17 v67 v70 v83 v89 T) (ix2 r j)
      = ∑ i : Fin 256, k0_pay13 v67 v70 v83 v89 (ix2 r ⟨1 * 256 + i.val, by omega⟩) * T (ix2 i ⟨256 + j.val, by omega⟩) := by
  simp only [Nat.one_mul]
  pointwise [k0_pay2, k0_pay17]

theorem piece_2a (h : FVec Ideal S512x1024 .bf16) (T : Vec Ideal S256x512 .bf16) (r : Fin 512) (j : Fin 256) : k0_pay4 h T (ix2 r j)
      = ∑ i : Fin 256, h (ix2 r ⟨2 * 256 + i.val, by omega⟩) * T (ix2 i ⟨0 + j.val, by omega⟩) := by
  simp only [Nat.zero_add]
  pointwise [k0_pay4, k0_pay3]

theorem piece_2b (h : FVec Ideal S512x1024 .bf16) (T : Vec Ideal S256x512 .bf16) (r : Fin 512) (j : Fin 256) : k0_pay5 h T (ix2 r j)
      = ∑ i : Fin 256, h (ix2 r ⟨2 * 256 + i.val, by omega⟩) * T (ix2 i ⟨256 + j.val, by omega⟩) := by
  pointwise [k0_pay5, k0_pay3]

theorem piece_3a (h : FVec Ideal S512x1024 .bf16) (T : Vec Ideal S256x512 .bf16) (r : Fin 512) (j : Fin 256) : k0_pay7 h T (ix2 r j)
      = ∑ i : Fin 256, h (ix2 r ⟨3 * 256 + i.val, by omega⟩) * T (ix2 i ⟨0 + j.val, by omega⟩) := by
  simp only [Nat.zero_add]
  pointwise [k0_pay7, k0_pay6]

theorem piece_3b (h : FVec Ideal S512x1024 .bf16) (T : Vec Ideal S256x512 .bf16) (r : Fin 512) (j : Fin 256) : k0_pay8 h T (ix2 r j)
      = ∑ i : Fin 256, h (ix2 r ⟨3 * 256 + i.val, by omega⟩) * T (ix2 i ⟨256 + j.val, by omega⟩) := by
  pointwise [k0_pay8, k0_pay6]

variable (x0 : Vec Ideal S512x1024 .f32) (x1 : Vec Ideal S512x1024 .bf16) (x2 x3 : Vec Ideal S1x6x1024 .f32) (x4 x5 : Vec Ideal S1x1024 .f32)
  (x6 : Vec Ideal S1024x1024 .bf16) (x7 : Vec Ideal S1024x5632 .bf16) (x8 : Vec Ideal S2816x1024 .bf16) (x9 : Vec Ideal S256x512 .bf16)

/-- The next layer's normalised row `r` of a block. -/
abbrev nextRow (r : Fin 512) : Fin 1024 → EReal :=
  normLane (blockLane x0 x1 x2 x4 x6 x7 x8 r) (fun k => x5 (ix2 0 k)) (fun k => x3 (ix3 0 1 k)) (fun k => x3 (ix3 0 0 k))

theorem nextRow_read (r : Fin 512) (j : Fin 1024) : k0_pay13 (k0_pay21 x0 x1 x2 x3 x4 x5 x6 x7 x8 x9) (k0_pay22 x0 x1 x2 x3 x4 x5 x6 x7 x8 x9)
    (View.ld x3 r0_13) (View.ld x3 r0_14) (ix2 r j) = nextRow x0 x1 x2 x3 x4 x5 x6 x7 x8 r j := by
  refine (next_read _ _ _ _ r j).trans ?_
  have hg (k : Fin 1024) : k0_pay22 x0 x1 x2 x3 x4 x5 x6 x7 x8 x9 (ix2 0 k) = x5 (ix2 0 k) := by
    unfold k0_pay22
    pointwise [k0_pay12]
  exact congrFun (congr (congr (congr (congrArg normLane (funext (layer_read x0 x1 x2 x3 x4 x5 x6 x7 x8 x9 r))) (funext hg))
    (funext fun k => (mod_ld x3 k).2.1)) (funext fun k => (mod_ld x3 k).1)) j

/-- A piece of a spectrum's block, against the whole block's lane. -/
theorem piece_lane (o : ℕ) (ho : o + 256 ≤ 512) (q : ℕ) (hq : q < 4) (h : FVec Ideal S512x1024 .bf16) (T : Vec Ideal S256x512 .bf16) (r : Fin 512) (j : Fin 256)
    (hh : ∀ k, h (ix2 r k) = nextRow x0 x1 x2 x3 x4 x5 x6 x7 x8 r k) (hT : ∀ i k, T (ix2 i k) = x9 (ix2 i k)) (r' : Fin 512) (j' : Fin 1024)
    (hr : r'.val = r.val) (hj : j'.val = q * 256 + j.val) :
    ∑ i : Fin 256, h (ix2 r ⟨q * 256 + i.val, by omega⟩) * T (ix2 i ⟨o + j.val, by omega⟩)
      = groupLane (nextRow x0 x1 x2 x3 x4 x5 x6 x7 x8 r') (fun i k => x9 (ix2 i k)) o ho j' := by
  obtain rfl := Fin.ext hr
  refine Eq.trans ?_ (group_at _ _ o ho q hq j j' hj)
  exact Finset.sum_congr rfl fun i _ => congr (congrArg _ (hh _)) (hT i _)

theorem out11_apply (y : S512x1024.Idx) : out0_11 x0 x1 x2 x3 x4 x5 x6 x7 x8 x9 y
    = groupLane (nextRow x0 x1 x2 x3 x4 x5 x6 x7 x8 (y 0)) (fun i k => x9 (ix2 i k)) 0 (by omega) (y 1) := by
  unfold out0_11 k0_pay23
  refine View.canon_apply_of_pieces (Val := Elt Ideal) (e := .bf16)
    (fun y : S512x1024.Idx => groupLane (nextRow x0 x1 x2 x3 x4 x5 x6 x7 x8 (y 0)) (fun i k => x9 (ix2 i k)) 0 (by omega) (y 1)) _ ?_ y (cover0_11 _ _ _ _ y)
  intro p hp x
  have one (a : ℕ) : a + 1 * (x 1).val = a + (x 1).val := by omega
  simp only [List.mem_cons, List.not_mem_nil, or_false] at hp
  rcases hp with rfl | rfl | rfl | rfl
  · exact (congrArg _ (eq_ix2 x)).trans ((piece_3a _ _ (x 0) (x 1)).trans (piece_lane x0 x1 x2 x3 x4 x5 x6 x7 x8 x9 0 (by omega) 3 (by omega) _ _ (x 0) (x 1)
      (nextRow_read x0 x1 x2 x3 x4 x5 x6 x7 x8 x9 (x 0)) (table_ld x9) _ _ ((Nat.zero_add _).trans (Nat.one_mul _)) (one 768)))
  · exact (congrArg _ (eq_ix2 x)).trans ((piece_2a _ _ (x 0) (x 1)).trans (piece_lane x0 x1 x2 x3 x4 x5 x6 x7 x8 x9 0 (by omega) 2 (by omega) _ _ (x 0) (x 1)
      (nextRow_read x0 x1 x2 x3 x4 x5 x6 x7 x8 x9 (x 0)) (table_ld x9) _ _ ((Nat.zero_add _).trans (Nat.one_mul _)) (one 512)))
  · exact (congrArg _ (eq_ix2 x)).trans ((piece_1a _ _ _ _ _ (x 0) (x 1)).trans (piece_lane x0 x1 x2 x3 x4 x5 x6 x7 x8 x9 0 (by omega) 1 (by omega) _ _ (x 0) (x 1)
      (nextRow_read x0 x1 x2 x3 x4 x5 x6 x7 x8 x9 (x 0)) (table_ld x9) _ _ ((Nat.zero_add _).trans (Nat.one_mul _)) (one 256)))
  · exact (congrArg _ (eq_ix2 x)).trans ((piece_0a _ _ _ _ _ (x 0) (x 1)).trans (piece_lane x0 x1 x2 x3 x4 x5 x6 x7 x8 x9 0 (by omega) 0 (by omega) _ _ (x 0) (x 1)
      (nextRow_read x0 x1 x2 x3 x4 x5 x6 x7 x8 x9 (x 0)) (table_ld x9) _ _ ((Nat.zero_add _).trans (Nat.one_mul _)) (one 0)))

theorem out12_apply (y : S512x1024.Idx) : out0_12 x0 x1 x2 x3 x4 x5 x6 x7 x8 x9 y
    = groupLane (nextRow x0 x1 x2 x3 x4 x5 x6 x7 x8 (y 0)) (fun i k => x9 (ix2 i k)) 256 (by omega) (y 1) := by
  unfold out0_12 k0_pay23
  refine View.canon_apply_of_pieces (Val := Elt Ideal) (e := .bf16)
    (fun y : S512x1024.Idx => groupLane (nextRow x0 x1 x2 x3 x4 x5 x6 x7 x8 (y 0)) (fun i k => x9 (ix2 i k)) 256 (by omega) (y 1)) _ ?_ y (cover0_12 _ _ _ _ y)
  intro p hp x
  have one (a : ℕ) : a + 1 * (x 1).val = a + (x 1).val := by omega
  simp only [List.mem_cons, List.not_mem_nil, or_false] at hp
  rcases hp with rfl | rfl | rfl | rfl
  · exact (congrArg _ (eq_ix2 x)).trans ((piece_3b _ _ (x 0) (x 1)).trans (piece_lane x0 x1 x2 x3 x4 x5 x6 x7 x8 x9 256 (by omega) 3 (by omega) _ _ (x 0) (x 1)
      (nextRow_read x0 x1 x2 x3 x4 x5 x6 x7 x8 x9 (x 0)) (table_ld x9) _ _ ((Nat.zero_add _).trans (Nat.one_mul _)) (one 768)))
  · exact (congrArg _ (eq_ix2 x)).trans ((piece_2b _ _ (x 0) (x 1)).trans (piece_lane x0 x1 x2 x3 x4 x5 x6 x7 x8 x9 256 (by omega) 2 (by omega) _ _ (x 0) (x 1)
      (nextRow_read x0 x1 x2 x3 x4 x5 x6 x7 x8 x9 (x 0)) (table_ld x9) _ _ ((Nat.zero_add _).trans (Nat.one_mul _)) (one 512)))
  · exact (congrArg _ (eq_ix2 x)).trans ((piece_1b _ _ _ _ _ (x 0) (x 1)).trans (piece_lane x0 x1 x2 x3 x4 x5 x6 x7 x8 x9 256 (by omega) 1 (by omega) _ _ (x 0) (x 1)
      (nextRow_read x0 x1 x2 x3 x4 x5 x6 x7 x8 x9 (x 0)) (table_ld x9) _ _ ((Nat.zero_add _).trans (Nat.one_mul _)) (one 256)))
  · exact (congrArg _ (eq_ix2 x)).trans ((piece_0b _ _ _ _ _ (x 0) (x 1)).trans (piece_lane x0 x1 x2 x3 x4 x5 x6 x7 x8 x9 256 (by omega) 0 (by omega) _ _ (x 0) (x 1)
      (nextRow_read x0 x1 x2 x3 x4 x5 x6 x7 x8 x9 (x 0)) (table_ld x9) _ _ ((Nat.zero_add _).trans (Nat.one_mul _)) (one 0)))

end Cert.Post

end
-- ==== Proof.PostArray.lean ====
/- The three result arrays after the run, as rows of the arguments. -/
module

public import proofs.«01_k».proof.Proof.PostOut
public import Idealize.ShloMosaic.Lib.Claim
public import Idealize.ShloMosaic.Lib.StableHlo.RunRead

@[expose] public section

set_option maxRecDepth 16384

noncomputable section

namespace Cert.Post

open Cert.PostAttnIdeal Cert.PostAttnIdeal.Gen Idealize.ShloMosaic Idealize.ShloMosaic.TcCoe Idealize.SL.Sem
open Cert.Ctx (normLane)

variable (m : (ℓ : Loc nD τ sig) → Buf (Elt Ideal) ℓ) (c : Dev nD)

/-! ## The operands when the grid starts -/

theorem token_entry (b : Fin 8) (l : Fin 2048) (k : Fin 1024) :
    V m c main_v0 (ix2 ⟨b.val * 2048 + l.val, by omega⟩ k) = m ((c : Thread nD τ).loc main_arg0) (ix3 b l k) := by
  entry_read
  pointwise []
  blk_ext []

theorem attn_entry : V m c main_arg1 = m ((c : Thread nD τ).loc main_arg1) := V_main_arg1 m c

theorem mod_entry : V m c main_arg2 = m ((c : Thread nD τ).loc main_arg2) := V_main_arg2 m c

theorem nextMod_entry : V m c main_arg3 = m ((c : Thread nD τ).loc main_arg3) := V_main_arg3 m c

theorem gain_entry (k : Fin 1024) : V m c main_v5 (ix2 0 k) = m ((c : Thread nD τ).loc main_arg4) (ix1 k) := by
  entry_read
  pointwise []

theorem nextGain_entry (k : Fin 1024) : V m c main_v6 (ix2 0 k) = m ((c : Thread nD τ).loc main_arg5) (ix1 k) := by
  entry_read
  pointwise []

theorem proj_entry (k j : Fin 1024) : V m c main_v1 (ix2 k j) = m ((c : Thread nD τ).loc main_arg6) (ix2 k j) := by
  entry_read
  rfl

theorem up_entry (k : Fin 1024) (j : Fin 5632) : V m c main_v2 (ix2 k j) = m ((c : Thread nD τ).loc main_arg7) (ix2 k j) := by
  entry_read
  rfl

theorem down_entry (k : Fin 2816) (j : Fin 1024) : V m c main_v3 (ix2 k j) = m ((c : Thread nD τ).loc main_arg8) (ix2 k j) := by
  entry_read
  rfl

theorem table_entry (k : Fin 256) (j : Fin 512) : V m c main_v4 (ix2 k j) = m ((c : Thread nD τ).loc main_arg9) (ix2 k j) := by
  entry_read
  rfl

/-! ## The blocks -/

/-- Every window's block at every point. -/
theorem idx : ∀ t : Fin cfg0.N, win0_0.index t = ![t.val, 0] ∧ win0_1.index t = ![t.val, 0] ∧ win0_2.index t = ![1 + t.val / 4, 0, 0]
    ∧ win0_3.index t = ![1 + t.val / 4, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0]
    ∧ win0_12.index t = ![t.val, 0] ∧ t.val < 32 :=
  (by decide +kernel : ∀ t : Fin grid0.N, _)

theorem count (t : Fin cfg0.N) : t.val < 32 := (idx t).2.2.2.2.2.2.2.2.2.2.2.2.2

/-- The batch entry of a point, and the token of a block's row. -/
abbrev entryOf (t : Fin cfg0.N) : Fin 8 := ⟨t.val / 4, by have := count t; omega⟩

abbrev tokenOf (t : Fin cfg0.N) (p : Fin 512) : Fin 2048 := ⟨t.val % 4 * 512 + p.val, by omega⟩

theorem token_blk (t : Fin cfg0.N) (p : Fin 512) (k : Fin 1024) :
    iblk m c 0 t (ix2 p k) = V m c main_v0 (ix2 ⟨(entryOf t).val * 2048 + (tokenOf t p).val, by have := count t; omega⟩ k) := by
  blk_ext [iblk, idx t]

theorem attn_blk (t : Fin cfg0.N) (p : Fin 512) (k : Fin 1024) :
    iblk m c 1 t (ix2 p k) = V m c main_arg1 (ix2 ⟨(entryOf t).val * 2048 + (tokenOf t p).val, by have := count t; omega⟩ k) := by
  blk_ext [iblk, idx t]

theorem mod_blk (t : Fin cfg0.N) (a : Fin 6) (k : Fin 1024) :
    iblk m c 2 t (ix3 0 a k) = V m c main_arg2 (ix3 ⟨1 + (entryOf t).val, by have := count t; omega⟩ a k) := by
  blk_ext [iblk, idx t]

theorem nextMod_blk (t : Fin cfg0.N) (a : Fin 6) (k : Fin 1024) :
    iblk m c 3 t (ix3 0 a k) = V m c main_arg3 (ix3 ⟨1 + (entryOf t).val, by have := count t; omega⟩ a k) := by
  blk_ext [iblk, idx t]

theorem gain_blk (t : Fin cfg0.N) (k : Fin 1024) : iblk m c 4 t (ix2 0 k) = V m c main_v5 (ix2 0 k) := by
  blk_ext [iblk, idx t]

theorem nextGain_blk (t : Fin cfg0.N) (k : Fin 1024) : iblk m c 5 t (ix2 0 k) = V m c main_v6 (ix2 0 k) := by
  blk_ext [iblk, idx t]

theorem proj_blk (t : Fin cfg0.N) (k j : Fin 1024) : iblk m c 6 t (ix2 k j) = V m c main_v1 (ix2 k j) := by
  blk_ext [iblk, idx t]

theorem up_blk (t : Fin cfg0.N) (k : Fin 1024) (j : Fin 5632) : iblk m c 7 t (ix2 k j) = V m c main_v2 (ix2 k j) := by
  blk_ext [iblk, idx t]

theorem down_blk (t : Fin cfg0.N) (k : Fin 2816) (j : Fin 1024) : iblk m c 8 t (ix2 k j) = V m c main_v3 (ix2 k j) := by
  blk_ext [iblk, idx t]

theorem table_blk (t : Fin cfg0.N) (k : Fin 256) (j : Fin 512) : iblk m c 9 t (ix2 k j) = V m c main_v4 (ix2 k j) := by
  blk_ext [iblk, idx t]

/-! ## The rows -/

/-- A token's row after the layer, from the arguments on device `c`. -/
def layerAt (b : Fin 8) (l : Fin 2048) : Fin 1024 → EReal :=
  layerLane (fun k => m ((c : Thread nD τ).loc main_arg0) (ix3 b l k))
    (fun k => m ((c : Thread nD τ).loc main_arg1) (ix2 ⟨b.val * 2048 + l.val, by omega⟩ k))
    (fun a k => m ((c : Thread nD τ).loc main_arg2) (ix3 ⟨1 + b.val, by omega⟩ a k)) (fun k => m ((c : Thread nD τ).loc main_arg4) (ix1 k))
    (fun k j => m ((c : Thread nD τ).loc main_arg6) (ix2 k j)) (fun k j => m ((c : Thread nD τ).loc main_arg7) (ix2 k j))
    (fun k j => m ((c : Thread nD τ).loc main_arg8) (ix2 k j))

/-- The row that the next layer starts from. -/
def nextAt (b : Fin 8) (l : Fin 2048) : Fin 1024 → EReal :=
  normLane (layerAt m c b l) (fun k => m ((c : Thread nD τ).loc main_arg5) (ix1 k))
    (fun k => m ((c : Thread nD τ).loc main_arg3) (ix3 ⟨1 + b.val, by omega⟩ 1 k))
    (fun k => m ((c : Thread nD τ).loc main_arg3) (ix3 ⟨1 + b.val, by omega⟩ 0 k))

theorem layer_blk (t : Fin cfg0.N) (p : Fin 512) :
    blockLane (iblk m c 0 t) (iblk m c 1 t) (iblk m c 2 t) (iblk m c 4 t) (iblk m c 6 t) (iblk m c 7 t) (iblk m c 8 t) p
      = layerAt m c (entryOf t) (tokenOf t p) :=
  congr (congr (congr (congr (congr (congr (congrArg layerLane
    (funext fun k => (token_blk m c t p k).trans (token_entry m c (entryOf t) (tokenOf t p) k)))
    (funext fun k => (attn_blk m c t p k).trans (congrFun (attn_entry m c) _)))
    (funext fun a => funext fun k => (mod_blk m c t a k).trans (congrFun (mod_entry m c) _)))
    (funext fun k => (gain_blk m c t k).trans (gain_entry m c k)))
    (funext fun k => funext fun j => (proj_blk m c t k j).trans (proj_entry m c k j)))
    (funext fun k => funext fun j => (up_blk m c t k j).trans (up_entry m c k j)))
    (funext fun k => funext fun j => (down_blk m c t k j).trans (down_entry m c k j))

theorem next_blk (t : Fin cfg0.N) (p : Fin 512) :
    nextRow (iblk m c 0 t) (iblk m c 1 t) (iblk m c 2 t) (iblk m c 3 t) (iblk m c 4 t) (iblk m c 5 t) (iblk m c 6 t) (iblk m c 7 t) (iblk m c 8 t) p
      = nextAt m c (entryOf t) (tokenOf t p) :=
  congr (congr (congr (congrArg normLane (layer_blk m c t p)) (funext fun k => (nextGain_blk m c t k).trans (nextGain_entry m c k)))
    (funext fun k => (nextMod_blk m c t 1 k).trans (congrFun (nextMod_entry m c) _)))
    (funext fun k => (nextMod_blk m c t 0 k).trans (congrFun (nextMod_entry m c) _))

/-- A half of a token's spectrum. -/
def spectrumAt (o : ℕ) (ho : o + 256 ≤ 512) (b : Fin 8) (l : Fin 2048) : Fin 1024 → EReal :=
  groupLane (nextAt m c b l) (fun i k => m ((c : Thread nD τ).loc main_arg9) (ix2 i k)) o ho

theorem spectrum_blk (o : ℕ) (ho : o + 256 ≤ 512) (t : Fin cfg0.N) (p : Fin 512) (j : Fin 1024) :
    groupLane (nextRow (iblk m c 0 t) (iblk m c 1 t) (iblk m c 2 t) (iblk m c 3 t) (iblk m c 4 t) (iblk m c 5 t) (iblk m c 6 t) (iblk m c 7 t) (iblk m c 8 t) p)
        (fun i k => iblk m c 9 t (ix2 i k)) o ho j = spectrumAt m c o ho (entryOf t) (tokenOf t p) j :=
  congrArg₂ (fun h T => groupLane h T o ho j) (next_blk m c t p)
    (funext fun i => funext fun k => (table_blk m c t i k).trans (table_entry m c i k))

/-- An array of rows, one for each token. -/
def rows (f : Fin 8 → Fin 2048 → Fin 1024 → EReal) (i : S16384x1024.Idx) : EReal :=
  f ⟨(i 0).val / 2048, by have := (i 0).isLt; change (i 0).val < 16384 at this; omega⟩ ⟨(i 0).val % 2048, by omega⟩ (i 1)

theorem rows_blk (f : Fin 8 → Fin 2048 → Fin 1024 → EReal) (t : Fin cfg0.N) (p : Fin 512) (j : Fin 1024) (i : S16384x1024.Idx)
    (h0 : (i 0).val = t.val * 512 + p.val) (h1 : (i 1).val = j.val) : f (entryOf t) (tokenOf t p) j = rows f i := by
  have hb : entryOf t = ⟨(i 0).val / 2048, by have := (i 0).isLt; change (i 0).val < 16384 at this; omega⟩ :=
    Fin.ext (by show t.val / 4 = (i 0).val / 2048; omega)
  have hl : tokenOf t p = ⟨(i 0).val % 2048, by omega⟩ := Fin.ext (by show t.val % 4 * 512 + p.val = (i 0).val % 2048; omega)
  have hj : j = i 1 := Fin.ext h1.symm
  rw [hb, hl, hj]
  rfl

theorem layer_final : (dats m 0 c).arrAt 10 cfg0.N = fun i : S16384x1024.Idx => (rows (layerAt m c) i : Elt Ideal .f32) := by
  refine (dats m 0 c).arrAt_eq_of_covers 10 _ (by decide +kernel) fun t _ y => ?_
  blk_simp
  rw [after0_10]
  refine (congrArg _ (eq_ix2 y)).trans ((out10_read _ _ _ _ _ _ _ _ _ _ (y 0) (y 1)).trans ((congrFun (layer_blk m c t (y 0)) (y 1)).trans ?_))
  refine rows_blk _ t (y 0) (y 1) _ ?_ ?_
  · blk_simp [idx t]
  · blk_simp [idx t]

theorem cosine_final : (dats m 0 c).arrAt 11 cfg0.N = fun i : S16384x1024.Idx => (rows (spectrumAt m c 0 (by omega)) i : Elt Ideal .bf16) := by
  refine (dats m 0 c).arrAt_eq_of_covers 11 _ (by decide +kernel) fun t _ y => ?_
  blk_simp
  rw [after0_11]
  refine (out11_apply _ _ _ _ _ _ _ _ _ _ y).trans ((spectrum_blk m c 0 (by omega) t (y 0) (y 1)).trans ?_)
  refine rows_blk _ t (y 0) (y 1) _ ?_ ?_
  · blk_simp [idx t]
  · blk_simp [idx t]

theorem sine_final : (dats m 0 c).arrAt 12 cfg0.N = fun i : S16384x1024.Idx => (rows (spectrumAt m c 256 (by omega)) i : Elt Ideal .bf16) := by
  refine (dats m 0 c).arrAt_eq_of_covers 12 _ (by decide +kernel) fun t _ y => ?_
  blk_simp
  rw [after0_12]
  refine (out12_apply _ _ _ _ _ _ _ _ _ _ y).trans ((spectrum_blk m c 256 (by omega) t (y 0) (y 1)).trans ?_)
  refine rows_blk _ t (y 0) (y 1) _ ?_ ?_
  · blk_simp [idx t]
  · blk_simp [idx t]

end Cert.Post

end
-- ==== Proof.PostRef.lean ====
/- The reference's dense layer at an index: a token's row, from the arguments. -/
module

public import proofs.«01_k».proof.Proof.PostRow
public import proofs.«01_k».proof.Proof.Gen.DenseLayerIdeal.Read

@[expose] public section

set_option maxRecDepth 16384

noncomputable section

namespace Cert.Post

open Cert.DenseLayerIdeal Cert.DenseLayerIdeal.Gen Cert.DenseLayerIdeal.Read Idealize.ShloMosaic Idealize.ShloMosaic.TcCoe Idealize.SL.Sem
open Cert.Ctx (normLane)
open Cert.Moe (along hidden expertRow)

variable (x0 : (⟨S8x2048x1024, .f32⟩ : BufTy).Contents (Elt Ideal)) (x1 : (⟨S16384x1024, .bf16⟩ : BufTy).Contents (Elt Ideal))
  (x2 x3 : (⟨S16x6x1024, .f32⟩ : BufTy).Contents (Elt Ideal)) (x4 x5 : (⟨S1024, .f32⟩ : BufTy).Contents (Elt Ideal))
  (x6 : (⟨S1024x1024, .f32⟩ : BufTy).Contents (Elt Ideal)) (x7 : (⟨S1024x5632, .f32⟩ : BufTy).Contents (Elt Ideal))
  (x8 : (⟨S2816x1024, .f32⟩ : BufTy).Contents (Elt Ideal)) (x9 : (⟨S256x512, .f32⟩ : BufTy).Contents (Elt Ideal))

/-! ## The modulation rows of a batch entry -/

theorem gate_apply (b : Fin 8) (k : Fin 1024) : val_main_v8 x2 (ix3 b 0 k) = x2 (ix3 ⟨1 + b.val, by omega⟩ 2 k) := by
  pointwise [val_main_v8, val_main_v7, val_main_v6]

theorem shift_apply (b : Fin 8) (k : Fin 1024) : val_main_v11 x2 (ix3 b 0 k) = x2 (ix3 ⟨1 + b.val, by omega⟩ 3 k) := by
  pointwise [val_main_v11, val_main_v10, val_main_v9]

theorem scale_apply (b : Fin 8) (k : Fin 1024) : val_main_v14 x2 (ix3 b 0 k) = x2 (ix3 ⟨1 + b.val, by omega⟩ 4 k) := by
  pointwise [val_main_v14, val_main_v13, val_main_v12]

theorem gate2_apply (b : Fin 8) (k : Fin 1024) : val_main_v17 x2 (ix3 b 0 k) = x2 (ix3 ⟨1 + b.val, by omega⟩ 5 k) := by
  pointwise [val_main_v17, val_main_v16, val_main_v15]

theorem nextShift_apply (b : Fin 8) (k : Fin 1024) : val_main_v54 x3 (ix3 b 0 k) = x3 (ix3 ⟨1 + b.val, by omega⟩ 0 k) := by
  pointwise [val_main_v54, val_main_v53, val_main_v52]

theorem nextScale_apply (b : Fin 8) (k : Fin 1024) : val_main_v57 x3 (ix3 b 0 k) = x3 (ix3 ⟨1 + b.val, by omega⟩ 1 k) := by
  pointwise [val_main_v57, val_main_v56, val_main_v55]

/-! ## The layer -/

theorem attn_apply (b : Fin 8) (l : Fin 2048) (k : Fin 1024) : val_main_v19 (F := Ideal) x1 (ix3 b l k) = x1 (ix2 ⟨b.val * 2048 + l.val, by omega⟩ k) := by
  pointwise [val_main_v19, val_main_v18]
  blk_ext []

theorem mixed_apply (b : Fin 8) (l : Fin 2048) (j : Fin 1024) : val_main_v23 x0 x1 x2 x6 (ix3 b l j)
    = mixedLane (fun k => x0 (ix3 b l k)) (fun k => x1 (ix2 ⟨b.val * 2048 + l.val, by omega⟩ k)) (fun k => x2 (ix3 ⟨1 + b.val, by omega⟩ 2 k))
        (fun k j => x6 (ix2 k j)) j := by
  pointwise [val_main_v23, val_main_v22, val_main_v21, val_main_v20, gate_apply, attn_apply]
  rfl

theorem normed_apply (b : Fin 8) (l : Fin 2048) (j : Fin 1024) : val_main_v42 x0 x1 x2 x4 x6 (ix3 b l j)
    = normLane (fun k => val_main_v23 x0 x1 x2 x6 (ix3 b l k)) (fun k => x4 (ix1 k)) (fun k => x2 (ix3 ⟨1 + b.val, by omega⟩ 4 k))
        (fun k => x2 (ix3 ⟨1 + b.val, by omega⟩ 3 k)) j := by
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_cst, val_main_cst_0,
    val_main_cst_1, val_main_cst_2, shift_apply, scale_apply]
  rfl

theorem up_apply (b : Fin 8) (l : Fin 2048) (j : Fin 5632) : val_main_v43 x0 x1 x2 x4 x6 x7 (ix3 b l j)
    = along (fun k => val_main_v42 x0 x1 x2 x4 x6 (ix3 b l k)) (fun k j => x7 (ix2 k j)) j := by
  pointwise [val_main_v43]
  rfl

theorem hidden_apply (b : Fin 8) (l : Fin 2048) (j : Fin 2816) : val_main_v47 x0 x1 x2 x4 x6 x7 (ix3 b l j)
    = hidden (fun k => val_main_v42 x0 x1 x2 x4 x6 (ix3 b l k)) (fun k j => x7 (ix2 k j)) j := by
  have hg : val_main_v44 x0 x1 x2 x4 x6 x7 (ix3 b l j) = val_main_v43 x0 x1 x2 x4 x6 x7 (ix3 b l ⟨j.val, by omega⟩) := by
    pointwise [val_main_v44]
  have hu : val_main_v45 x0 x1 x2 x4 x6 x7 (ix3 b l j) = val_main_v43 x0 x1 x2 x4 x6 x7 (ix3 b l ⟨2816 + j.val, by omega⟩) := by
    pointwise [val_main_v45]
  pointwise [val_main_v47, val_main_v46, val_main_call0_v5, val_main_call0_v4, val_main_call0_v3, val_main_call0_v2, val_main_call0_v1, val_main_call0_v0,
    val_main_call0_cst, val_main_call0_cst_0, hg, hu, up_apply]
  rfl

theorem down_apply (b : Fin 8) (l : Fin 2048) (j : Fin 1024) : val_main_v48 x0 x1 x2 x4 x6 x7 x8 (ix3 b l j)
    = expertRow (fun k => val_main_v42 x0 x1 x2 x4 x6 (ix3 b l k)) (fun k j => x7 (ix2 k j)) (fun k j => x8 (ix2 k j)) j := by
  pointwise [val_main_v48, hidden_apply]
  rfl

/-- The reference's row of a token. -/
abbrev refLane (b : Fin 8) (l : Fin 2048) : Fin 1024 → EReal :=
  layerLane (fun k => x0 (ix3 b l k)) (fun k => x1 (ix2 ⟨b.val * 2048 + l.val, by omega⟩ k)) (fun a k => x2 (ix3 ⟨1 + b.val, by omega⟩ a k))
    (fun k => x4 (ix1 k)) (fun k j => x6 (ix2 k j)) (fun k j => x7 (ix2 k j)) (fun k j => x8 (ix2 k j))

theorem layer_apply (b : Fin 8) (l : Fin 2048) (j : Fin 1024) : val_main_v51 x0 x1 x2 x4 x6 x7 x8 (ix3 b l j) = refLane x0 x1 x2 x4 x6 x7 x8 b l j := by
  have h : (fun k => val_main_v42 x0 x1 x2 x4 x6 (ix3 b l k)) = normLane (mixedLane (fun k => x0 (ix3 b l k)) (fun k => x1 (ix2 ⟨b.val * 2048 + l.val, by omega⟩ k))
      (fun k => x2 (ix3 ⟨1 + b.val, by omega⟩ 2 k)) (fun k j => x6 (ix2 k j))) (fun k => x4 (ix1 k)) (fun k => x2 (ix3 ⟨1 + b.val, by omega⟩ 4 k))
      (fun k => x2 (ix3 ⟨1 + b.val, by omega⟩ 3 k)) :=
    funext fun k => (normed_apply x0 x1 x2 x4 x6 b l k).trans (congrArg (fun f => normLane f _ _ _ k) (funext (mixed_apply x0 x1 x2 x6 b l)))
  pointwise [val_main_v51, val_main_v50, val_main_v49, gate2_apply, mixed_apply, down_apply]
  rw [h]
  rfl

/-- The next layer's normalised row of a token. -/
abbrev refNext (b : Fin 8) (l : Fin 2048) : Fin 1024 → EReal :=
  normLane (refLane x0 x1 x2 x4 x6 x7 x8 b l) (fun k => x5 (ix1 k)) (fun k => x3 (ix3 ⟨1 + b.val, by omega⟩ 1 k)) (fun k => x3 (ix3 ⟨1 + b.val, by omega⟩ 0 k))

theorem next_apply (b : Fin 8) (l : Fin 2048) (j : Fin 1024) : val_main_v88 x0 x1 x2 x3 x4 x5 x6 x7 x8 (ix3 b l j) = refNext x0 x1 x2 x3 x4 x5 x6 x7 x8 b l j := by
  refine Eq.trans (b := normLane (fun k => val_main_v51 x0 x1 x2 x4 x6 x7 x8 (ix3 b l k)) (fun k => x5 (ix1 k)) (fun k => x3 (ix3 ⟨1 + b.val, by omega⟩ 1 k))
    (fun k => x3 (ix3 ⟨1 + b.val, by omega⟩ 0 k)) j) ?_ (congrArg (fun f => normLane f _ _ _ j) (funext (layer_apply x0 x1 x2 x4 x6 x7 x8 b l)))
  pointwise [val_main_v88, val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_v70, val_main_cst_3, val_main_cst_4,
    val_main_cst_5, val_main_cst_6, nextShift_apply, nextScale_apply]
  rfl

theorem spectrum_apply (b : Fin 8) (l : Fin 2048) (q : Fin 4) (j : Fin 512) : val_main_v90 x0 x1 x2 x3 x4 x5 x6 x7 x8 x9 (ix4 b l q j)
    = ∑ i : Fin 256, refNext x0 x1 x2 x3 x4 x5 x6 x7 x8 b l ⟨q.val * 256 + i.val, by omega⟩ * x9 (ix2 i j) := by
  have h (i : Fin 256) : val_main_v89 x0 x1 x2 x3 x4 x5 x6 x7 x8 (ix4 b l q i) = refNext x0 x1 x2 x3 x4 x5 x6 x7 x8 b l ⟨q.val * 256 + i.val, by omega⟩ := by
    refine Eq.trans ?_ (next_apply x0 x1 x2 x3 x4 x5 x6 x7 x8 b l ⟨q.val * 256 + i.val, by omega⟩)
    pointwise [val_main_v89]
    blk_ext []
  pointwise [val_main_v90, h]

theorem first_apply (b : Fin 8) (l : Fin 2048) (j : Fin 1024) : val_main_v91 x0 x1 x2 x4 x6 x7 x8 (ix2 ⟨b.val * 2048 + l.val, by omega⟩ j)
    = refLane x0 x1 x2 x4 x6 x7 x8 b l j := by
  refine Eq.trans ?_ (layer_apply x0 x1 x2 x4 x6 x7 x8 b l j)
  pointwise [val_main_v91]
  blk_ext []

theorem second_apply (b : Fin 8) (l : Fin 2048) (j : Fin 1024) :
    val_main_v94 x0 x1 x2 x3 x4 x5 x6 x7 x8 x9 (ix2 ⟨b.val * 2048 + l.val, by omega⟩ j)
      = groupLane (refNext x0 x1 x2 x3 x4 x5 x6 x7 x8 b l) (fun i k => x9 (ix2 i k)) 0 (by omega) j := by
  refine Eq.trans ?_ (spectrum_apply x0 x1 x2 x3 x4 x5 x6 x7 x8 x9 b l ⟨j.val / 256, by omega⟩ ⟨0 + j.val % 256, by omega⟩)
  pointwise [val_main_v94, val_main_v93, val_main_v92]
  blk_ext []

theorem third_apply (b : Fin 8) (l : Fin 2048) (j : Fin 1024) :
    val_main_v97 x0 x1 x2 x3 x4 x5 x6 x7 x8 x9 (ix2 ⟨b.val * 2048 + l.val, by omega⟩ j)
      = groupLane (refNext x0 x1 x2 x3 x4 x5 x6 x7 x8 b l) (fun i k => x9 (ix2 i k)) 256 (by omega) j := by
  refine Eq.trans ?_ (spectrum_apply x0 x1 x2 x3 x4 x5 x6 x7 x8 x9 b l ⟨j.val / 256, by omega⟩ ⟨256 + j.val % 256, by omega⟩)
  pointwise [val_main_v97, val_main_v96, val_main_v95]
  blk_ext []

end Cert.Post

end
-- ==== Proof.PostCompare.lean ====
/- The dense layer compared: the grid's three arrays hold the reference's rows. -/
module

public import proofs.«01_k».proof.Proof.PostArray
public import proofs.«01_k».proof.Proof.PostRef
public import proofs.«01_k».proof.Proof.Gen.PostAttn.Frame
public import proofs.«01_k».proof.Proof.Gen.PostAttnIdeal.Value
public import proofs.«01_k».proof.Proof.Gen.DenseLayerIdeal.Run
public import proofs.«01_k».proof.Defs

@[expose] public section

set_option maxRecDepth 16384

noncomputable section

namespace Cert.Post

open Cert.PostAttnIdeal Cert.PostAttnIdeal.Gen Idealize.ShloMosaic Idealize.ShloMosaic.TcCoe Idealize.SL.Sem

variable (m : (ℓ : Loc nD τ sig) → Buf (Elt Ideal) ℓ) (c : Dev nD)

/-- Every row of the array is a token of a batch entry. -/
theorem token_index (i : S16384x1024.Idx) : ∃ (b : Fin 8) (l : Fin 2048) (j : Fin 1024), i = ix2 ⟨b.val * 2048 + l.val, by omega⟩ j := by
  have h : (i 0).val < 16384 := (i 0).isLt
  refine ⟨⟨(i 0).val / 2048, by omega⟩, ⟨(i 0).val % 2048, by omega⟩, i 1, (eq_ix2 i).trans ?_⟩
  exact congrArg (fun r => ix2 r (i 1)) (Fin.ext (by show (i 0).val = (i 0).val / 2048 * 2048 + (i 0).val % 2048; omega))

theorem rows_at (f : Fin 8 → Fin 2048 → Fin 1024 → EReal) (b : Fin 8) (l : Fin 2048) (j : Fin 1024) :
    rows f (ix2 ⟨b.val * 2048 + l.val, by omega⟩ j) = f b l j := by
  have hb : (⟨(b.val * 2048 + l.val) / 2048, by omega⟩ : Fin 8) = b := Fin.ext (by show (b.val * 2048 + l.val) / 2048 = b.val; omega)
  have hl : (⟨(b.val * 2048 + l.val) % 2048, by omega⟩ : Fin 2048) = l := Fin.ext (by show (b.val * 2048 + l.val) % 2048 = l.val; omega)
  show f ⟨(b.val * 2048 + l.val) / 2048, _⟩ ⟨(b.val * 2048 + l.val) % 2048, _⟩ j = f b l j
  rw [hb, hl]

theorem layer_eq : (dats m 0 c).arrAt 10 cfg0.N = Cert.DenseLayerIdeal.Read.val_main_v91 (F := Ideal) (m ((c.tc : Thread nD τ).loc main_arg0))
    (m ((c.tc : Thread nD τ).loc main_arg1)) (m ((c.tc : Thread nD τ).loc main_arg2)) (m ((c.tc : Thread nD τ).loc main_arg4))
    (m ((c.tc : Thread nD τ).loc main_arg6)) (m ((c.tc : Thread nD τ).loc main_arg7)) (m ((c.tc : Thread nD τ).loc main_arg8)) := by
  refine (layer_final m c).trans (funext fun i => ?_)
  obtain ⟨b, l, j, rfl⟩ := token_index i
  exact (rows_at _ b l j).trans (first_apply _ _ _ _ _ _ _ b l j).symm

theorem cosine_eq : (dats m 0 c).arrAt 11 cfg0.N = Cert.DenseLayerIdeal.Read.val_main_v94 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := by
  refine (cosine_final m c).trans (funext fun i => ?_)
  obtain ⟨b, l, j, rfl⟩ := token_index i
  exact (rows_at _ b l j).trans (second_apply _ _ _ _ _ _ _ _ _ _ b l j).symm

theorem sine_eq : (dats m 0 c).arrAt 12 cfg0.N = Cert.DenseLayerIdeal.Read.val_main_v97 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := by
  refine (sine_final m c).trans (funext fun i => ?_)
  obtain ⟨b, l, j, rfl⟩ := token_index i
  exact (rows_at _ b l j).trans (third_apply _ _ _ _ _ _ _ _ _ _ b l j).symm

theorem frame_dense : Cert.quiescent_DenseLayerIdeal := fun m ρ _ => (θ_run (Cert.DenseLayerIdeal.defs (F := Ideal)) _ _).mono
  (fun r h => ⟨fun c => (h c).2.2.2, Idealize.ShloMosaic.sem_eq_zero_of_no_sems (by decide) r.2⟩) (Cert.DenseLayerIdeal.Value.run (F := Ideal) m ρ)

/-- A function of ten arguments at equal arguments. -/
theorem ten_congr {A0 A1 A2 A3 A4 A5 A6 A7 A8 A9 B : Type} (f : A0 → A1 → A2 → A3 → A4 → A5 → A6 → A7 → A8 → A9 → B)
    {x0 y0 : A0} {x1 y1 : A1} {x2 y2 : A2} {x3 y3 : A3} {x4 y4 : A4} {x5 y5 : A5} {x6 y6 : A6} {x7 y7 : A7} {x8 y8 : A8} {x9 y9 : A9}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) : f x0 x1 x2 x3 x4 x5 x6 x7 x8 x9 = f y0 y1 y2 y3 y4 y5 y6 y7 y8 y9 := by
  subst h0 h1 h2 h3 h4 h5 h6 h7 h8 h9
  rfl

theorem algebraic : Cert.algebraic_PostAttnIdeal_DenseLayerIdeal := by
  intro m g m' g' _ hagree
  refine ⟨fun c => (dats m 0 c).arrAt 10 cfg0.N, fun c => (dats m 0 c).arrAt 11 cfg0.N, fun c => (dats m 0 c).arrAt 12 cfg0.N,
    Cert.PostAttnIdeal.Value.run_blocks m g, (θ_run _ _ _).mono (fun r h c => ?_) (Cert.DenseLayerIdeal.Value.run (F := Ideal) m' g')⟩
  obtain ⟨h0, h1, h2, h3, h4, h5, h6, h7, h8, h9⟩ := hagree c
  refine ⟨(h c).1.trans ((Cert.DenseLayerIdeal.Read.val_main_v91_eq _ _).trans (Eq.trans ?_ (layer_eq m c).symm)),
    (h c).2.1.trans ((Cert.DenseLayerIdeal.Read.val_main_v94_eq _ _).trans (Eq.trans ?_ (cosine_eq m c).symm)),
    (h c).2.2.1.trans ((Cert.DenseLayerIdeal.Read.val_main_v97_eq _ _).trans (Eq.trans ?_ (sine_eq m c).symm)), (h c).2.2.2⟩
  · exact congr (congr (congr (congr (congr (congr (congrArg (Cert.DenseLayerIdeal.Read.val_main_v91 (F := Ideal)) h0) h1) h2) h4) h6) h7) h8
  · exact ten_congr (Cert.DenseLayerIdeal.Read.val_main_v94 (F := Ideal)) h0 h1 h2 h3 h4 h5 h6 h7 h8 h9
  · exact ten_congr (Cert.DenseLayerIdeal.Read.val_main_v97 (F := Ideal)) h0 h1 h2 h3 h4 h5 h6 h7 h8 h9

end Cert.Post

end
-- ==== Proof.ProjRow.lean ====
/- A token's queries, keys and values over the extended reals: the rotation of a head's lanes, and the body's pieces. -/
module

public import proofs.«01_k».proof.Proof.CtxRow
public import proofs.«01_k».proof.Proof.Gen.ProjectIdeal.Frame
public import Idealize.ShloMosaic.Lib.Pointwise
public import Idealize.ShloMosaic.Lib.Pipeline.ValueKit
public import Idealize.ShloMosaic.Lib.KernelVsHost

@[expose] public section

set_option maxRecDepth 16384

noncomputable section

namespace Cert.Proj

open Cert.ProjectIdeal Cert.ProjectIdeal.Gen Idealize.ShloMosaic Idealize.ShloMosaic.TcCoe Idealize.SL.Sem
open Cert.Ctx (projLane)

/-- One lane of a token's heads after the rotation: the lane by its cosine, its partner sixteen lanes on or back by its sine. -/
def rotLane (y : Fin 1024 → EReal) (C S : Fin 64 → EReal) (j : Fin 1024) : EReal :=
  y j * C ⟨j.val % 64, by omega⟩
    + (if h : j.val % 32 < 16 then -y ⟨j.val + 16, by omega⟩ else y ⟨j.val - 16, by omega⟩) * S ⟨j.val % 64, by omega⟩

/-- One lane of head `q` as the body computes it: the lane and its two neighbours sixteen lanes away, each by a table. -/
def turnLane (y : Fin 1024 → EReal) (C A B : Fin 128 → EReal) (q : ℕ) (hq : q < 8) (d : Fin 128) : EReal :=
  y ⟨q * 128 + d.val, by omega⟩ * C d + y ⟨q * 128 + (d.val + 128 - 112) % 128, by omega⟩ * A d + y ⟨q * 128 + (d.val + 128 - 16) % 128, by omega⟩ * B d

/-- A sum of that form, at lanes with those numbers. -/
theorem turn_of (y : Fin 1024 → EReal) (C A B : Fin 128 → EReal) (q : ℕ) (hq : q < 8) (d : Fin 128) (i j k : Fin 1024) (hi : i.val = q * 128 + d.val)
    (hj : j.val = q * 128 + (d.val + 128 - 112) % 128) (hk : k.val = q * 128 + (d.val + 128 - 16) % 128) :
    y i * C d + y j * A d + y k * B d = turnLane y C A B q hq d := by
  unfold turnLane
  rw [show i = ⟨q * 128 + d.val, by omega⟩ from Fin.ext hi, show j = ⟨q * 128 + (d.val + 128 - 112) % 128, by omega⟩ from Fin.ext hj,
    show k = ⟨q * 128 + (d.val + 128 - 16) % 128, by omega⟩ from Fin.ext hk]

/-- The body's lane is the rotation's: of the two neighbours one has a zero table entry. -/
theorem turn_rot (y : Fin 1024 → EReal) (C S : Fin 64 → EReal) (q : ℕ) (hq : q < 8) (d : Fin 128) (j : Fin 1024) (hj : j.val = q * 128 + d.val) :
    turnLane y (fun d => C ⟨d.val % 64, by omega⟩) (fun d => if d.val % 32 < 16 then -S ⟨d.val % 64, by omega⟩ else 0)
      (fun d => if d.val % 32 < 16 then 0 else S ⟨d.val % 64, by omega⟩) q hq d = rotLane y C S j := by
  have h0 : (⟨q * 128 + d.val, by omega⟩ : Fin 1024) = j := Fin.ext hj.symm
  have h1 : (⟨j.val % 64, by omega⟩ : Fin 64) = ⟨d.val % 64, by omega⟩ := Fin.ext (by dsimp only; omega)
  unfold turnLane rotLane
  rw [h0, h1]
  dsimp only
  by_cases h : d.val % 32 < 16
  · have h' : j.val % 32 < 16 := by omega
    have h2 : (⟨q * 128 + (d.val + 128 - 112) % 128, by omega⟩ : Fin 1024) = ⟨j.val + 16, by omega⟩ := Fin.ext (by dsimp only; omega)
    rw [dif_pos h', if_pos h, if_pos h, h2, mul_zero, add_zero, neg_mul, mul_neg]
  · have h' : ¬ j.val % 32 < 16 := by omega
    have h2 : (⟨q * 128 + (d.val + 128 - 16) % 128, by omega⟩ : Fin 1024) = ⟨j.val - 16, by omega⟩ := Fin.ext (by dsimp only; omega)
    rw [dif_neg h', if_neg h, if_neg h, h2, mul_zero, add_zero]

/-- The factor of the queries. -/
abbrev queryScale : EReal := Named.named (F := Ideal) (φ := .f32) Cert.ProjectIdeal.κ "q_scale" 0x3E38AA3B#32

theorem proj_read (v0 : Vec Ideal S256x1024 .f32) (v2 : Vec Ideal S1x1024 .f32) (v16 v22 : Vec Ideal S1x1x1024 .f32) (v27 : Vec Ideal S1024x3072 .bf16)
    (p : Fin 256) (j : Fin 3072) :
    k0_pay5 v0 v2 v16 v22 v27 (ix2 p j)
      = projLane (fun k => v0 (ix2 p k)) (fun k => v2 (ix2 0 k)) (fun k => v16 (ix3 0 0 k)) (fun k => v22 (ix3 0 0 k)) (fun k => v27 (ix2 k j)) := by
  pointwise [k0_pay5]
  rfl

theorem query_0 (y : FVec Ideal S256x1024 .f32) (C A B : FVec Ideal S256x128 .f32) (r : Fin 256) (d : Fin 128) : k0_pay10 y C A B (ix2 r d)
    = turnLane (fun k => y (ix2 r k)) (fun d => C (ix2 r d)) (fun d => A (ix2 r d)) (fun d => B (ix2 r d)) 0 (by omega) d * queryScale := by
  pointwise [k0_pay10, k0_pay9]
  exact congrArg (· * queryScale) (turn_of (fun k => y (ix2 r k)) (fun d => C (ix2 r d)) (fun d => A (ix2 r d)) (fun d => B (ix2 r d)) 0 (by omega) d _ _ _ (by dsimp only <;> omega) (by dsimp only <;> omega) (by dsimp only <;> omega))

theorem query_1 (y : FVec Ideal S256x1024 .f32) (C A B : FVec Ideal S256x128 .f32) (r : Fin 256) (d : Fin 128) : k0_pay11 y C A B (ix2 r d)
    = turnLane (fun k => y (ix2 r k)) (fun d => C (ix2 r d)) (fun d => A (ix2 r d)) (fun d => B (ix2 r d)) 1 (by omega) d * queryScale := by
  pointwise [k0_pay11, k0_pay9]
  exact congrArg (· * queryScale) (turn_of (fun k => y (ix2 r k)) (fun d => C (ix2 r d)) (fun d => A (ix2 r d)) (fun d => B (ix2 r d)) 1 (by omega) d _ _ _ (by dsimp only <;> omega) (by dsimp only <;> omega) (by dsimp only <;> omega))

theorem query_2 (y : FVec Ideal S256x1024 .f32) (C A B : FVec Ideal S256x128 .f32) (r : Fin 256) (d : Fin 128) : k0_pay12 y C A B (ix2 r d)
    = turnLane (fun k => y (ix2 r k)) (fun d => C (ix2 r d)) (fun d => A (ix2 r d)) (fun d => B (ix2 r d)) 2 (by omega) d * queryScale := by
  pointwise [k0_pay12, k0_pay9]
  exact congrArg (· * queryScale) (turn_of (fun k => y (ix2 r k)) (fun d => C (ix2 r d)) (fun d => A (ix2 r d)) (fun d => B (ix2 r d)) 2 (by omega) d _ _ _ (by dsimp only <;> omega) (by dsimp only <;> omega) (by dsimp only <;> omega))

theorem query_3 (y : FVec Ideal S256x1024 .f32) (C A B : FVec Ideal S256x128 .f32) (r : Fin 256) (d : Fin 128) : k0_pay16 B (k0_pay13 y) (k0_pay14 y C) (k0_pay15 y A) (ix2 r d)
    = turnLane (fun k => y (ix2 r k)) (fun d => C (ix2 r d)) (fun d => A (ix2 r d)) (fun d => B (ix2 r d)) 3 (by omega) d * queryScale := by
  pointwise [k0_pay13, k0_pay14, k0_pay15, k0_pay16]
  exact congrArg (· * queryScale) (turn_of (fun k => y (ix2 r k)) (fun d => C (ix2 r d)) (fun d => A (ix2 r d)) (fun d => B (ix2 r d)) 3 (by omega) d _ _ _ (by dsimp only <;> omega) (by dsimp only <;> omega) (by dsimp only <;> omega))

theorem query_4 (y : FVec Ideal S256x1024 .f32) (C A B : FVec Ideal S256x128 .f32) (r : Fin 256) (d : Fin 128) : k0_pay17 y C A B (ix2 r d)
    = turnLane (fun k => y (ix2 r k)) (fun d => C (ix2 r d)) (fun d => A (ix2 r d)) (fun d => B (ix2 r d)) 4 (by omega) d * queryScale := by
  pointwise [k0_pay17]
  exact congrArg (· * queryScale) (turn_of (fun k => y (ix2 r k)) (fun d => C (ix2 r d)) (fun d => A (ix2 r d)) (fun d => B (ix2 r d)) 4 (by omega) d _ _ _ (by dsimp only <;> omega) (by dsimp only <;> omega) (by dsimp only <;> omega))

theorem query_5 (y : FVec Ideal S256x1024 .f32) (C A B : FVec Ideal S256x128 .f32) (r : Fin 256) (d : Fin 128) : k0_pay18 y C A B (ix2 r d)
    = turnLane (fun k => y (ix2 r k)) (fun d => C (ix2 r d)) (fun d => A (ix2 r d)) (fun d => B (ix2 r d)) 5 (by omega) d * queryScale := by
  pointwise [k0_pay18]
  exact congrArg (· * queryScale) (turn_of (fun k => y (ix2 r k)) (fun d => C (ix2 r d)) (fun d => A (ix2 r d)) (fun d => B (ix2 r d)) 5 (by omega) d _ _ _ (by dsimp only <;> omega) (by dsimp only <;> omega) (by dsimp only <;> omega))

theorem query_6 (y : FVec Ideal S256x1024 .f32) (C A B : FVec Ideal S256x128 .f32) (r : Fin 256) (d : Fin 128) : k0_pay20 (k0_pay19 y C A B) queryScale (ix2 r d)
    = turnLane (fun k => y (ix2 r k)) (fun d => C (ix2 r d)) (fun d => A (ix2 r d)) (fun d => B (ix2 r d)) 6 (by omega) d * queryScale := by
  pointwise [k0_pay19, k0_pay20]
  exact congrArg (· * queryScale) (turn_of (fun k => y (ix2 r k)) (fun d => C (ix2 r d)) (fun d => A (ix2 r d)) (fun d => B (ix2 r d)) 6 (by omega) d _ _ _ (by dsimp only <;> omega) (by dsimp only <;> omega) (by dsimp only <;> omega))

theorem query_7 (y : FVec Ideal S256x1024 .f32) (C A B : FVec Ideal S256x128 .f32) (r : Fin 256) (d : Fin 128) : k0_pay21 y C A B (ix2 r d)
    = turnLane (fun k => y (ix2 r k)) (fun d => C (ix2 r d)) (fun d => A (ix2 r d)) (fun d => B (ix2 r d)) 7 (by omega) d * queryScale := by
  pointwise [k0_pay21]
  exact congrArg (· * queryScale) (turn_of (fun k => y (ix2 r k)) (fun d => C (ix2 r d)) (fun d => A (ix2 r d)) (fun d => B (ix2 r d)) 7 (by omega) d _ _ _ (by dsimp only <;> omega) (by dsimp only <;> omega) (by dsimp only <;> omega))

theorem key_0 (y : FVec Ideal S256x3072 .f32) (C A B : Vec Ideal S256x128 .f32) (r : Fin 256) (d : Fin 128) : k0_pay26 y C A B (ix2 r d)
    = turnLane (fun k => y (ix2 r ⟨1024 + k.val, by omega⟩)) (fun d => C (ix2 r d)) (fun d => A (ix2 r d)) (fun d => B (ix2 r d)) 0 (by omega) d := by
  pointwise [k0_pay26, k0_pay22, k0_pay23, k0_pay24, k0_pay25]
  exact turn_of (fun k => y (ix2 r ⟨1024 + k.val, by omega⟩)) (fun d => C (ix2 r d)) (fun d => A (ix2 r d)) (fun d => B (ix2 r d)) 0 (by omega) d ⟨d.val, by omega⟩ ⟨(d.val + 128 - 112) % 128, by omega⟩ ⟨(d.val + 128 - 16) % 128, by omega⟩ (by dsimp only <;> omega) (by dsimp only <;> omega) (by dsimp only <;> omega)

theorem key_1 (y : FVec Ideal S256x3072 .f32) (C A B : Vec Ideal S256x128 .f32) (r : Fin 256) (d : Fin 128) : k0_pay29 (k0_pay25 B) (k0_pay27 y) (k0_pay28 y C A) 16#32 (ix2 r d)
    = turnLane (fun k => y (ix2 r ⟨1024 + k.val, by omega⟩)) (fun d => C (ix2 r d)) (fun d => A (ix2 r d)) (fun d => B (ix2 r d)) 1 (by omega) d := by
  pointwise [k0_pay25, k0_pay27, k0_pay28, k0_pay29, k0_pay22, k0_pay23, k0_pay24]
  exact turn_of (fun k => y (ix2 r ⟨1024 + k.val, by omega⟩)) (fun d => C (ix2 r d)) (fun d => A (ix2 r d)) (fun d => B (ix2 r d)) 1 (by omega) d ⟨128 + d.val, by omega⟩ ⟨128 + (d.val + 128 - 112) % 128, by omega⟩ ⟨128 + (d.val + 128 - 16) % 128, by omega⟩ (by dsimp only <;> omega) (by dsimp only <;> omega) (by dsimp only <;> omega)

theorem key_2 (y : FVec Ideal S256x1024 .f32) (C A B : FVec Ideal S256x128 .f32) (r : Fin 256) (d : Fin 128) : k0_pay30 y C A B (ix2 r d)
    = turnLane (fun k => y (ix2 r k)) (fun d => C (ix2 r d)) (fun d => A (ix2 r d)) (fun d => B (ix2 r d)) 2 (by omega) d := by
  pointwise [k0_pay30]
  exact turn_of (fun k => y (ix2 r k)) (fun d => C (ix2 r d)) (fun d => A (ix2 r d)) (fun d => B (ix2 r d)) 2 (by omega) d _ _ _ (by dsimp only <;> omega) (by dsimp only <;> omega) (by dsimp only <;> omega)

theorem key_3 (y : FVec Ideal S256x1024 .f32) (C A B : FVec Ideal S256x128 .f32) (r : Fin 256) (d : Fin 128) : k0_pay31 y C A B (ix2 r d)
    = turnLane (fun k => y (ix2 r k)) (fun d => C (ix2 r d)) (fun d => A (ix2 r d)) (fun d => B (ix2 r d)) 3 (by omega) d := by
  pointwise [k0_pay31]
  exact turn_of (fun k => y (ix2 r k)) (fun d => C (ix2 r d)) (fun d => A (ix2 r d)) (fun d => B (ix2 r d)) 3 (by omega) d _ _ _ (by dsimp only <;> omega) (by dsimp only <;> omega) (by dsimp only <;> omega)

theorem key_4 (y : FVec Ideal S256x1024 .f32) (C A B : FVec Ideal S256x128 .f32) (r : Fin 256) (d : Fin 128) : k0_pay32 y C A B (ix2 r d)
    = turnLane (fun k => y (ix2 r k)) (fun d => C (ix2 r d)) (fun d => A (ix2 r d)) (fun d => B (ix2 r d)) 4 (by omega) d := by
  pointwise [k0_pay32]
  exact turn_of (fun k => y (ix2 r k)) (fun d => C (ix2 r d)) (fun d => A (ix2 r d)) (fun d => B (ix2 r d)) 4 (by omega) d _ _ _ (by dsimp only <;> omega) (by dsimp only <;> omega) (by dsimp only <;> omega)

theorem key_5 (y : FVec Ideal S256x1024 .f32) (C A B : FVec Ideal S256x128 .f32) (r : Fin 256) (d : Fin 128) : k0_pay1 B (k0_pay33 y) (k0_pay34 y C A) 16#32 (ix2 r d)
    = turnLane (fun k => y (ix2 r k)) (fun d => C (ix2 r d)) (fun d => A (ix2 r d)) (fun d => B (ix2 r d)) 5 (by omega) d := by
  pointwise [k0_pay1, k0_pay33, k0_pay34]
  exact turn_of (fun k => y (ix2 r k)) (fun d => C (ix2 r d)) (fun d => A (ix2 r d)) (fun d => B (ix2 r d)) 5 (by omega) d _ _ _ (by dsimp only <;> omega) (by dsimp only <;> omega) (by dsimp only <;> omega)

theorem key_6 (y : FVec Ideal S256x1024 .f32) (C A B : FVec Ideal S256x128 .f32) (r : Fin 256) (d : Fin 128) : k0_pay2 y C A B (ix2 r d)
    = turnLane (fun k => y (ix2 r k)) (fun d => C (ix2 r d)) (fun d => A (ix2 r d)) (fun d => B (ix2 r d)) 6 (by omega) d := by
  pointwise [k0_pay2]
  exact turn_of (fun k => y (ix2 r k)) (fun d => C (ix2 r d)) (fun d => A (ix2 r d)) (fun d => B (ix2 r d)) 6 (by omega) d _ _ _ (by dsimp only <;> omega) (by dsimp only <;> omega) (by dsimp only <;> omega)

theorem key_7 (y : FVec Ideal S256x1024 .f32) (C A B : FVec Ideal S256x128 .f32) (r : Fin 256) (d : Fin 128) : k0_pay3 y C A B (ix2 r d)
    = turnLane (fun k => y (ix2 r k)) (fun d => C (ix2 r d)) (fun d => A (ix2 r d)) (fun d => B (ix2 r d)) 7 (by omega) d := by
  pointwise [k0_pay3]
  exact turn_of (fun k => y (ix2 r k)) (fun d => C (ix2 r d)) (fun d => A (ix2 r d)) (fun d => B (ix2 r d)) 7 (by omega) d _ _ _ (by dsimp only <;> omega) (by dsimp only <;> omega) (by dsimp only <;> omega)

end Cert.Proj

end
-- ==== Proof.ProjEntry.lean ====
/- The grid's operands at an index, from the arguments. -/
module

public import proofs.«01_k».proof.Proof.ProjRow
public import Idealize.ShloMosaic.Lib.Claim
public import Idealize.ShloMosaic.Lib.StableHlo.RunRead

@[expose] public section

set_option maxRecDepth 16384

noncomputable section

namespace Cert.Proj

open Cert.ProjectIdeal Cert.ProjectIdeal.Gen Idealize.ShloMosaic Idealize.ShloMosaic.TcCoe Idealize.SL.Sem

variable (m : (ℓ : Loc nD τ sig) → Buf (Elt Ideal) ℓ) (c : Dev nD)

/-! ## The buffers stretch by stretch -/

def T1 : Valuation τ sig (Elt Ideal) := StableHlo.after hostOps0 (fun b => m (c, b))
def T2 : Valuation τ sig (Elt Ideal) := StableHlo.after hostOps0_1 (T1 m c)
def T3 : Valuation τ sig (Elt Ideal) := StableHlo.after hostOps0_2 (T2 m c)
def T4 : Valuation τ sig (Elt Ideal) := StableHlo.after hostOps0_3 (T3 m c)
def T5 : Valuation τ sig (Elt Ideal) := StableHlo.after hostOps0_4 (T4 m c)
def T6 : Valuation τ sig (Elt Ideal) := StableHlo.after hostOps0_5 (T5 m c)

theorem after_join {Val : EltTy → Type} (l l' : List (HloOp τ sig Val)) (σ : Valuation τ sig Val) :
    StableHlo.after (l ++ l') σ = StableHlo.after l' (StableHlo.after l σ) := by
  induction l generalizing σ with
  | nil => rfl
  | cons op l ih => exact ih _

theorem V_stretch (b : Ref sig .tc) : V m c b = StableHlo.after hostOps0_6 (T6 m c) (Proc.devRef .tc b) := by
  show StableHlo.after (List.flatten [hostOps0, hostOps0_1, hostOps0_2, hostOps0_3, hostOps0_4, hostOps0_5, hostOps0_6]) (fun b => m (c, b)) _ = _
  simp only [List.flatten_cons, List.flatten_nil, List.append_nil, after_join]
  rfl

theorem arg4_kept : T6 m c (Proc.devRef .tc main_arg4) = m ((c : Thread nD τ).loc main_arg4) := by
  unfold T6 T5 T4 T3 T2 T1
  entry_read
  rfl

theorem lanes_read (d : Fin 64) : T1 m c (Proc.devRef .tc main_v3) (ix1 d) = BitVec.ofNat 32 d.val := by
  unfold T1
  entry_read
  rfl

theorem width_read : T1 m c (Proc.devRef .tc main_c) = constantI S_ 32 32#32 := by
  unfold T1
  entry_read
  rfl

theorem rem_read (d : Fin 64) : T2 m c (Proc.devRef .tc main_v4) (ix1 d) = BitVec.ofNat 32 (d.val % 32) := by
  unfold T2
  entry_read
  simp -implicitDefEqProofs only [StableHlo.TRef.toBuf, StableHlo.TRef.ofBuf, cast_cast, cast_eq]
  pointwise []
  have h : T1 m c (Proc.devRef .tc main_c) ix0 = 32#32 := congrFun (width_read m c) ix0
  rw [lanes_read, h]
  revert d
  decide

theorem lower_read (d : Fin 64) : T3 m c (Proc.devRef .tc main_v6) (ix1 d) = BitVec.ofBool (decide (d.val % 32 < 16)) := by
  unfold T3
  entry_read
  pointwise []
  rw [rem_read]
  exact (by decide : ∀ d : Fin 64, (IntOp.cmpi .slt (BitVec.ofNat 32 (d.val % 32)) 16#32 : BitVec 1) = BitVec.ofBool (decide (d.val % 32 < 16))) d

theorem mask_read (d : Fin 64) : T3 m c (Proc.devRef .tc main_v7) (ix2 0 d) = BitVec.ofBool (decide (d.val % 32 < 16)) := by
  unfold T3
  entry_read
  pointwise []
  rw [rem_read]
  exact (by decide : ∀ d : Fin 64, (IntOp.cmpi .slt (BitVec.ofNat 32 (d.val % 32)) 16#32 : BitVec 1) = BitVec.ofBool (decide (d.val % 32 < 16))) d

theorem arg5_kept : T2 m c (Proc.devRef .tc main_arg5) = m ((c : Thread nD τ).loc main_arg5)
    ∧ T5 m c (Proc.devRef .tc main_arg5) = m ((c : Thread nD τ).loc main_arg5) := by
  unfold T5 T4 T3 T2 T1
  constructor
  · entry_read
    rfl
  · entry_read
    rfl

theorem on_read (l : Fin 2048) (d : Fin 64) : T4 m c (Proc.devRef .tc main_v9) (ix2 l d)
    = (if d.val % 32 < 16 then -(show EReal from m ((c : Thread nD τ).loc main_arg5) (ix2 l d)) else 0 : EReal) := by
  unfold T4
  entry_read
  simp -implicitDefEqProofs only [StableHlo.TRef.toBuf, StableHlo.TRef.ofBuf, cast_cast, cast_eq]
  pointwise []
  have h0 : T3 m c (Proc.devRef .tc main_cst) ix0 = (0 : EReal) := by
    unfold T3
    entry_read
    pointwise []
  have h8 : T3 m c (Proc.devRef .tc main_v8) (ix2 l d) = -(show EReal from m ((c : Thread nD τ).loc main_arg5) (ix2 l d)) := by
    unfold T3
    entry_read
    pointwise []
    exact congrArg (fun x : EReal => -x) (congrFun (arg5_kept m c).1 (ix2 l d))
  rw [mask_read, h0, h8]
  by_cases h : d.val % 32 < 16
  · rw [if_pos h, decide_eq_true h]
    rfl
  · rw [if_neg h, decide_eq_false h]
    rfl

theorem back_read (l : Fin 2048) (d : Fin 64) : T6 m c (Proc.devRef .tc main_v11) (ix2 l d)
    = (if d.val % 32 < 16 then 0 else (show EReal from m ((c : Thread nD τ).loc main_arg5) (ix2 l d)) : EReal) := by
  unfold T6
  entry_read
  simp -implicitDefEqProofs only [StableHlo.TRef.toBuf, StableHlo.TRef.ofBuf, cast_cast, cast_eq]
  pointwise []
  have h0 : T5 m c (Proc.devRef .tc main_cst_1) ix0 = (0 : EReal) := by
    unfold T5
    entry_read
    pointwise []
  have h10 : T5 m c (Proc.devRef .tc main_v10) (ix2 0 d) = BitVec.ofBool (decide (d.val % 32 < 16)) := by
    unfold T5
    entry_read
    pointwise []
    have h6 : T4 m c (Proc.devRef .tc main_v6) = T3 m c (Proc.devRef .tc main_v6) := by
      unfold T4
      entry_read
      rfl
    rw [h6]
    exact lower_read m c d
  rw [h10, h0, (arg5_kept m c).2]
  by_cases h : d.val % 32 < 16
  · rw [if_pos h, decide_eq_true h]
    rfl
  · rw [if_neg h, decide_eq_false h]
    rfl

/-! ## The operands when the grid starts -/

/-- A table beside itself. -/
theorem wide_apply (y : FVec Ideal S2048x64 .f32) (l : Fin 2048) (d : Fin 128) :
    concatenate S2048x128 1 [⟨S2048x64, y⟩, ⟨S2048x64, y⟩] concatenates_S2048x64_S2048x64_S2048x128_d1 (ix2 l d) = y (ix2 l ⟨d.val % 64, by omega⟩) := by
  pointwise []
  split_ifs
  all_goals exact congrArg (fun k => y (ix2 l k)) (Fin.ext (by dsimp only; omega))

theorem cos_entry (l : Fin 2048) (d : Fin 128) : V m c main_v12 (ix2 l d) = m ((c : Thread nD τ).loc main_arg4) (ix2 l ⟨d.val % 64, by omega⟩) := by
  rw [V_stretch]
  entry_read
  exact (wide_apply _ l d).trans (congrFun (arg4_kept m c) _)

theorem on_entry (l : Fin 2048) (d : Fin 128) : V m c main_v13 (ix2 l d)
    = (if d.val % 32 < 16 then -(show EReal from m ((c : Thread nD τ).loc main_arg5) (ix2 l ⟨d.val % 64, by omega⟩)) else 0 : EReal) := by
  have h9 : T6 m c (Proc.devRef .tc main_v9) = T4 m c (Proc.devRef .tc main_v9) := by
    unfold T6 T5
    entry_read
    rfl
  have e : V m c main_v13 = (concatenate S2048x128 1 [⟨S2048x64, (T6 m c (Proc.devRef .tc main_v9) : FVec Ideal S2048x64 .f32)⟩,
      ⟨S2048x64, (T6 m c (Proc.devRef .tc main_v9) : FVec Ideal S2048x64 .f32)⟩] concatenates_S2048x64_S2048x64_S2048x128_d1 : FVec Ideal S2048x128 .f32) := by
    rw [V_stretch]
    entry_read
    rfl
  rw [e]
  refine (wide_apply _ l d).trans ((congrFun h9 _).trans ((on_read m c l _).trans ?_))
  have h : d.val % 64 % 32 = d.val % 32 := by omega
  rw [h]

theorem back_entry (l : Fin 2048) (d : Fin 128) : V m c main_v14 (ix2 l d)
    = (if d.val % 32 < 16 then 0 else (show EReal from m ((c : Thread nD τ).loc main_arg5) (ix2 l ⟨d.val % 64, by omega⟩)) : EReal) := by
  have e : V m c main_v14 = (concatenate S2048x128 1 [⟨S2048x64, (T6 m c (Proc.devRef .tc main_v11) : FVec Ideal S2048x64 .f32)⟩,
      ⟨S2048x64, (T6 m c (Proc.devRef .tc main_v11) : FVec Ideal S2048x64 .f32)⟩] concatenates_S2048x64_S2048x64_S2048x128_d1 : FVec Ideal S2048x128 .f32) := by
    rw [V_stretch]
    entry_read
    rfl
  rw [e]
  refine (wide_apply _ l d).trans ((back_read m c l _).trans ?_)
  have h : d.val % 64 % 32 = d.val % 32 := by omega
  rw [h]

theorem token_entry (b : Fin 8) (l : Fin 2048) (k : Fin 1024) :
    V m c main_v0 (ix2 ⟨b.val * 2048 + l.val, by omega⟩ k) = m ((c : Thread nD τ).loc main_arg0) (ix3 b l k) := by
  rw [V_stretch]
  unfold T6 T5 T4 T3 T2 T1
  entry_read
  pointwise []
  blk_ext []

theorem mod_entry : V m c main_arg1 = m ((c : Thread nD τ).loc main_arg1) := V_main_arg1 m c

theorem gain_entry (k : Fin 1024) : V m c main_v2 (ix2 0 k) = m ((c : Thread nD τ).loc main_arg2) (ix1 k) := by
  rw [V_stretch]
  unfold T6 T5 T4 T3 T2 T1
  entry_read
  pointwise []

theorem weight_entry (k : Fin 1024) (j : Fin 3072) : V m c main_v1 (ix2 k j) = m ((c : Thread nD τ).loc main_arg3) (ix2 k j) := by
  rw [V_stretch]
  unfold T6 T5 T4 T3 T2 T1
  entry_read
  rfl

end Cert.Proj

end
-- ==== Proof.ProjOut.lean ====
/- The three blocks that a grid point leaves, at an index. -/
module

public import proofs.«01_k».proof.Proof.ProjRow

@[expose] public section

set_option maxRecDepth 16384

noncomputable section

namespace Cert.Proj

open Cert.ProjectIdeal Cert.ProjectIdeal.Gen Idealize.ShloMosaic Idealize.ShloMosaic.TcCoe Idealize.SL.Sem
open Cert.Ctx (projLane)

/-- A third of a projected row. -/
def part (o : ℕ) (ho : o + 1024 ≤ 3072) (f : Fin 3072 → EReal) (k : Fin 1024) : EReal := f ⟨o + k.val, by omega⟩

/-- The body's lane, from its number in the row. -/
def turnAt (y : Fin 1024 → EReal) (C A B : Fin 128 → EReal) (j : Fin 1024) : EReal :=
  turnLane y C A B (j.val / 128) (by omega) ⟨j.val % 128, Nat.mod_lt _ (by decide)⟩

theorem turn_at (y C A B) (q : ℕ) (hq : q < 8) (d : Fin 128) (j : Fin 1024) (hj : j.val = q * 128 + d.val) : turnLane y C A B q hq d = turnAt y C A B j := by
  have hd : d = ⟨j.val % 128, Nat.mod_lt _ (by decide)⟩ := Fin.ext (by dsimp only; omega)
  have hq' : q = j.val / 128 := by omega
  clear hj
  subst hd hq'
  rfl

/-- So it is the rotation's, at the tables made from the cosines and sines. -/
theorem turnAt_rot (y : Fin 1024 → EReal) (C S : Fin 64 → EReal) (j : Fin 1024) :
    turnAt y (fun d => C ⟨d.val % 64, by omega⟩) (fun d => if d.val % 32 < 16 then -S ⟨d.val % 64, by omega⟩ else 0)
      (fun d => if d.val % 32 < 16 then 0 else S ⟨d.val % 64, by omega⟩) j = rotLane y C S j :=
  turn_rot y C S (j.val / 128) (by omega) ⟨j.val % 128, Nat.mod_lt _ (by decide)⟩ j (by dsimp only; omega)

variable (x0 : Vec Ideal S256x1024 .f32) (x1 : Vec Ideal S1x6x1024 .f32) (x2 : Vec Ideal S1x1024 .f32) (x3 : Vec Ideal S1024x3072 .bf16)
  (x4 x5 x6 : Vec Ideal S256x128 .f32)

/-- A row of the block, projected. -/
def projRow (p : Fin 256) (j : Fin 3072) : EReal :=
  projLane (fun k => x0 (ix2 p k)) (fun k => x2 (ix2 0 k)) (fun k => x1 (ix3 0 1 k)) (fun k => x1 (ix3 0 0 k)) (fun k => x3 (ix2 k j))

theorem all_read (p : Fin 256) (j : Fin 3072) : k0_pay35 x0 x1 x2 x3 x4 x5 x6 (ix2 p j) = projRow x0 x1 x2 x3 p j := by
  unfold k0_pay35 projRow
  pointwise [proj_read]

theorem query_row (p : Fin 256) (k : Fin 1024) : k0_pay36 x0 x1 x2 x3 x4 x5 x6 (ix2 p k) = part 0 (by omega) (projRow x0 x1 x2 x3 p) k := by
  unfold k0_pay36 part projRow
  simp only [Nat.zero_add]
  pointwise [k0_pay6, proj_read]

theorem key_row (p : Fin 256) (k : Fin 1024) : k0_pay40 x0 x1 x2 x3 x4 x5 x6 (ix2 p k) = part 1024 (by omega) (projRow x0 x1 x2 x3 p) k := by
  unfold k0_pay40 part
  pointwise [k0_pay22, all_read]

theorem value_row (p : Fin 256) (k : Fin 1024) : k0_pay4 (k0_pay35 x0 x1 x2 x3 x4 x5 x6) (ix2 p k) = part 2048 (by omega) (projRow x0 x1 x2 x3 p) k := by
  unfold part
  pointwise [k0_pay4, all_read]

theorem table_ld (x : Vec Ideal S256x128 .f32) (p : Fin 256) (d : Fin 128) : View.ld x r0_5 (ix2 p d) = x (ix2 p d) := by
  pointwise []

theorem table_rows (p : Fin 256) (d : Fin 128) : k0_pay37 x0 x1 x2 x3 x4 x5 x6 (ix2 p d) = x4 (ix2 p d)
    ∧ k0_pay38 x0 x1 x2 x3 x4 x5 x6 (ix2 p d) = x5 (ix2 p d) ∧ k0_pay39 x0 x1 x2 x3 x4 x5 x6 (ix2 p d) = x6 (ix2 p d)
    ∧ k0_pay41 x0 x1 x2 x3 x4 x5 x6 (ix2 p d) = x4 (ix2 p d) ∧ k0_pay42 x0 x1 x2 x3 x4 x5 x6 (ix2 p d) = x5 (ix2 p d)
    ∧ k0_pay43 x0 x1 x2 x3 x4 x5 x6 (ix2 p d) = x6 (ix2 p d) := by
  unfold k0_pay37 k0_pay38 k0_pay39 k0_pay41 k0_pay42 k0_pay43
  refine ⟨?_, ?_, ?_, ?_, ?_, ?_⟩
  · pointwise [k0_pay7]
  · pointwise [k0_pay8]
  · pointwise [k0_pay9]
  · pointwise [k0_pay23]
  · pointwise [k0_pay24]
  · pointwise [k0_pay25]

/-- A head's piece of a block, against the whole block's lane. -/
theorem piece_lane (o : ℕ) (ho : o + 1024 ≤ 3072) (q : ℕ) (hq : q < 8) (y : Fin 1024 → EReal) (C A B : Fin 128 → EReal) (r : Fin 256) (d : Fin 128)
    (hy : ∀ k, y k = part o ho (projRow x0 x1 x2 x3 r) k) (hC : ∀ d, C d = x4 (ix2 r d)) (hA : ∀ d, A d = x5 (ix2 r d)) (hB : ∀ d, B d = x6 (ix2 r d))
    (r' : Fin 256) (j' : Fin 1024) (hr : r'.val = r.val) (hj : j'.val = q * 128 + d.val) :
    turnLane y C A B q hq d = turnAt (part o ho (projRow x0 x1 x2 x3 r')) (fun d => x4 (ix2 r' d)) (fun d => x5 (ix2 r' d)) (fun d => x6 (ix2 r' d)) j' := by
  obtain rfl := Fin.ext hr
  rw [funext hy, funext hC, funext hA, funext hB]
  exact turn_at _ _ _ _ q hq d j' hj

theorem query_piece_0 (r : Fin 256) (d : Fin 128) (r' : Fin 256) (j' : Fin 1024) (hr : r'.val = r.val) (hj : j'.val = 0 * 128 + d.val) :
    k0_pay10 (k0_pay36 x0 x1 x2 x3 x4 x5 x6) (k0_pay37 x0 x1 x2 x3 x4 x5 x6) (k0_pay38 x0 x1 x2 x3 x4 x5 x6) (View.ld x6 r0_5) (ix2 r d)
      = turnAt (part 0 (by omega) (projRow x0 x1 x2 x3 r')) (fun d => x4 (ix2 r' d)) (fun d => x5 (ix2 r' d)) (fun d => x6 (ix2 r' d)) j' * queryScale :=
  (query_0 _ _ _ _ r d).trans (congrArg (· * queryScale) (piece_lane x0 x1 x2 x3 x4 x5 x6 0 (by omega) 0 (by omega) _ _ _ _ r d (query_row x0 x1 x2 x3 x4 x5 x6 r)
    (fun d => (table_rows x0 x1 x2 x3 x4 x5 x6 r d).1) (fun d => (table_rows x0 x1 x2 x3 x4 x5 x6 r d).2.1) (table_ld x6 r) r' j' hr hj))

theorem query_piece_1 (r : Fin 256) (d : Fin 128) (r' : Fin 256) (j' : Fin 1024) (hr : r'.val = r.val) (hj : j'.val = 1 * 128 + d.val) :
    k0_pay11 (k0_pay36 x0 x1 x2 x3 x4 x5 x6) (k0_pay37 x0 x1 x2 x3 x4 x5 x6) (k0_pay38 x0 x1 x2 x3 x4 x5 x6) (View.ld x6 r0_5) (ix2 r d)
      = turnAt (part 0 (by omega) (projRow x0 x1 x2 x3 r')) (fun d => x4 (ix2 r' d)) (fun d => x5 (ix2 r' d)) (fun d => x6 (ix2 r' d)) j' * queryScale :=
  (query_1 _ _ _ _ r d).trans (congrArg (· * queryScale) (piece_lane x0 x1 x2 x3 x4 x5 x6 0 (by omega) 1 (by omega) _ _ _ _ r d (query_row x0 x1 x2 x3 x4 x5 x6 r)
    (fun d => (table_rows x0 x1 x2 x3 x4 x5 x6 r d).1) (fun d => (table_rows x0 x1 x2 x3 x4 x5 x6 r d).2.1) (table_ld x6 r) r' j' hr hj))

theorem query_piece_2 (r : Fin 256) (d : Fin 128) (r' : Fin 256) (j' : Fin 1024) (hr : r'.val = r.val) (hj : j'.val = 2 * 128 + d.val) :
    k0_pay12 (k0_pay36 x0 x1 x2 x3 x4 x5 x6) (k0_pay37 x0 x1 x2 x3 x4 x5 x6) (k0_pay38 x0 x1 x2 x3 x4 x5 x6) (View.ld x6 r0_5) (ix2 r d)
      = turnAt (part 0 (by omega) (projRow x0 x1 x2 x3 r')) (fun d => x4 (ix2 r' d)) (fun d => x5 (ix2 r' d)) (fun d => x6 (ix2 r' d)) j' * queryScale :=
  (query_2 _ _ _ _ r d).trans (congrArg (· * queryScale) (piece_lane x0 x1 x2 x3 x4 x5 x6 0 (by omega) 2 (by omega) _ _ _ _ r d (query_row x0 x1 x2 x3 x4 x5 x6 r)
    (fun d => (table_rows x0 x1 x2 x3 x4 x5 x6 r d).1) (fun d => (table_rows x0 x1 x2 x3 x4 x5 x6 r d).2.1) (table_ld x6 r) r' j' hr hj))

theorem query_piece_3 (r : Fin 256) (d : Fin 128) (r' : Fin 256) (j' : Fin 1024) (hr : r'.val = r.val) (hj : j'.val = 3 * 128 + d.val) :
    k0_pay16 (k0_pay39 x0 x1 x2 x3 x4 x5 x6) (k0_pay13 (k0_pay36 x0 x1 x2 x3 x4 x5 x6)) (k0_pay14 (k0_pay36 x0 x1 x2 x3 x4 x5 x6) (k0_pay37 x0 x1 x2 x3 x4 x5 x6)) (k0_pay15 (k0_pay36 x0 x1 x2 x3 x4 x5 x6) (k0_pay38 x0 x1 x2 x3 x4 x5 x6)) (ix2 r d)
      = turnAt (part 0 (by omega) (projRow x0 x1 x2 x3 r')) (fun d => x4 (ix2 r' d)) (fun d => x5 (ix2 r' d)) (fun d => x6 (ix2 r' d)) j' * queryScale :=
  (query_3 _ _ _ _ r d).trans (congrArg (· * queryScale) (piece_lane x0 x1 x2 x3 x4 x5 x6 0 (by omega) 3 (by omega) _ _ _ _ r d (query_row x0 x1 x2 x3 x4 x5 x6 r)
    (fun d => (table_rows x0 x1 x2 x3 x4 x5 x6 r d).1) (fun d => (table_rows x0 x1 x2 x3 x4 x5 x6 r d).2.1) (fun d => (table_rows x0 x1 x2 x3 x4 x5 x6 r d).2.2.1) r' j' hr hj))

theorem query_piece_4 (r : Fin 256) (d : Fin 128) (r' : Fin 256) (j' : Fin 1024) (hr : r'.val = r.val) (hj : j'.val = 4 * 128 + d.val) :
    k0_pay17 (k0_pay36 x0 x1 x2 x3 x4 x5 x6) (k0_pay37 x0 x1 x2 x3 x4 x5 x6) (k0_pay38 x0 x1 x2 x3 x4 x5 x6) (k0_pay39 x0 x1 x2 x3 x4 x5 x6) (ix2 r d)
      = turnAt (part 0 (by omega) (projRow x0 x1 x2 x3 r')) (fun d => x4 (ix2 r' d)) (fun d => x5 (ix2 r' d)) (fun d => x6 (ix2 r' d)) j' * queryScale :=
  (query_4 _ _ _ _ r d).trans (congrArg (· * queryScale) (piece_lane x0 x1 x2 x3 x4 x5 x6 0 (by omega) 4 (by omega) _ _ _ _ r d (query_row x0 x1 x2 x3 x4 x5 x6 r)
    (fun d => (table_rows x0 x1 x2 x3 x4 x5 x6 r d).1) (fun d => (table_rows x0 x1 x2 x3 x4 x5 x6 r d).2.1) (fun d => (table_rows x0 x1 x2 x3 x4 x5 x6 r d).2.2.1) r' j' hr hj))

theorem query_piece_5 (r : Fin 256) (d : Fin 128) (r' : Fin 256) (j' : Fin 1024) (hr : r'.val = r.val) (hj : j'.val = 5 * 128 + d.val) :
    k0_pay18 (k0_pay36 x0 x1 x2 x3 x4 x5 x6) (k0_pay37 x0 x1 x2 x3 x4 x5 x6) (k0_pay38 x0 x1 x2 x3 x4 x5 x6) (k0_pay39 x0 x1 x2 x3 x4 x5 x6) (ix2 r d)
      = turnAt (part 0 (by omega) (projRow x0 x1 x2 x3 r')) (fun d => x4 (ix2 r' d)) (fun d => x5 (ix2 r' d)) (fun d => x6 (ix2 r' d)) j' * queryScale :=
  (query_5 _ _ _ _ r d).trans (congrArg (· * queryScale) (piece_lane x0 x1 x2 x3 x4 x5 x6 0 (by omega) 5 (by omega) _ _ _ _ r d (query_row x0 x1 x2 x3 x4 x5 x6 r)
    (fun d => (table_rows x0 x1 x2 x3 x4 x5 x6 r d).1) (fun d => (table_rows x0 x1 x2 x3 x4 x5 x6 r d).2.1) (fun d => (table_rows x0 x1 x2 x3 x4 x5 x6 r d).2.2.1) r' j' hr hj))

theorem query_piece_6 (r : Fin 256) (d : Fin 128) (r' : Fin 256) (j' : Fin 1024) (hr : r'.val = r.val) (hj : j'.val = 6 * 128 + d.val) :
    k0_pay20 (k0_pay19 (k0_pay36 x0 x1 x2 x3 x4 x5 x6) (k0_pay37 x0 x1 x2 x3 x4 x5 x6) (k0_pay38 x0 x1 x2 x3 x4 x5 x6) (k0_pay39 x0 x1 x2 x3 x4 x5 x6)) queryScale (ix2 r d)
      = turnAt (part 0 (by omega) (projRow x0 x1 x2 x3 r')) (fun d => x4 (ix2 r' d)) (fun d => x5 (ix2 r' d)) (fun d => x6 (ix2 r' d)) j' * queryScale :=
  (query_6 _ _ _ _ r d).trans (congrArg (· * queryScale) (piece_lane x0 x1 x2 x3 x4 x5 x6 0 (by omega) 6 (by omega) _ _ _ _ r d (query_row x0 x1 x2 x3 x4 x5 x6 r)
    (fun d => (table_rows x0 x1 x2 x3 x4 x5 x6 r d).1) (fun d => (table_rows x0 x1 x2 x3 x4 x5 x6 r d).2.1) (fun d => (table_rows x0 x1 x2 x3 x4 x5 x6 r d).2.2.1) r' j' hr hj))

theorem query_piece_7 (r : Fin 256) (d : Fin 128) (r' : Fin 256) (j' : Fin 1024) (hr : r'.val = r.val) (hj : j'.val = 7 * 128 + d.val) :
    k0_pay21 (k0_pay36 x0 x1 x2 x3 x4 x5 x6) (k0_pay37 x0 x1 x2 x3 x4 x5 x6) (k0_pay38 x0 x1 x2 x3 x4 x5 x6) (k0_pay39 x0 x1 x2 x3 x4 x5 x6) (ix2 r d)
      = turnAt (part 0 (by omega) (projRow x0 x1 x2 x3 r')) (fun d => x4 (ix2 r' d)) (fun d => x5 (ix2 r' d)) (fun d => x6 (ix2 r' d)) j' * queryScale :=
  (query_7 _ _ _ _ r d).trans (congrArg (· * queryScale) (piece_lane x0 x1 x2 x3 x4 x5 x6 0 (by omega) 7 (by omega) _ _ _ _ r d (query_row x0 x1 x2 x3 x4 x5 x6 r)
    (fun d => (table_rows x0 x1 x2 x3 x4 x5 x6 r d).1) (fun d => (table_rows x0 x1 x2 x3 x4 x5 x6 r d).2.1) (fun d => (table_rows x0 x1 x2 x3 x4 x5 x6 r d).2.2.1) r' j' hr hj))

theorem out7_apply (y : S256x1024.Idx) : out0_7 x0 x1 x2 x3 x4 x5 x6 y
    = turnAt (part 0 (by omega) (projRow x0 x1 x2 x3 (y 0))) (fun d => x4 (ix2 (y 0) d)) (fun d => x5 (ix2 (y 0) d)) (fun d => x6 (ix2 (y 0) d)) (y 1) * queryScale := by
  unfold out0_7
  refine View.canon_apply_of_pieces (Val := Elt Ideal) (e := .bf16)
    (fun y : S256x1024.Idx => (turnAt (part 0 (by omega) (projRow x0 x1 x2 x3 (y 0))) (fun d => x4 (ix2 (y 0) d)) (fun d => x5 (ix2 (y 0) d)) (fun d => x6 (ix2 (y 0) d)) (y 1) * queryScale : EReal)) _ ?_ y (cover0_7 _ _ _ _ _ _ _ _ y)
  intro p hp x
  have one (a : ℕ) : a + 1 * (x 1).val = a + (x 1).val := by omega
  simp only [List.mem_cons, List.not_mem_nil, or_false] at hp
  rcases hp with rfl | rfl | rfl | rfl | rfl | rfl | rfl | rfl
  · exact (congrArg _ (eq_ix2 x)).trans (query_piece_7 x0 x1 x2 x3 x4 x5 x6 (x 0) (x 1) _ _ ((Nat.zero_add _).trans (Nat.one_mul _)) (one 896))
  · exact (congrArg _ (eq_ix2 x)).trans (query_piece_6 x0 x1 x2 x3 x4 x5 x6 (x 0) (x 1) _ _ ((Nat.zero_add _).trans (Nat.one_mul _)) (one 768))
  · exact (congrArg _ (eq_ix2 x)).trans (query_piece_5 x0 x1 x2 x3 x4 x5 x6 (x 0) (x 1) _ _ ((Nat.zero_add _).trans (Nat.one_mul _)) (one 640))
  · exact (congrArg _ (eq_ix2 x)).trans (query_piece_4 x0 x1 x2 x3 x4 x5 x6 (x 0) (x 1) _ _ ((Nat.zero_add _).trans (Nat.one_mul _)) (one 512))
  · exact (congrArg _ (eq_ix2 x)).trans (query_piece_3 x0 x1 x2 x3 x4 x5 x6 (x 0) (x 1) _ _ ((Nat.zero_add _).trans (Nat.one_mul _)) (one 384))
  · exact (congrArg _ (eq_ix2 x)).trans (query_piece_2 x0 x1 x2 x3 x4 x5 x6 (x 0) (x 1) _ _ ((Nat.zero_add _).trans (Nat.one_mul _)) (one 256))
  · exact (congrArg _ (eq_ix2 x)).trans (query_piece_1 x0 x1 x2 x3 x4 x5 x6 (x 0) (x 1) _ _ ((Nat.zero_add _).trans (Nat.one_mul _)) (one 128))
  · exact (congrArg _ (eq_ix2 x)).trans (query_piece_0 x0 x1 x2 x3 x4 x5 x6 (x 0) (x 1) _ _ ((Nat.zero_add _).trans (Nat.one_mul _)) (one 0))

theorem key_piece_0 (r : Fin 256) (d : Fin 128) (r' : Fin 256) (j' : Fin 1024) (hr : r'.val = r.val) (hj : j'.val = 0 * 128 + d.val) :
    k0_pay26 (k0_pay35 x0 x1 x2 x3 x4 x5 x6) (View.ld x4 r0_5) (View.ld x5 r0_5) (View.ld x6 r0_5) (ix2 r d)
      = turnAt (part 1024 (by omega) (projRow x0 x1 x2 x3 r')) (fun d => x4 (ix2 r' d)) (fun d => x5 (ix2 r' d)) (fun d => x6 (ix2 r' d)) j' :=
  (key_0 _ _ _ _ r d).trans (piece_lane x0 x1 x2 x3 x4 x5 x6 1024 (by omega) 0 (by omega) _ _ _ _ r d (fun k => all_read x0 x1 x2 x3 x4 x5 x6 r ⟨1024 + k.val, by omega⟩)
    (table_ld x4 r) (table_ld x5 r) (table_ld x6 r) r' j' hr hj)

theorem key_piece_1 (r : Fin 256) (d : Fin 128) (r' : Fin 256) (j' : Fin 1024) (hr : r'.val = r.val) (hj : j'.val = 1 * 128 + d.val) :
    k0_pay29 (k0_pay43 x0 x1 x2 x3 x4 x5 x6) (k0_pay27 (k0_pay35 x0 x1 x2 x3 x4 x5 x6)) (k0_pay28 (k0_pay35 x0 x1 x2 x3 x4 x5 x6) (View.ld x4 r0_5) (View.ld x5 r0_5)) 16#32 (ix2 r d)
      = turnAt (part 1024 (by omega) (projRow x0 x1 x2 x3 r')) (fun d => x4 (ix2 r' d)) (fun d => x5 (ix2 r' d)) (fun d => x6 (ix2 r' d)) j' :=
  (key_1 _ _ _ _ r d).trans (piece_lane x0 x1 x2 x3 x4 x5 x6 1024 (by omega) 1 (by omega) _ _ _ _ r d (fun k => all_read x0 x1 x2 x3 x4 x5 x6 r ⟨1024 + k.val, by omega⟩)
    (table_ld x4 r) (table_ld x5 r) (table_ld x6 r) r' j' hr hj)

theorem key_piece_2 (r : Fin 256) (d : Fin 128) (r' : Fin 256) (j' : Fin 1024) (hr : r'.val = r.val) (hj : j'.val = 2 * 128 + d.val) :
    k0_pay30 (k0_pay40 x0 x1 x2 x3 x4 x5 x6) (k0_pay41 x0 x1 x2 x3 x4 x5 x6) (k0_pay42 x0 x1 x2 x3 x4 x5 x6) (k0_pay43 x0 x1 x2 x3 x4 x5 x6) (ix2 r d)
      = turnAt (part 1024 (by omega) (projRow x0 x1 x2 x3 r')) (fun d => x4 (ix2 r' d)) (fun d => x5 (ix2 r' d)) (fun d => x6 (ix2 r' d)) j' :=
  (key_2 _ _ _ _ r d).trans (piece_lane x0 x1 x2 x3 x4 x5 x6 1024 (by omega) 2 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem key_piece_3 (r : Fin 256) (d : Fin 128) (r' : Fin 256) (j' : Fin 1024) (hr : r'.val = r.val) (hj : j'.val = 3 * 128 + d.val) :
    k0_pay31 (k0_pay40 x0 x1 x2 x3 x4 x5 x6) (k0_pay41 x0 x1 x2 x3 x4 x5 x6) (k0_pay42 x0 x1 x2 x3 x4 x5 x6) (k0_pay43 x0 x1 x2 x3 x4 x5 x6) (ix2 r d)
      = turnAt (part 1024 (by omega) (projRow x0 x1 x2 x3 r')) (fun d => x4 (ix2 r' d)) (fun d => x5 (ix2 r' d)) (fun d => x6 (ix2 r' d)) j' :=
  (key_3 _ _ _ _ r d).trans (piece_lane x0 x1 x2 x3 x4 x5 x6 1024 (by omega) 3 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem key_piece_4 (r : Fin 256) (d : Fin 128) (r' : Fin 256) (j' : Fin 1024) (hr : r'.val = r.val) (hj : j'.val = 4 * 128 + d.val) :
    k0_pay32 (k0_pay40 x0 x1 x2 x3 x4 x5 x6) (k0_pay41 x0 x1 x2 x3 x4 x5 x6) (k0_pay42 x0 x1 x2 x3 x4 x5 x6) (k0_pay43 x0 x1 x2 x3 x4 x5 x6) (ix2 r d)
      = turnAt (part 1024 (by omega) (projRow x0 x1 x2 x3 r')) (fun d => x4 (ix2 r' d)) (fun d => x5 (ix2 r' d)) (fun d => x6 (ix2 r' d)) j' :=
  (key_4 _ _ _ _ r d).trans (piece_lane x0 x1 x2 x3 x4 x5 x6 1024 (by omega) 4 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem key_piece_5 (r : Fin 256) (d : Fin 128) (r' : Fin 256) (j' : Fin 1024) (hr : r'.val = r.val) (hj : j'.val = 5 * 128 + d.val) :
    k0_pay1 (k0_pay43 x0 x1 x2 x3 x4 x5 x6) (k0_pay33 (k0_pay40 x0 x1 x2 x3 x4 x5 x6)) (k0_pay34 (k0_pay40 x0 x1 x2 x3 x4 x5 x6) (k0_pay41 x0 x1 x2 x3 x4 x5 x6) (k0_pay42 x0 x1 x2 x3 x4 x5 x6)) 16#32 (ix2 r d)
      = turnAt (part 1024 (by omega) (projRow x0 x1 x2 x3 r')) (fun d => x4 (ix2 r' d)) (fun d => x5 (ix2 r' d)) (fun d => x6 (ix2 r' d)) j' :=
  (key_5 _ _ _ _ r d).trans (piece_lane x0 x1 x2 x3 x4 x5 x6 1024 (by omega) 5 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem key_piece_6 (r : Fin 256) (d : Fin 128) (r' : Fin 256) (j' : Fin 1024) (hr : r'.val = r.val) (hj : j'.val = 6 * 128 + d.val) :
    k0_pay2 (k0_pay40 x0 x1 x2 x3 x4 x5 x6) (k0_pay41 x0 x1 x2 x3 x4 x5 x6) (k0_pay42 x0 x1 x2 x3 x4 x5 x6) (k0_pay43 x0 x1 x2 x3 x4 x5 x6) (ix2 r d)
      = turnAt (part 1024 (by omega) (projRow x0 x1 x2 x3 r')) (fun d => x4 (ix2 r' d)) (fun d => x5 (ix2 r' d)) (fun d => x6 (ix2 r' d)) j' :=
  (key_6 _ _ _ _ r d).trans (piece_lane x0 x1 x2 x3 x4 x5 x6 1024 (by omega) 6 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem key_piece_7 (r : Fin 256) (d : Fin 128) (r' : Fin 256) (j' : Fin 1024) (hr : r'.val = r.val) (hj : j'.val = 7 * 128 + d.val) :
    k0_pay3 (k0_pay40 x0 x1 x2 x3 x4 x5 x6) (k0_pay41 x0 x1 x2 x3 x4 x5 x6) (k0_pay42 x0 x1 x2 x3 x4 x5 x6) (k0_pay43 x0 x1 x2 x3 x4 x5 x6) (ix2 r d)
      = turnAt (part 1024 (by omega) (projRow x0 x1 x2 x3 r')) (fun d => x4 (ix2 r' d)) (fun d => x5 (ix2 r' d)) (fun d => x6 (ix2 r' d)) j' :=
  (key_7 _ _ _ _ r d).trans (piece_lane x0 x1 x2 x3 x4 x5 x6 1024 (by omega) 7 (by omega) _ _ _ _ r d (key_row x0 x1 x2 x3 x4 x5 x6 r)
    (fun d => (table_rows x0 x1 x2 x3 x4 x5 x6 r d).2.2.2.1) (fun d => (table_rows x0 x1 x2 x3 x4 x5 x6 r d).2.2.2.2.1) (fun d => (table_rows x0 x1 x2 x3 x4 x5 x6 r d).2.2.2.2.2) r' j' hr hj)

theorem out8_apply (y : S256x1024.Idx) : out0_8 x0 x1 x2 x3 x4 x5 x6 y
    = turnAt (part 1024 (by omega) (projRow x0 x1 x2 x3 (y 0))) (fun d => x4 (ix2 (y 0) d)) (fun d => x5 (ix2 (y 0) d)) (fun d => x6 (ix2 (y 0) d)) (y 1) := by
  unfold out0_8
  refine View.canon_apply_of_pieces (Val := Elt Ideal) (e := .bf16)
    (fun y : S256x1024.Idx => (turnAt (part 1024 (by omega) (projRow x0 x1 x2 x3 (y 0))) (fun d => x4 (ix2 (y 0) d)) (fun d => x5 (ix2 (y 0) d)) (fun d => x6 (ix2 (y 0) d)) (y 1) : EReal)) _ ?_ y (cover0_8 _ _ _ _ _ _ _ _ y)
  intro p hp x
  have one (a : ℕ) : a + 1 * (x 1).val = a + (x 1).val := by omega
  simp only [List.mem_cons, List.not_mem_nil, or_false] at hp
  rcases hp with rfl | rfl | rfl | rfl | rfl | rfl | rfl | rfl
  · exact (congrArg _ (eq_ix2 x)).trans (key_piece_7 x0 x1 x2 x3 x4 x5 x6 (x 0) (x 1) _ _ ((Nat.zero_add _).trans (Nat.one_mul _)) (one 896))
  · exact (congrArg _ (eq_ix2 x)).trans (key_piece_6 x0 x1 x2 x3 x4 x5 x6 (x 0) (x 1) _ _ ((Nat.zero_add _).trans (Nat.one_mul _)) (one 768))
  · exact (congrArg _ (eq_ix2 x)).trans (key_piece_5 x0 x1 x2 x3 x4 x5 x6 (x 0) (x 1) _ _ ((Nat.zero_add _).trans (Nat.one_mul _)) (one 640))
  · exact (congrArg _ (eq_ix2 x)).trans (key_piece_4 x0 x1 x2 x3 x4 x5 x6 (x 0) (x 1) _ _ ((Nat.zero_add _).trans (Nat.one_mul _)) (one 512))
  · exact (congrArg _ (eq_ix2 x)).trans (key_piece_3 x0 x1 x2 x3 x4 x5 x6 (x 0) (x 1) _ _ ((Nat.zero_add _).trans (Nat.one_mul _)) (one 384))
  · exact (congrArg _ (eq_ix2 x)).trans (key_piece_2 x0 x1 x2 x3 x4 x5 x6 (x 0) (x 1) _ _ ((Nat.zero_add _).trans (Nat.one_mul _)) (one 256))
  · exact (congrArg _ (eq_ix2 x)).trans (key_piece_1 x0 x1 x2 x3 x4 x5 x6 (x 0) (x 1) _ _ ((Nat.zero_add _).trans (Nat.one_mul _)) (one 128))
  · exact (congrArg _ (eq_ix2 x)).trans (key_piece_0 x0 x1 x2 x3 x4 x5 x6 (x 0) (x 1) _ _ ((Nat.zero_add _).trans (Nat.one_mul _)) (one 0))

theorem out9_apply (y : S256x1024.Idx) : out0_9 x0 x1 x2 x3 x4 x5 x6 y = part 2048 (by omega) (projRow x0 x1 x2 x3 (y 0)) (y 1) := by
  unfold out0_9
  refine (congrFun (View.canon_cons_unit_lit inb_S256x1024_S256x1024_0_0 _ [] (by decide)) y).trans ?_
  exact (congrArg _ (eq_ix2 y)).trans (value_row x0 x1 x2 x3 x4 x5 x6 (y 0) (y 1))

end Cert.Proj

end
-- ==== Proof.ProjArray.lean ====
/- The three result arrays after the run, as rows of the arguments. -/
module

public import proofs.«01_k».proof.Proof.ProjEntry
public import proofs.«01_k».proof.Proof.ProjOut
public import proofs.«01_k».proof.Proof.PostArray

@[expose] public section

set_option maxRecDepth 16384

noncomputable section

namespace Cert.Proj

open Cert.ProjectIdeal Cert.ProjectIdeal.Gen Idealize.ShloMosaic Idealize.ShloMosaic.TcCoe Idealize.SL.Sem
open Cert.Ctx (projLane)
open Cert.Post (rows)

variable (m : (ℓ : Loc nD τ sig) → Buf (Elt Ideal) ℓ) (c : Dev nD)

/-! ## The blocks -/

/-- Every window's block at every point. -/
theorem idx : ∀ t : Fin cfg0.N, win0_0.index t = ![t.val, 0] ∧ win0_1.index t = ![1 + t.val / 8, 0, 0] ∧ win0_2.index t = ![0, 0]
    ∧ win0_3.index t = ![0, 0] ∧ win0_4.index t = ![t.val % 8, 0] ∧ win0_5.index t = ![t.val % 8, 0] ∧ win0_6.index t = ![t.val % 8, 0]
    ∧ win0_7.index t = ![t.val, 0] ∧ win0_8.index t = ![t.val, 0] ∧ win0_9.index t = ![t.val, 0] ∧ t.val < 64 :=
  (by decide +kernel : ∀ t : Fin grid0.N, _)

theorem count (t : Fin cfg0.N) : t.val < 64 := (idx t).2.2.2.2.2.2.2.2.2.2

/-- The batch entry of a point, and the token of a block's row. -/
abbrev entryOf (t : Fin cfg0.N) : Fin 8 := ⟨t.val / 8, by have := count t; omega⟩

abbrev tokenOf (t : Fin cfg0.N) (p : Fin 256) : Fin 2048 := ⟨t.val % 8 * 256 + p.val, by omega⟩

theorem token_blk (t : Fin cfg0.N) (p : Fin 256) (k : Fin 1024) :
    iblk m c 0 t (ix2 p k) = V m c main_v0 (ix2 ⟨(entryOf t).val * 2048 + (tokenOf t p).val, by have := count t; omega⟩ k) := by
  blk_ext [iblk, idx t]

theorem mod_blk (t : Fin cfg0.N) (a : Fin 6) (k : Fin 1024) :
    iblk m c 1 t (ix3 0 a k) = V m c main_arg1 (ix3 ⟨1 + (entryOf t).val, by have := count t; omega⟩ a k) := by
  blk_ext [iblk, idx t]

theorem gain_blk (t : Fin cfg0.N) (k : Fin 1024) : iblk m c 2 t (ix2 0 k) = V m c main_v2 (ix2 0 k) := by
  blk_ext [iblk, idx t]

theorem weight_blk (t : Fin cfg0.N) (k : Fin 1024) (j : Fin 3072) : iblk m c 3 t (ix2 k j) = V m c main_v1 (ix2 k j) := by
  blk_ext [iblk, idx t]

theorem cos_blk (t : Fin cfg0.N) (p : Fin 256) (d : Fin 128) : iblk m c 4 t (ix2 p d) = V m c main_v12 (ix2 (tokenOf t p) d) := by
  blk_ext [iblk, idx t]

theorem on_blk (t : Fin cfg0.N) (p : Fin 256) (d : Fin 128) : iblk m c 5 t (ix2 p d) = V m c main_v13 (ix2 (tokenOf t p) d) := by
  blk_ext [iblk, idx t]

theorem back_blk (t : Fin cfg0.N) (p : Fin 256) (d : Fin 128) : iblk m c 6 t (ix2 p d) = V m c main_v14 (ix2 (tokenOf t p) d) := by
  blk_ext [iblk, idx t]

/-! ## The rows -/

/-- A token's projected row, from the arguments on device `c`. -/
def projAt (b : Fin 8) (l : Fin 2048) (j : Fin 3072) : EReal :=
  projLane (fun k => m ((c : Thread nD τ).loc main_arg0) (ix3 b l k)) (fun k => m ((c : Thread nD τ).loc main_arg2) (ix1 k))
    (fun k => m ((c : Thread nD τ).loc main_arg1) (ix3 ⟨1 + b.val, by omega⟩ 1 k)) (fun k => m ((c : Thread nD τ).loc main_arg1) (ix3 ⟨1 + b.val, by omega⟩ 0 k))
    (fun k => m ((c : Thread nD τ).loc main_arg3) (ix2 k j))

/-- The same row rotated by the token's cosines and sines. -/
def turnedAt (o : ℕ) (ho : o + 1024 ≤ 3072) (b : Fin 8) (l : Fin 2048) : Fin 1024 → EReal :=
  rotLane (part o ho (projAt m c b l)) (fun d => m ((c : Thread nD τ).loc main_arg4) (ix2 l d)) (fun d => m ((c : Thread nD τ).loc main_arg5) (ix2 l d))

/-- The queries' row: rotated and scaled. -/
def queryAt (b : Fin 8) (l : Fin 2048) (j : Fin 1024) : EReal := turnedAt m c 0 (by omega) b l j * queryScale

/-- A lane of the projection at equal rows. -/
theorem proj_congr {x x' g g' sc sc' sh sh' w w' : Fin 1024 → EReal} (h0 : ∀ k, x k = x' k) (h1 : ∀ k, g k = g' k) (h2 : ∀ k, sc k = sc' k)
    (h3 : ∀ k, sh k = sh' k) (h4 : ∀ k, w k = w' k) : projLane x g sc sh w = projLane x' g' sc' sh' w' := by
  rw [funext h0, funext h1, funext h2, funext h3, funext h4]

theorem proj_blk (t : Fin cfg0.N) (p : Fin 256) : projRow (iblk m c 0 t) (iblk m c 1 t) (iblk m c 2 t) (iblk m c 3 t) p = projAt m c (entryOf t) (tokenOf t p) :=
  funext fun j => proj_congr (fun k => (token_blk m c t p k).trans (token_entry m c (entryOf t) (tokenOf t p) k))
    (fun k => (gain_blk m c t k).trans (gain_entry m c k))
    (fun k => (mod_blk m c t 1 k).trans (congrFun (mod_entry m c) _))
    (fun k => (mod_blk m c t 0 k).trans (congrFun (mod_entry m c) _))
    (fun k => (weight_blk m c t k j).trans (weight_entry m c k j))

theorem turned_blk (o : ℕ) (ho : o + 1024 ≤ 3072) (t : Fin cfg0.N) (p : Fin 256) (j : Fin 1024) :
    turnAt (part o ho (projRow (iblk m c 0 t) (iblk m c 1 t) (iblk m c 2 t) (iblk m c 3 t) p)) (fun d => iblk m c 4 t (ix2 p d)) (fun d => iblk m c 5 t (ix2 p d))
      (fun d => iblk m c 6 t (ix2 p d)) j = turnedAt m c o ho (entryOf t) (tokenOf t p) j := by
  refine Eq.trans ?_ (turnAt_rot _ _ _ j)
  refine congrFun (congr (congr (congr (congrArg (fun f => turnAt (part o ho f)) (proj_blk m c t p)) (funext fun d => ?_)) (funext fun d => ?_)) (funext fun d => ?_)) j
  · exact (cos_blk m c t p d).trans (cos_entry m c (tokenOf t p) d)
  · exact (on_blk m c t p d).trans (on_entry m c (tokenOf t p) d)
  · exact (back_blk m c t p d).trans (back_entry m c (tokenOf t p) d)

theorem rows_blk (f : Fin 8 → Fin 2048 → Fin 1024 → EReal) (t : Fin cfg0.N) (p : Fin 256) (j : Fin 1024) (i : S16384x1024.Idx)
    (h0 : (i 0).val = t.val * 256 + p.val) (h1 : (i 1).val = j.val) : f (entryOf t) (tokenOf t p) j = rows f i := by
  have hb : entryOf t = ⟨(i 0).val / 2048, by have := (i 0).isLt; change (i 0).val < 16384 at this; omega⟩ :=
    Fin.ext (by show t.val / 8 = (i 0).val / 2048; omega)
  have hl : tokenOf t p = ⟨(i 0).val % 2048, by omega⟩ := Fin.ext (by show t.val % 8 * 256 + p.val = (i 0).val % 2048; omega)
  have hj : j = i 1 := Fin.ext h1.symm
  rw [hb, hl, hj]
  rfl

theorem query_final : (dats m 0 c).arrAt 7 cfg0.N = fun i : S16384x1024.Idx => (rows (queryAt m c) i : Elt Ideal .bf16) := by
  refine (dats m 0 c).arrAt_eq_of_covers 7 _ (by decide +kernel) fun t _ y => ?_
  blk_simp
  rw [after0_7]
  refine (out7_apply _ _ _ _ _ _ _ y).trans ((congrArg (· * queryScale) (turned_blk m c 0 (by omega) t (y 0) (y 1))).trans ?_)
  refine rows_blk (queryAt m c) t (y 0) (y 1) _ ?_ ?_
  · blk_simp [idx t]
  · blk_simp [idx t]

theorem key_final : (dats m 0 c).arrAt 8 cfg0.N = fun i : S16384x1024.Idx => (rows (turnedAt m c 1024 (by omega)) i : Elt Ideal .bf16) := by
  refine (dats m 0 c).arrAt_eq_of_covers 8 _ (by decide +kernel) fun t _ y => ?_
  blk_simp
  rw [after0_8]
  refine (out8_apply _ _ _ _ _ _ _ y).trans ((turned_blk m c 1024 (by omega) t (y 0) (y 1)).trans ?_)
  refine rows_blk _ t (y 0) (y 1) _ ?_ ?_
  · blk_simp [idx t]
  · blk_simp [idx t]

theorem value_final : (dats m 0 c).arrAt 9 cfg0.N
    = fun i : S16384x1024.Idx => (rows (fun b l => part 2048 (by omega) (projAt m c b l)) i : Elt Ideal .bf16) := by
  refine (dats m 0 c).arrAt_eq_of_covers 9 _ (by decide +kernel) fun t _ y => ?_
  blk_simp
  rw [after0_9]
  refine (out9_apply _ _ _ _ _ _ _ y).trans ((congrFun (congrArg (part 2048 (by omega)) (proj_blk m c t (y 0))) (y 1)).trans ?_)
  refine rows_blk (fun b l => part 2048 (by omega) (projAt m c b l)) t (y 0) (y 1) _ ?_ ?_
  · blk_simp [idx t]
  · blk_simp [idx t]

end Cert.Proj

end
-- ==== Proof.ProjRef.lean ====
/- The reference's rotated projection at an index: a token's row, from the arguments. -/
module

public import proofs.«01_k».proof.Proof.ProjOut
public import proofs.«01_k».proof.Proof.Softmax
public import proofs.«01_k».proof.Proof.Gen.RotatedIdeal.Read

@[expose] public section

set_option maxRecDepth 16384

noncomputable section

namespace Cert.Proj

open Cert.RotatedIdeal Cert.RotatedIdeal.Gen Cert.RotatedIdeal.Read Idealize.ShloMosaic Idealize.ShloMosaic.TcCoe Idealize.SL.Sem
open Cert.Ctx (normLane projLane)

variable (x0 : (⟨S8x2048x1024, .f32⟩ : BufTy).Contents (Elt Ideal)) (x1 : (⟨S16x6x1024, .f32⟩ : BufTy).Contents (Elt Ideal))
  (x2 : (⟨S1024, .f32⟩ : BufTy).Contents (Elt Ideal)) (x3 : (⟨S1024x3072, .f32⟩ : BufTy).Contents (Elt Ideal))
  (x4 x5 : (⟨S2048x64, .f32⟩ : BufTy).Contents (Elt Ideal))

theorem shift_apply (b : Fin 8) (k : Fin 1024) : val_main_v2 x1 (ix3 b 0 k) = x1 (ix3 ⟨1 + b.val, by omega⟩ 0 k) := by
  pointwise [val_main_v2, val_main_v1, val_main_v0]

theorem scale_apply (b : Fin 8) (k : Fin 1024) : val_main_v5 x1 (ix3 b 0 k) = x1 (ix3 ⟨1 + b.val, by omega⟩ 1 k) := by
  pointwise [val_main_v5, val_main_v4, val_main_v3]

/-- The reference's projected row of a token. -/
def refProj (b : Fin 8) (l : Fin 2048) (j : Fin 3072) : EReal :=
  projLane (fun k => x0 (ix3 b l k)) (fun k => x2 (ix1 k)) (fun k => x1 (ix3 ⟨1 + b.val, by omega⟩ 1 k)) (fun k => x1 (ix3 ⟨1 + b.val, by omega⟩ 0 k))
    (fun k => x3 (ix2 k j))

theorem normed_apply (b : Fin 8) (l : Fin 2048) (k : Fin 1024) : val_main_v36 x0 x1 x2 (ix3 b l k)
    = normLane (fun k => x0 (ix3 b l k)) (fun k => x2 (ix1 k)) (fun k => x1 (ix3 ⟨1 + b.val, by omega⟩ 1 k)) (fun k => x1 (ix3 ⟨1 + b.val, by omega⟩ 0 k)) k := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_cst, val_main_cst_0,
    val_main_cst_1, val_main_cst_2, shift_apply, scale_apply]
  rfl

theorem all_apply (b : Fin 8) (l : Fin 2048) (j : Fin 3072) : val_main_v37 x0 x1 x2 x3 (ix3 b l j) = refProj x0 x1 x2 x3 b l j := by
  pointwise [val_main_v37, normed_apply]
  rfl

/-- A lane of a half head, from its three numbers. -/
abbrev laneOf (h : Fin 8) (a : Fin 2) (d : Fin 64) : Fin 1024 := ⟨h.val * 128 + a.val * 64 + d.val, by omega⟩

theorem query_pre (b : Fin 8) (l : Fin 2048) (h : Fin 8) (a : Fin 2) (d : Fin 64) : val_main_v41 x0 x1 x2 x3 (ix5 b l h a d)
    = part 0 (by omega) (refProj x0 x1 x2 x3 b l) (laneOf h a d) := by
  refine Eq.trans ?_ (all_apply x0 x1 x2 x3 b l ⟨0 + (laneOf h a d).val, by dsimp only; omega⟩)
  pointwise [val_main_v41, val_main_v38]
  blk_ext []

theorem key_pre (b : Fin 8) (l : Fin 2048) (h : Fin 8) (a : Fin 2) (d : Fin 64) : val_main_v42 x0 x1 x2 x3 (ix5 b l h a d)
    = part 1024 (by omega) (refProj x0 x1 x2 x3 b l) (laneOf h a d) := by
  refine Eq.trans ?_ (all_apply x0 x1 x2 x3 b l ⟨1024 + (laneOf h a d).val, by dsimp only; omega⟩)
  pointwise [val_main_v42, val_main_v39]
  blk_ext []

theorem value_apply (b : Fin 8) (l : Fin 2048) (j : Fin 1024) : val_main_v85 x0 x1 x2 x3 (ix2 ⟨b.val * 2048 + l.val, by omega⟩ j)
    = part 2048 (by omega) (refProj x0 x1 x2 x3 b l) j := by
  refine Eq.trans ?_ (all_apply x0 x1 x2 x3 b l ⟨2048 + j.val, by omega⟩)
  pointwise [val_main_v85, val_main_v84, val_main_v43, val_main_v40]
  blk_ext []

/-- The opposite of a row's entry, from the entry's number. -/
theorem lane_neg {n : ℕ} (f : Fin n → EReal) {i k : Fin n} (h : i = k) : -f i = -f k := by
  rw [h]

/-- A lane of the rotation, from the row's half head. -/
theorem rot_lanes (y : Fin 1024 → EReal) (C S : Fin 64 → EReal) (j : Fin 1024) (z : Fin 64 → EReal)
    (hz : ∀ d : Fin 64, z d = y (laneOf ⟨j.val / 128, by omega⟩ ⟨j.val % 128 / 64, by omega⟩ d)) :
    z ⟨j.val % 64, by omega⟩ * C ⟨j.val % 64, by omega⟩
      + (if h : j.val % 64 % 32 < 16 then -z ⟨j.val % 64 + 16, by omega⟩ else z ⟨j.val % 64 - 16, by omega⟩) * S ⟨j.val % 64, by omega⟩ = rotLane y C S j := by
  unfold rotLane
  have h0 : z ⟨j.val % 64, by omega⟩ = y j := (hz _).trans (congrArg y (Fin.ext (by dsimp only; omega)))
  rw [h0]
  by_cases h : j.val % 32 < 16
  · have h1 : z ⟨j.val % 64 + 16, by omega⟩ = y ⟨j.val + 16, by omega⟩ := (hz _).trans (congrArg y (Fin.ext (by dsimp only; omega)))
    rw [dif_pos h, dif_pos (by omega), h1]
  · have h1 : z ⟨j.val % 64 - 16, by omega⟩ = y ⟨j.val - 16, by omega⟩ := (hz _).trans (congrArg y (Fin.ext (by dsimp only; omega)))
    rw [dif_neg h, dif_neg (by omega), h1]

theorem query_partner (b : Fin 8) (l : Fin 2048) (h : Fin 8) (a : Fin 2) (d : Fin 64) : val_main_v50 x0 x1 x2 x3 (ix5 b l h a d)
    = if hd : d.val % 32 < 16 then -(show EReal from val_main_v41 x0 x1 x2 x3 (ix5 b l h a ⟨d.val + 16, by omega⟩))
      else val_main_v41 x0 x1 x2 x3 (ix5 b l h a ⟨d.val - 16, by omega⟩) := by
  pointwise [val_main_v50, val_main_v49, val_main_v48, val_main_v47, val_main_v46, val_main_v45, val_main_v44]
  by_cases h1 : d.val < 16
  · rw [dif_pos h1, dif_pos (by omega)]
    exact lane_neg (fun e => (show EReal from val_main_v41 x0 x1 x2 x3 (ix5 b l h a e))) (Fin.ext (by dsimp only; omega))
  · rw [dif_neg h1]
    by_cases h2 : d.val - 16 < 16
    · rw [dif_pos h2, dif_neg (by omega)]
    · rw [dif_neg h2]
      by_cases h3 : d.val - 16 - 16 < 16
      · rw [dif_pos h3, dif_pos (by omega)]
        exact lane_neg (fun e => (show EReal from val_main_v41 x0 x1 x2 x3 (ix5 b l h a e))) (Fin.ext (by dsimp only; omega))
      · rw [dif_neg h3, dif_neg (by omega)]
        exact congrArg (fun e => val_main_v41 x0 x1 x2 x3 (ix5 b l h a e)) (Fin.ext (by dsimp only <;> omega))

theorem key_partner (b : Fin 8) (l : Fin 2048) (h : Fin 8) (a : Fin 2) (d : Fin 64) : val_main_v72 x0 x1 x2 x3 (ix5 b l h a d)
    = if hd : d.val % 32 < 16 then -(show EReal from val_main_v42 x0 x1 x2 x3 (ix5 b l h a ⟨d.val + 16, by omega⟩))
      else val_main_v42 x0 x1 x2 x3 (ix5 b l h a ⟨d.val - 16, by omega⟩) := by
  pointwise [val_main_v72, val_main_v71, val_main_v70, val_main_v69, val_main_v68, val_main_v67, val_main_v66]
  by_cases h1 : d.val < 16
  · rw [dif_pos h1, dif_pos (by omega)]
    exact lane_neg (fun e => (show EReal from val_main_v42 x0 x1 x2 x3 (ix5 b l h a e))) (Fin.ext (by dsimp only; omega))
  · rw [dif_neg h1]
    by_cases h2 : d.val - 16 < 16
    · rw [dif_pos h2, dif_neg (by omega)]
    · rw [dif_neg h2]
      by_cases h3 : d.val - 16 - 16 < 16
      · rw [dif_pos h3, dif_pos (by omega)]
        exact lane_neg (fun e => (show EReal from val_main_v42 x0 x1 x2 x3 (ix5 b l h a e))) (Fin.ext (by dsimp only; omega))
      · rw [dif_neg h3, dif_neg (by omega)]
        exact congrArg (fun e => val_main_v42 x0 x1 x2 x3 (ix5 b l h a e)) (Fin.ext (by dsimp only <;> omega))

/-- The reference's factor of the queries is the number that the kernel's constant stands for. -/
theorem scale_named : Cert.Attn.scale = queryScale := by
  rw [Cert.Attn.scale_real]
  refine Eq.trans ?_ (IdealRules.named_const.ideal_named_scalar _ _ _ _ rfl).symm
  rw [one_div (Real.log 2), mul_comm]

theorem query_apply (b : Fin 8) (l : Fin 2048) (j : Fin 1024) : val_main_v65 x0 x1 x2 x3 x4 x5 (ix2 ⟨b.val * 2048 + l.val, by omega⟩ j)
    = rotLane (part 0 (by omega) (refProj x0 x1 x2 x3 b l)) (fun d => x4 (ix2 l d)) (fun d => x5 (ix2 l d)) j * queryScale := by
  have h : val_main_v65 x0 x1 x2 x3 x4 x5 (ix2 ⟨b.val * 2048 + l.val, by omega⟩ j)
      = val_main_v63 x0 x1 x2 x3 x4 x5 (ix5 b l ⟨j.val / 128, by omega⟩ ⟨j.val % 128 / 64, by omega⟩ ⟨j.val % 64, by omega⟩) := by
    pointwise [val_main_v65, val_main_v64]
    blk_ext []
  rw [h]
  pointwise [val_main_v63, val_main_v62, val_main_v61, val_main_v60, val_main_v59, val_main_v58, val_main_v57, val_main_v56, val_main_v55, val_main_v54, val_main_v53, val_main_v52, val_main_v51, val_main_cst_3, val_main_cst_4]
  rw [query_partner]
  exact congr (congrArg (· * ·) (rot_lanes _ (fun d => x4 (ix2 l d)) (fun d => x5 (ix2 l d)) j _ (fun d => query_pre x0 x1 x2 x3 b l _ _ d))) scale_named

theorem key_apply (b : Fin 8) (l : Fin 2048) (j : Fin 1024) : val_main_v83 x0 x1 x2 x3 x4 x5 (ix2 ⟨b.val * 2048 + l.val, by omega⟩ j)
    = rotLane (part 1024 (by omega) (refProj x0 x1 x2 x3 b l)) (fun d => x4 (ix2 l d)) (fun d => x5 (ix2 l d)) j := by
  have h : val_main_v83 x0 x1 x2 x3 x4 x5 (ix2 ⟨b.val * 2048 + l.val, by omega⟩ j)
      = val_main_v81 x0 x1 x2 x3 x4 x5 (ix5 b l ⟨j.val / 128, by omega⟩ ⟨j.val % 128 / 64, by omega⟩ ⟨j.val % 64, by omega⟩) := by
    pointwise [val_main_v83, val_main_v82]
    blk_ext []
  rw [h]
  pointwise [val_main_v81, val_main_v80, val_main_v79, val_main_v78, val_main_v77, val_main_v76, val_main_v75, val_main_v74, val_main_v73]
  rw [key_partner]
  exact (rot_lanes _ (fun d => x4 (ix2 l d)) (fun d => x5 (ix2 l d)) j _ (fun d => key_pre x0 x1 x2 x3 b l _ _ d))

end Cert.Proj

end
-- ==== Proof.ProjCompare.lean ====
/- The rotated projection compared: the grid's three arrays hold the reference's rows. -/
module

public import proofs.«01_k».proof.Proof.ProjArray
public import proofs.«01_k».proof.Proof.ProjRef
public import proofs.«01_k».proof.Proof.PostCompare
public import proofs.«01_k».proof.Proof.Gen.Project.Frame
public import proofs.«01_k».proof.Proof.Gen.ProjectIdeal.Value
public import proofs.«01_k».proof.Proof.Gen.RotatedIdeal.Run
public import proofs.«01_k».proof.Defs

@[expose] public section

set_option maxRecDepth 16384

noncomputable section

namespace Cert.Proj

open Cert.ProjectIdeal Cert.ProjectIdeal.Gen Idealize.ShloMosaic Idealize.ShloMosaic.TcCoe Idealize.SL.Sem
open Cert.Post (token_index rows_at)

variable (m : (ℓ : Loc nD τ sig) → Buf (Elt Ideal) ℓ) (c : Dev nD)

theorem query_eq : (dats m 0 c).arrAt 7 cfg0.N = Cert.RotatedIdeal.Read.val_main_v65 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  refine (query_final m c).trans (funext fun i => ?_)
  obtain ⟨b, l, j, rfl⟩ := token_index i
  exact (rows_at _ b l j).trans (query_apply _ _ _ _ _ _ b l j).symm

theorem key_eq : (dats m 0 c).arrAt 8 cfg0.N = Cert.RotatedIdeal.Read.val_main_v83 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  refine (key_final m c).trans (funext fun i => ?_)
  obtain ⟨b, l, j, rfl⟩ := token_index i
  exact (rows_at _ b l j).trans (key_apply _ _ _ _ _ _ b l j).symm

theorem value_eq : (dats m 0 c).arrAt 9 cfg0.N = Cert.RotatedIdeal.Read.val_main_v85 (F := Ideal) (m ((c.tc : Thread nD τ).loc main_arg0))
    (m ((c.tc : Thread nD τ).loc main_arg1)) (m ((c.tc : Thread nD τ).loc main_arg2)) (m ((c.tc : Thread nD τ).loc main_arg3)) := by
  refine (value_final m c).trans (funext fun i => ?_)
  obtain ⟨b, l, j, rfl⟩ := token_index i
  exact (rows_at _ b l j).trans (value_apply _ _ _ _ b l j).symm

theorem frame_rotated : Cert.quiescent_RotatedIdeal := fun m ρ _ => (θ_run (Cert.RotatedIdeal.defs (F := Ideal)) _ _).mono
  (fun r h => ⟨fun c => (h c).2.2.2, Idealize.ShloMosaic.sem_eq_zero_of_no_sems (by decide) r.2⟩) (Cert.RotatedIdeal.Value.run (F := Ideal) m ρ)

theorem algebraic : Cert.algebraic_ProjectIdeal_RotatedIdeal := by
  intro m g m' g' _ hagree
  refine ⟨fun c => (dats m 0 c).arrAt 7 cfg0.N, fun c => (dats m 0 c).arrAt 8 cfg0.N, fun c => (dats m 0 c).arrAt 9 cfg0.N,
    Cert.ProjectIdeal.Value.run_blocks m g, (θ_run _ _ _).mono (fun r h c => ?_) (Cert.RotatedIdeal.Value.run (F := Ideal) m' g')⟩
  obtain ⟨h0, h1, h2, h3, h4, h5⟩ := hagree c
  refine ⟨(h c).1.trans ((Cert.RotatedIdeal.Read.val_main_v65_eq _ _).trans (Eq.trans ?_ (query_eq m c).symm)),
    (h c).2.1.trans ((Cert.RotatedIdeal.Read.val_main_v83_eq _ _).trans (Eq.trans ?_ (key_eq m c).symm)),
    (h c).2.2.1.trans ((Cert.RotatedIdeal.Read.val_main_v85_eq _ _ _ _).trans (Eq.trans ?_ (value_eq m c).symm)), (h c).2.2.2⟩
  · exact congr (congr (congr (congr (congr (congrArg (Cert.RotatedIdeal.Read.val_main_v65 (F := Ideal)) h0) h1) h2) h3) h4) h5
  · exact congr (congr (congr (congr (congr (congrArg (Cert.RotatedIdeal.Read.val_main_v83 (F := Ideal)) h0) h1) h2) h3) h4) h5
  · exact congr (congr (congr (congrArg (Cert.RotatedIdeal.Read.val_main_v85 (F := Ideal)) h0) h1) h2) h3

end Cert.Proj

end
-- ==== Proof.MoeLaunch.lean ====
/- The experts' call from launch to end: what every run leaves, for tables whose blocks lie inside their arrays. -/
module

public import proofs.«01_k».proof.Proof.MoeTile

@[expose] public section

set_option maxRecDepth 16384

noncomputable section

namespace Cert.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's two casts before the call -/

/-- The buffers once the weights are cast. -/
abbrev V (c : Dev nD) (b : Ref sig .tc) : Buf (Elt F) ((c : Thread nD τ).loc b) := StableHlo.after hostOps0 (fun b => m (c, b)) b

theorem casts_fresh : (hostOps0 : List (HloOp τ sig (Elt F))).Forall fun op => op.fresh = ∅ := by
  simp only [List.Forall]; repeat' constructor

set_option maxHeartbeats 800000 in
theorem to_call (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub casts_fresh main_chain

/-- A buffer that is neither cast's result is as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, Finset.mem_singleton]
    exact ⟨StableHlo.devRef_ne_of_ne h0, StableHlo.devRef_ne_of_ne h1⟩))

/-! ## The tables -/

/-- The tables when the call is entered. -/
def tbl : pre0.Contents (Elt F) := fun j => V m (0 : Dev nD) (pre0.ref j)

theorem V_tbl (c : Dev nD) (j : Fin 2) : V m c (pre0.ref j) = tbl m j := by
  obtain rfl : c = 0 := Subsingleton.elim _ _
  rfl

/-- Every block the tables select lies inside its array. -/
abbrev Fits : Prop := ok0 (F := F) (tbl m)

abbrev adm (hO : Fits m) : (pcfg0 (F := F)).Adm := ⟨tbl m, hO⟩

abbrev cfgM (hO : Fits m) : Pipeline.Cfg sig Λ₀ := cfg0 (adm m hO)

theorem tables_split (c : Dev nD) : (Pipeline.ΦT pre0 (tbl m) c : sProp 𝕄) = iprop(held c expertM (tbl m 0) ∗ held c countM (tbl m 1)) := by
  unfold Pipeline.ΦT Pipeline.prefHeld
  rw [show (Finset.univ : Finset (Fin 2)) = insert (0 : Fin 2) {(1 : Fin 2)} from by decide, bigSep_insert (by decide), bigSep_singleton]
  rfl

/-! ## What each window holds at each grid point -/

/-- The block of window `w` at point `t`. -/
def iblk (hO : Fits m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The block stored at point `t`. -/
def outAt (hO : Fits m) (c : Dev nD) (t : Fin (cfgM m hO).N) : Vec F S256x1024 .bf16 :=
  if k0_cond1 (grid0.coords t) (count c (tbl m 1)) = 1#1 then tile (iblk m hO c 0 t) (iblk m hO c 1 t) (iblk m hO c 2 t) else k0_pay2

def dats (hO : Fits m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ _ := iprop(Pipeline.ΦA spec0 c ∗ Pipeline.ΦT pre0 (tbl m) c)
  q _ := fullShare
  owed _ := 0

theorem dats_A (hO : Fits m) (c : Dev nD) (w : Fin (cfgM m hO).W) : (dats m hO 0 c).A w = V m c (Pipeline.arrRef spec0 w) := by
  dsimp only [dats]

theorem after_0 (hO : Fits m) (c : Dev nD) (t : Fin (cfgM m hO).N) : (dats m hO 0 c).after 0 t = iblk m hO c 0 t := by dsimp only [dats]; rfl
theorem after_1 (hO : Fits m) (c : Dev nD) (t : Fin (cfgM m hO).N) : (dats m hO 0 c).after 1 t = iblk m hO c 1 t := by dsimp only [dats]; rfl
theorem after_2 (hO : Fits m) (c : Dev nD) (t : Fin (cfgM m hO).N) : (dats m hO 0 c).after 2 t = iblk m hO c 2 t := by dsimp only [dats]; rfl
theorem after_3 (hO : Fits m) (c : Dev nD) (t : Fin (cfgM m hO).N) : (dats m hO 0 c).after 3 t = outAt m hO c t := by dsimp only [dats]; rfl

theorem before_0 (hO : Fits m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [dats_A]) t d).trans
    (by unfold Dat.fetched Dat.blockOf iblk; rw [dats_A]; rfl)

theorem before_1 (hO : Fits m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [dats_A]) t d).trans
    (by unfold Dat.fetched Dat.blockOf iblk; rw [dats_A]; rfl)

theorem before_2 (hO : Fits m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [dats_A]) t d).trans
    (by unfold Dat.fetched Dat.blockOf iblk; rw [dats_A]; rfl)

/-- The output is stored at every point. -/
theorem one_branch (i : grid0.Coords) (v : BitVec 32) : (!(k0_cond1 i v == 1#1) && !(k0_cond2 i v == 1#1)) = false := by
  have h := cond_not i v
  by_cases hu : k0_cond1 i v = 1#1
  · rw [hu]; rfl
  · rw [h.mpr hu]; simp

set_option maxHeartbeats 2000000 in
theorem never_idle (hO : Fits m) (t : Fin (cfgM m hO).N) : (cfgM m hO).idle 3 ((cfgM m hO).grid.coords t) = false :=
  one_branch (grid0.coords t) ((tbl m).atD 1 ![0])

/-! ## The body at a point -/

abbrev st0 (hO : Fits m) (t : Fin (cfgM m hO).N) : Memref sig .tc .vmem S256x1024 .bf16 := spec0_0.stage ((cfgM m hO).slots t 0)
abbrev st1 (hO : Fits m) (t : Fin (cfgM m hO).N) : Memref sig .tc .vmem S1x1024x5632 .bf16 := spec0_1.stage ((cfgM m hO).slots t 1)
abbrev st2 (hO : Fits m) (t : Fin (cfgM m hO).N) : Memref sig .tc .vmem S1x2816x1024 .bf16 := spec0_2.stage ((cfgM m hO).slots t 2)
abbrev st3 (hO : Fits m) (t : Fin (cfgM m hO).N) : Memref sig .tc .vmem S256x1024 .bf16 := spec0_3.stage ((cfgM m hO).slots t 3)

abbrev bodyAt (a : (pcfg0 (F := F)).Adm) (t : Fin (cfg0 a).N) : Prog (TpuEff nD τ sig (Elt F) Λ₀ .tc) PUnit :=
  cc0_moe_experts (grid0.coords t) expertM (Memref.isWhole_whole _) countM (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-- What the point is entered with, and what it leaves. -/
def Entry (hO : Fits m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

def Leave (hO : Fits m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

/-- Some run of the body stores the block `outAt` at the point's buffers. -/
theorem stores (hO : Fits m) (c : Dev nD) (t : Fin (cfgM m hO).N) (a3 : Memref sig .tc .vmem S256x1024 .bf16) (h3 : a3.IsWhole)
    (a4 : Memref sig .tc .vmem S1x1024x5632 .bf16) (h4 : a4.IsWhole) (a5 : Memref sig .tc .vmem S1x2816x1024 .bf16) (h5 : a5.IsWhole)
    (a6 : Memref sig .tc .vmem S256x1024 .bf16) (h6 : a6.IsWhole) :
    ∃ L : List (View.Piece (Elt F) S256x1024 .bf16),
      Triple c (grid0.coords t) a3 h3 a4 h4 a5 h5 a6 h6 (iblk m hO c 0 t) (iblk m hO c 1 t) (iblk m hO c 2 t) (tbl m 0) (tbl m 1) L
      ∧ ∀ f, a6.view.read (Elt F) (a6.view.writes (Elt F) f L) = outAt m hO c t := by
  by_cases hu : k0_cond1 (grid0.coords t) (count c (tbl m 1)) = 1#1
  · exact ⟨_, (used c (grid0.coords t) a3 h3 a4 h4 a5 h5 a6 h6 (iblk m hO c 0 t) (iblk m hO c 1 t) (iblk m hO c 2 t) (tbl m 0) (tbl m 1) hu).2,
      fun f => (used_read c (grid0.coords t) a3 h3 a4 h4 a5 h5 a6 h6 (iblk m hO c 0 t) (iblk m hO c 1 t) (iblk m hO c 2 t) (tbl m 0) (tbl m 1) hu f).trans (if_pos hu).symm⟩
  · exact ⟨_, (unused c (grid0.coords t) a3 h3 a4 h4 a5 h5 a6 h6 (iblk m hO c 0 t) (iblk m hO c 1 t) (iblk m hO c 2 t) (tbl m 0) (tbl m 1) hu).2,
      fun f => (unused_read c (grid0.coords t) a3 h3 a4 h4 a5 h5 a6 h6 (iblk m hO c 0 t) (iblk m hO c 1 t) (iblk m hO c 2 t) (tbl m 0) (tbl m 1) hu f).trans (if_neg hu).symm⟩

set_option maxHeartbeats 800000 in
theorem at_point (hO : Fits m) (c : Dev nD) (t : Fin (cfgM m hO).N) :
    Entry m hO c t ⊢ wp frame (wpE (defs₀ (F := F)) Variants.none c none) Set.univ (bodyAt (adm m hO) t) (fun _ => Leave m hO c t) := by
  unfold Entry Leave bodyAt
  simp only [before_0, before_1, before_2]
  rw [show (dats m hO 0 c).Φ t.succ = (dats m hO 0 c).Φ t.castSucc from rfl,
    show (dats m hO 0 c).owesAt () t.succ = (dats m hO 0 c).owesAt () t.castSucc from rfl, after_0, after_1, after_2, after_3,
    show (dats m hO 0 c).Φ t.castSucc = iprop(Pipeline.ΦA spec0 c ∗ Pipeline.ΦT pre0 (tbl m) c) from rfl, tables_split]
  obtain ⟨L, hL, hr⟩ := stores m hO c t (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
  iintro ⟨⟨HΦ, ⟨He, Hn⟩⟩, Ho, ⟨%d0, H0⟩, ⟨%d1, H1⟩, ⟨%d2, H2⟩, ⟨%d3, H3⟩⟩
  iapply (hL Set.univ _)
  isplitl [H0]; · iexact H0
  isplitl [H1]; · iexact H1
  isplitl [H2]; · iexact H2
  isplitl [H3]; · iexists _; iexact H3
  isplitl [He]; · iexact He
  isplitl [Hn]; · iexact Hn
  iintro ⟨H0, H1, H2, ⟨%f, H3⟩, He, Hn⟩
  isplitl [HΦ He Hn]
  · isplitl [HΦ]; · iexact HΦ
    isplitl [He]; · iexact He
    iexact Hn
  isplitl [Ho]; · iexact Ho
  isplitl [H0]; · iexact H0
  isplitl [H1]; · iexact H1
  isplitl [H2]; · iexact H2
  unfold owns; iexists _; isplitr
  swap; · iexact H3
  ipureintro; exact hr f

theorem row (hO : Fits m) (t : Fin (cfgM m hO).N) :
    defs₀ (F := F) .tc (cfgM m hO).body ((cfgM m hO).bodyArgs t ((cfgM m hO).slots t)) = bodyAt (adm m hO) t := by
  unfold defs₀; rw [Defs.onTc_tc]

theorem settled {b : Bool} (hb : b = false) {P Q : sProp 𝕄} : P ⊢ (match (generalizing := false) b with | true => Q | false => P) := by
  subst hb
  exact .rfl

set_option maxHeartbeats 2000000 in
theorem obligation (hO : Fits m) (c : Dev nD) : BodyObligation (dats (F := F) m hO 0 c) (defs₀ (F := F)) Variants.none () Set.univ := fun t => by
  rw [bigSep_W0, bigSep_W0, row m hO]
  refine triple_restated (at_point m hO c t) rfl .rfl fun _ => ?_
  unfold Leave
  refine sep_mono .rfl (sep_mono .rfl (sep_mono .rfl (sep_mono .rfl (sep_mono .rfl ?_))))
  exact settled (F := F) (never_idle (F := F) m hO t)

/-! ## The launch -/

set_option backward.isDefEq.respectTransparency.types false in
theorem run (hO : Fits m) : θ_run (defs (F := F)) (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 (defs₀ (F := F)) Variants.none m ρ (main (F := F))
    (hbody := fun c => (obligation m hO c).loose) (hshare := fun c => (dats m hO 0 c).share_full fun _ => rfl)
    (howed := fun _ _ => rfl) (V := V m) (hmain := to_call m Variants.none) (hA := dats_A m hO) (hpf := V_tbl m)
    (hΦ := fun _ _ => rfl)

/-- Every run ends with the output array at the stored blocks, the arguments as launched and every semaphore at zero. -/
theorem run_out (hO : Fits m) : θ_run defs (onTc (τ := τ) (main (F := F))) ⟨m, fun _ => 0, ρ⟩ (fun r => (∀ c : Dev nD,
      r.2.mem ((c.tc : Thread nD τ).loc main_v2) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (by decide : main_arg0 ∈ Pipeline.restRefs sig spec0)).trans (V_of_ne m c _ (by decide) (by decide)),
      ((h.1 c).2 main_arg1 (by decide : main_arg1 ∈ Pipeline.restRefs sig spec0)).trans (V_of_ne m c _ (by decide) (by decide)),
      ((h.1 c).1 0).trans (((dats m hO 0 c).arrAt_in 0 rfl _).trans ((dats_A m hO c 0).trans (V_of_ne m c main_arg2 (by decide) (by decide)))),
      ((h.1 c).2 main_arg3 (by decide : main_arg3 ∈ Pipeline.restRefs sig spec0)).trans (V_of_ne m c _ (by decide) (by decide)),
      ((h.1 c).2 main_arg4 (by decide : main_arg4 ∈ Pipeline.restRefs sig spec0)).trans (V_of_ne m c _ (by decide) (by decide))⟩, h.2⟩) (run m ρ hO)

end Cert.Moe

end
-- ==== Proof.MoeFits.lean ====
/- The tables the precondition admits select blocks inside their arrays; the frame of the experts' call over the reals. -/
module

public import proofs.«01_k».proof.Proof.MoeLaunch
public import proofs.«01_k».proof.Defs
public import Idealize.ShloMosaic.Lib.StableHlo.Predicate

@[expose] public section

noncomputable section

namespace Cert.Moe

open Idealize.ShloMosaic Idealize.ShloMosaic.TcCoe
open Idealize.SL Idealize.SL.Sem
open Cert.ExpertsIdeal Cert.ExpertsIdeal.Gen

variable {F : FTy → Type} [FloatOps F]

/-- The words the tables may hold: every tile's expert is one of the eight, and at least one tile is in use. -/
def Routed (te : IVec S223 32) (nt : IVec S1 32) : Prop :=
  (∀ i, (te i).toNat < 8) ∧ ∀ i, 1 ≤ (nt i).toInt

theorem small_word {x : BitVec 32} (h0 : (0#32).sle x = true) (h8 : x.slt 8#32 = true) : x.toNat < 8 := by
  simp only [BitVec.sle, BitVec.slt, decide_eq_true_eq] at h0 h8
  rw [show (8#32).toInt = 8 from rfl] at h8
  rw [show (0#32).toInt = 0 from rfl] at h0
  rw [BitVec.toInt_eq_toNat_cond] at h0 h8
  have := x.isLt
  split at h0 <;> simp_all <;> omega

theorem both_one (a b : Bool) (h : IntOp.andi (BitVec.ofBool a) (BitVec.ofBool b) = 1#1) : a = true ∧ b = true := by
  revert a b; decide

theorem is_one (a : Bool) (h : BitVec.ofBool a = 1#1) : a = true := by
  revert a; decide

theorem routed_words [Cert.Pre_routed.Facts] {te : IVec S223 32} {nt : IVec S1 32} {x : FVec F S57088x1024 .bf16}
    {a : FVec F S8x1024x5632 .f32} {b : FVec F S8x2816x1024 .f32}
    (h : (Cert.Pre_routed.fn (F := F) te nt x a b).1 = (fun _ => 1#1) ∧ (Cert.Pre_routed.fn (F := F) te nt x a b).2 = (fun _ => 1#1)) :
    Routed te nt := by
  constructor
  · intro i
    have e := congrFun h.1 i
    simp only [Pre_routed.fn, andi, Scalar.andi, cmpi, constantI, broadcastInDim] at e
    obtain ⟨h0, h8⟩ := both_one _ _ e
    exact small_word h0 h8
  · intro i
    have e := congrFun h.2 i
    simp only [Pre_routed.fn, cmpi, constantI, broadcastInDim] at e
    have h1 := is_one _ e
    simpa only [BitVec.sle, decide_eq_true_eq, show (1#32).toInt = 1 from rfl] using h1

theorem small_int {g : BitVec 32} (hg : g.toNat < 223) : g.toInt = g.toNat := by
  rw [BitVec.toInt_eq_toNat_cond]
  split <;> omega

theorem one_less {n : BitVec 32} (hn : 1 ≤ n.toInt) : (n - 1#32).toInt = n.toInt - 1 ∧ (n - 1#32).toNat = n.toNat - 1 ∧ n.toInt = n.toNat := by
  have e : (n - 1#32).toNat = n.toNat - 1 := by
    rw [BitVec.toInt_eq_toNat_cond] at hn
    have := n.isLt
    rw [BitVec.toNat_sub, show (1#32).toNat = 1 from rfl]
    split at hn <;> omega
  have := n.isLt
  rw [BitVec.toInt_eq_toNat_cond (x := n - 1#32), BitVec.toInt_eq_toNat_cond (x := n), e]
  rw [BitVec.toInt_eq_toNat_cond] at hn
  split at hn
  · next hl =>
    rw [if_pos hl, if_pos (by omega)]
    exact ⟨by omega, rfl, rfl⟩
  · omega

theorem least_word {g n : BitVec 32} (hg : g.toNat < 223) (hn : 1 ≤ n.toInt) : (Scalar.minsi g (Scalar.subi n 1#32)).toNat < 223 := by
  unfold Scalar.minsi Scalar.subi IntOp.minsi IntOp.subi
  obtain ⟨h1, h2, h3⟩ := one_less hn
  split
  · exact hg
  · next h =>
    simp only [BitVec.slt, decide_eq_true_eq] at h
    rw [small_int hg] at h
    omega

theorem least_used {g n : BitVec 32} (hg : g.toNat < 223) (hn : 1 ≤ n.toInt) (hu : g.toInt < n.toInt) : Scalar.minsi g (Scalar.subi n 1#32) = g := by
  unfold Scalar.minsi Scalar.subi IntOp.minsi IntOp.subi
  obtain ⟨h1, h2, h3⟩ := one_less hn
  split
  · rfl
  · next h =>
    simp only [BitVec.slt, decide_eq_true_eq] at h
    rw [small_int hg] at h hu
    apply BitVec.eq_of_toNat_eq
    omega

theorem point_word (i : grid0.Coords) : (BitVec.ofNat 32 (i 0).val).toNat = (i 0).val ∧ (i 0).val < 223 := by
  have h : (i 0).val < 223 := (i 0).isLt
  exact ⟨by rw [BitVec.toNat_ofNat]; exact Nat.mod_eq_of_lt (by omega), h⟩

/-- The tile of a point is in use exactly when the point's number is below the count. -/
theorem used_iff (i : grid0.Coords) (v : BitVec 32) : k0_cond1 i v = 1#1 ↔ ((i 0).val : ℤ) < v.toInt := by
  obtain ⟨e, h⟩ := point_word i
  have key : ∀ b : BitVec 1, Scalar.cmpi .ne (Scalar.extui b : BitVec 32) 0#32 = 1#1 ↔ b = 1#1 := by decide
  show Scalar.cmpi .ne (Scalar.extui (Scalar.cmpi .slt (BitVec.ofNat 32 (i 0).val) v) : BitVec 32) 0#32 = 1#1 ↔ _
  rw [key]
  show BitVec.ofBool ((BitVec.ofNat 32 (i 0).val).slt v) = 1#1 ↔ _
  rw [StableHlo.Predicate.ofBool_eq_one_iff, BitVec.slt, decide_eq_true_eq, small_int (by omega), e]

theorem row_word (pf : pre0.Contents (Elt F)) (h : Routed (pf 0) (pf 1)) (i : grid0.Coords) :
    cc0_transform_0 inb_S1_S1_0 numel1_S1 pf i 0 < 223 :=
  least_word (by rw [(point_word i).1]; exact (point_word i).2) (h.2 _)

theorem expert_word (pf : pre0.Contents (Elt F)) (h : Routed (pf 0) (pf 1)) (i : grid0.Coords) :
    cc0_transform_1 k0_off1_inb numel1_S1 pf i 0 < 8 := h.1 _

theorem fits_of_words (pf : pre0.Contents (Elt F)) (h : Routed (pf 0) (pf 1)) : ok0 pf := by
  have h0 := row_word pf h
  have h1 := expert_word pf h
  refine ⟨fun i => ⟨?_, Or.inr (Affine.block_words_dvd (of_decide_eq_true rfl) (by decide))⟩,
    fun i => ⟨?_, Or.inr (Affine.block_words_dvd (of_decide_eq_true rfl) (by decide))⟩,
    fun i => ⟨?_, Or.inr (Affine.block_words_dvd (of_decide_eq_true rfl) (by decide))⟩⟩
  · intro a
    match a with
    | 0 => exact (Nat.mul_le_mul_right 256 (h0 i) : (_ + 1) * 256 ≤ 223 * 256)
    | 1 => exact (by decide : (0 + 1) * 1024 ≤ 1024)
  · intro a
    match a with
    | 0 => exact (Nat.mul_le_mul_right 1 (h1 i) : (_ + 1) * 1 ≤ 8 * 1)
    | 1 => exact (by decide : (0 + 1) * 1024 ≤ 1024)
    | 2 => exact (by decide : (0 + 1) * 5632 ≤ 5632)
  · intro a
    match a with
    | 0 => exact (Nat.mul_le_mul_right 1 (h1 i) : (_ + 1) * 1 ≤ 8 * 1)
    | 1 => exact (by decide : (0 + 1) * 2816 ≤ 2816)
    | 2 => exact (by decide : (0 + 1) * 1024 ≤ 1024)

theorem routed_tbl (m : (ℓ : Loc nD τ sig) → Buf (Elt F) ℓ) :
    tbl m 0 = m (((0 : Dev nD).tc : Thread nD τ).loc main_arg0) ∧ tbl m 1 = m (((0 : Dev nD).tc : Thread nD τ).loc main_arg1) :=
  ⟨V_of_ne m 0 main_arg0 (by decide) (by decide), V_of_ne m 0 main_arg1 (by decide) (by decide)⟩

theorem fits_of_args (m : (ℓ : Loc nD τ sig) → Buf (Elt F) ℓ)
    (h : Routed (m (((0 : Dev nD).tc : Thread nD τ).loc main_arg0)) (m (((0 : Dev nD).tc : Thread nD τ).loc main_arg1))) : Fits m :=
  fits_of_words (tbl m) (by rw [(routed_tbl m).1, (routed_tbl m).2]; exact h)

theorem routed_of_pre [Cert.Pre_routed.Facts] (m : (ℓ : Loc nD τ sig) → Buf (Elt Ideal) ℓ) (h : Cert.Pre_ExpertsIdeal m) :
    Routed (m (((0 : Dev nD).tc : Thread nD τ).loc main_arg0)) (m (((0 : Dev nD).tc : Thread nD τ).loc main_arg1)) :=
  routed_words (h 0)

theorem frame_ideal [Cert.Pre_routed.Facts] : Cert.quiescent_ExpertsIdeal := fun m ρ h => by
  refine (θ_run (defs (F := Ideal)) _ _).mono (fun r h => ⟨fun c => ?_, ?_⟩) (run_out (F := Ideal) m ρ (fits_of_args m (routed_of_pre m h)))
  · exact (h.1 c).2
  · intros; rw [h.2]

end Cert.Moe

end
-- ==== Proof.MoeWords.lean ====
/- The frame of the experts' call at the device's formats: the same text as the program over the reals, so the same run. -/
module

public import proofs.«01_k».proof.Proof.MoeFits
public import proofs.«01_k».proof.Proof.Gen.Experts

@[expose] public section

noncomputable section

namespace Cert.Moe

open Idealize.ShloMosaic Idealize.ShloMosaic.TcCoe
open Idealize.SL Idealize.SL.Sem
open Cert.ExpertsIdeal Cert.ExpertsIdeal.Gen

theorem same_main : (Cert.Experts.main (F := Bits)) = Cert.ExpertsIdeal.main (F := Bits) := by
  rfl

theorem same_pcfgs : (Cert.Experts.pcfgs (F := Bits)) = Cert.ExpertsIdeal.pcfgs (F := Bits) := by
  rfl

theorem same_defs₀ : (Cert.Experts.defs₀ (F := Bits)) = Cert.ExpertsIdeal.defs₀ (F := Bits) := by
  unfold Cert.Experts.defs₀ Cert.ExpertsIdeal.defs₀
  congr 1
  funext l x
  match l, x with
  | 0, (t, s) => rfl

theorem same_defs : (Cert.Experts.defs (F := Bits)) = Cert.ExpertsIdeal.defs (F := Bits) := by
  unfold Cert.Experts.defs Cert.ExpertsIdeal.defs
  exact congrArg (Pipeline.defs (Cert.ExpertsIdeal.pcfgs (F := Bits))) same_defs₀

theorem words_run (m : (ℓ : Loc nD τ sig) → Buf (Elt Bits) ℓ) (ρ : Dev nD → PrngReg) (hO : Fits (F := Bits) m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := Bits)) _ _).mono (fun _ h => ⟨fun c => (h.1 c).2, h.2⟩) (run_out (F := Bits) m ρ hO)

theorem frame_words [Cert.Pre_routed.Facts] : Cert.quiescent_Experts := fun m ρ h => by
  have hr : Routed (m (((0 : Dev nD).tc : Thread nD τ).loc main_arg0)) (m (((0 : Dev nD).tc : Thread nD τ).loc main_arg1)) := routed_words (h 0)
  rw [same_defs, same_main]
  exact words_run m ρ (fits_of_args m hr)

end Cert.Moe

end
-- ==== Proof.MoeExpert.lean ====
/- The experts' reference, expert by expert: each as rows of the arguments. -/
module

public import proofs.«01_k».proof.Proof.MoeRow
public import proofs.«01_k».proof.Proof.Gen.ExpertSumIdeal.Read

@[expose] public section

set_option maxRecDepth 16384

noncomputable section

namespace Cert.Moe

open Cert.ExpertSumIdeal Cert.ExpertSumIdeal.Read Idealize.ShloMosaic Idealize.ShloMosaic.TcCoe

variable (x2 : (⟨S57088x1024, .bf16⟩ : BufTy).Contents (Elt Ideal)) (x3 : (⟨S8x1024x5632, .f32⟩ : BufTy).Contents (Elt Ideal))
  (x4 : (⟨S8x2816x1024, .f32⟩ : BufTy).Contents (Elt Ideal))

/-- Row `r` of the tokens, and the weights of expert `e`. -/
def token (r : Fin 57088) (k : Fin 1024) : EReal := x2 (ix2 r k)
def gateUp (e : Fin 8) (k : Fin 1024) (j : Fin 5632) : EReal := x3 (ix3 e k j)
def downs (e : Fin 8) (j : Fin 2816) (d : Fin 1024) : EReal := x4 (ix3 e j d)

theorem one_word : Ideal.ofBits .f32 0x3F800000#32 = 1 := by
  simp [Ideal.ofBits, Ideal.ieee, -EReal.coe_mul]
  norm_num

theorem zero_word : Ideal.ofBits .f32 0x00000000#32 = 0 := by simp [Ideal.ofBits, Ideal.ieee]

/-- The reference's spelling of the gated unit. -/
theorem gated_spelt (g u : EReal) :
    g * Ideal.div (Ideal.ofBits .f32 0x3F800000#32) (Ideal.ofBits .f32 0x3F800000#32 + Ideal.exp (-g)) * u = gated g u := by
  rw [one_word]
  rfl

theorem gateUp_0 (k : Fin 1024) (j : Fin 5632) : val_main_v19 (F := Ideal) x3 (ix2 k j) = gateUp x3 0 k j := by
  have hj := j.isLt
  have hk := k.isLt
  rw [val_main_v19_apply, val_main_v18_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_0 (j : Fin 2816) (d : Fin 1024) : val_main_v21 (F := Ideal) x4 (ix2 j d) = downs x4 0 j d := by
  have hj := j.isLt
  have hd := d.isLt
  rw [val_main_v21_apply, val_main_v20_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_0 (r : Fin 57088) (j : Fin 5632) : val_main_v22 (F := Ideal) x2 x3 (ix2 r j) = along (token x2 r) (gateUp x3 0) j := by
  rw [val_main_v22_apply]
  refine along_at (fun k => ?_) fun k => ?_
  · exact (congrArg _ (eq_ix2 _)).trans (gateUp_0 x3 k j)
  · exact (val_main_v0_apply x2 _).trans (congrArg x2 (eq_ix2 _))

theorem hidden_0 (r : Fin 57088) (j : Fin 2816) : val_main_v26 (F := Ideal) x2 x3 (ix2 r j) = hidden (token x2 r) (gateUp x3 0) j := by
  have g : val_main_v23 (F := Ideal) x2 x3 (ix2 r j) = along (token x2 r) (gateUp x3 0) ⟨j.val, by omega⟩ := by
    rw [val_main_v23_apply]
    exact (congrArg _ (eq_ix2 _)).trans (along_0 x2 x3 r _)
  have u : val_main_v24 (F := Ideal) x2 x3 (ix2 r j) = along (token x2 r) (gateUp x3 0) ⟨2816 + j.val, by omega⟩ := by
    rw [val_main_v24_apply]
    exact (congrArg _ (eq_ix2 _)).trans (along_0 x2 x3 r _)
  rw [val_main_v26_apply, val_main_v25_apply, val_main_call2_v5_apply, val_main_call2_v4_apply, val_main_call2_cst_0_apply, val_main_call2_v3_apply,
    val_main_call2_v2_apply, val_main_call2_cst_apply, val_main_call2_v1_apply, val_main_call2_v0_apply, g, u]
  exact gated_spelt _ _

theorem expert_0 (r : Fin 57088) (d : Fin 1024) :
    val_main_v27 (F := Ideal) x2 x3 x4 (ix2 r d) = expertRow (token x2 r) (gateUp x3 0) (downs x4 0) d := by
  rw [val_main_v27_apply]
  refine Finset.sum_congr rfl fun j _ => congrArg₂ (· * ·) ?_ ?_
  · exact (congrArg _ (eq_ix2 _)).trans (hidden_0 x2 x3 r j)
  · exact (congrArg _ (eq_ix2 _)).trans (downs_0 x4 j d)

theorem gateUp_1 (k : Fin 1024) (j : Fin 5632) : val_main_v33 (F := Ideal) x3 (ix2 k j) = gateUp x3 1 k j := by
  have hj := j.isLt
  have hk := k.isLt
  rw [val_main_v33_apply, val_main_v32_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_1 (j : Fin 2816) (d : Fin 1024) : val_main_v35 (F := Ideal) x4 (ix2 j d) = downs x4 1 j d := by
  have hj := j.isLt
  have hd := d.isLt
  rw [val_main_v35_apply, val_main_v34_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_1 (r : Fin 57088) (j : Fin 5632) : val_main_v36 (F := Ideal) x2 x3 (ix2 r j) = along (token x2 r) (gateUp x3 1) j := by
  rw [val_main_v36_apply]
  refine along_at (fun k => ?_) fun k => ?_
  · exact (congrArg _ (eq_ix2 _)).trans (gateUp_1 x3 k j)
  · exact (val_main_v0_apply x2 _).trans (congrArg x2 (eq_ix2 _))

theorem hidden_1 (r : Fin 57088) (j : Fin 2816) : val_main_v40 (F := Ideal) x2 x3 (ix2 r j) = hidden (token x2 r) (gateUp x3 1) j := by
  have g : val_main_v37 (F := Ideal) x2 x3 (ix2 r j) = along (token x2 r) (gateUp x3 1) ⟨j.val, by omega⟩ := by
    rw [val_main_v37_apply]
    exact (congrArg _ (eq_ix2 _)).trans (along_1 x2 x3 r _)
  have u : val_main_v38 (F := Ideal) x2 x3 (ix2 r j) = along (token x2 r) (gateUp x3 1) ⟨2816 + j.val, by omega⟩ := by
    rw [val_main_v38_apply]
    exact (congrArg _ (eq_ix2 _)).trans (along_1 x2 x3 r _)
  rw [val_main_v40_apply, val_main_v39_apply, val_main_call3_v5_apply, val_main_call3_v4_apply, val_main_call3_cst_0_apply, val_main_call3_v3_apply,
    val_main_call3_v2_apply, val_main_call3_cst_apply, val_main_call3_v1_apply, val_main_call3_v0_apply, g, u]
  exact gated_spelt _ _

theorem expert_1 (r : Fin 57088) (d : Fin 1024) :
    val_main_v41 (F := Ideal) x2 x3 x4 (ix2 r d) = expertRow (token x2 r) (gateUp x3 1) (downs x4 1) d := by
  rw [val_main_v41_apply]
  refine Finset.sum_congr rfl fun j _ => congrArg₂ (· * ·) ?_ ?_
  · exact (congrArg _ (eq_ix2 _)).trans (hidden_1 x2 x3 r j)
  · exact (congrArg _ (eq_ix2 _)).trans (downs_1 x4 j d)

theorem gateUp_2 (k : Fin 1024) (j : Fin 5632) : val_main_v47 (F := Ideal) x3 (ix2 k j) = gateUp x3 2 k j := by
  have hj := j.isLt
  have hk := k.isLt
  rw [val_main_v47_apply, val_main_v46_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_2 (j : Fin 2816) (d : Fin 1024) : val_main_v49 (F := Ideal) x4 (ix2 j d) = downs x4 2 j d := by
  have hj := j.isLt
  have hd := d.isLt
  rw [val_main_v49_apply, val_main_v48_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_2 (r : Fin 57088) (j : Fin 5632) : val_main_v50 (F := Ideal) x2 x3 (ix2 r j) = along (token x2 r) (gateUp x3 2) j := by
  rw [val_main_v50_apply]
  refine along_at (fun k => ?_) fun k => ?_
  · exact (congrArg _ (eq_ix2 _)).trans (gateUp_2 x3 k j)
  · exact (val_main_v0_apply x2 _).trans (congrArg x2 (eq_ix2 _))

theorem hidden_2 (r : Fin 57088) (j : Fin 2816) : val_main_v54 (F := Ideal) x2 x3 (ix2 r j) = hidden (token x2 r) (gateUp x3 2) j := by
  have g : val_main_v51 (F := Ideal) x2 x3 (ix2 r j) = along (token x2 r) (gateUp x3 2) ⟨j.val, by omega⟩ := by
    rw [val_main_v51_apply]
    exact (congrArg _ (eq_ix2 _)).trans (along_2 x2 x3 r _)
  have u : val_main_v52 (F := Ideal) x2 x3 (ix2 r j) = along (token x2 r) (gateUp x3 2) ⟨2816 + j.val, by omega⟩ := by
    rw [val_main_v52_apply]
    exact (congrArg _ (eq_ix2 _)).trans (along_2 x2 x3 r _)
  rw [val_main_v54_apply, val_main_v53_apply, val_main_call4_v5_apply, val_main_call4_v4_apply, val_main_call4_cst_0_apply, val_main_call4_v3_apply,
    val_main_call4_v2_apply, val_main_call4_cst_apply, val_main_call4_v1_apply, val_main_call4_v0_apply, g, u]
  exact gated_spelt _ _

theorem expert_2 (r : Fin 57088) (d : Fin 1024) :
    val_main_v55 (F := Ideal) x2 x3 x4 (ix2 r d) = expertRow (token x2 r) (gateUp x3 2) (downs x4 2) d := by
  rw [val_main_v55_apply]
  refine Finset.sum_congr rfl fun j _ => congrArg₂ (· * ·) ?_ ?_
  · exact (congrArg _ (eq_ix2 _)).trans (hidden_2 x2 x3 r j)
  · exact (congrArg _ (eq_ix2 _)).trans (downs_2 x4 j d)

theorem gateUp_3 (k : Fin 1024) (j : Fin 5632) : val_main_v61 (F := Ideal) x3 (ix2 k j) = gateUp x3 3 k j := by
  have hj := j.isLt
  have hk := k.isLt
  rw [val_main_v61_apply, val_main_v60_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_3 (j : Fin 2816) (d : Fin 1024) : val_main_v63 (F := Ideal) x4 (ix2 j d) = downs x4 3 j d := by
  have hj := j.isLt
  have hd := d.isLt
  rw [val_main_v63_apply, val_main_v62_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_3 (r : Fin 57088) (j : Fin 5632) : val_main_v64 (F := Ideal) x2 x3 (ix2 r j) = along (token x2 r) (gateUp x3 3) j := by
  rw [val_main_v64_apply]
  refine along_at (fun k => ?_) fun k => ?_
  · exact (congrArg _ (eq_ix2 _)).trans (gateUp_3 x3 k j)
  · exact (val_main_v0_apply x2 _).trans (congrArg x2 (eq_ix2 _))

theorem hidden_3 (r : Fin 57088) (j : Fin 2816) : val_main_v68 (F := Ideal) x2 x3 (ix2 r j) = hidden (token x2 r) (gateUp x3 3) j := by
  have g : val_main_v65 (F := Ideal) x2 x3 (ix2 r j) = along (token x2 r) (gateUp x3 3) ⟨j.val, by omega⟩ := by
    rw [val_main_v65_apply]
    exact (congrArg _ (eq_ix2 _)).trans (along_3 x2 x3 r _)
  have u : val_main_v66 (F := Ideal) x2 x3 (ix2 r j) = along (token x2 r) (gateUp x3 3) ⟨2816 + j.val, by omega⟩ := by
    rw [val_main_v66_apply]
    exact (congrArg _ (eq_ix2 _)).trans (along_3 x2 x3 r _)
  rw [val_main_v68_apply, val_main_v67_apply, val_main_call5_v5_apply, val_main_call5_v4_apply, val_main_call5_cst_0_apply, val_main_call5_v3_apply,
    val_main_call5_v2_apply, val_main_call5_cst_apply, val_main_call5_v1_apply, val_main_call5_v0_apply, g, u]
  exact gated_spelt _ _

theorem expert_3 (r : Fin 57088) (d : Fin 1024) :
    val_main_v69 (F := Ideal) x2 x3 x4 (ix2 r d) = expertRow (token x2 r) (gateUp x3 3) (downs x4 3) d := by
  rw [val_main_v69_apply]
  refine Finset.sum_congr rfl fun j _ => congrArg₂ (· * ·) ?_ ?_
  · exact (congrArg _ (eq_ix2 _)).trans (hidden_3 x2 x3 r j)
  · exact (congrArg _ (eq_ix2 _)).trans (downs_3 x4 j d)

theorem gateUp_4 (k : Fin 1024) (j : Fin 5632) : val_main_v75 (F := Ideal) x3 (ix2 k j) = gateUp x3 4 k j := by
  have hj := j.isLt
  have hk := k.isLt
  rw [val_main_v75_apply, val_main_v74_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_4 (j : Fin 2816) (d : Fin 1024) : val_main_v77 (F := Ideal) x4 (ix2 j d) = downs x4 4 j d := by
  have hj := j.isLt
  have hd := d.isLt
  rw [val_main_v77_apply, val_main_v76_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_4 (r : Fin 57088) (j : Fin 5632) : val_main_v78 (F := Ideal) x2 x3 (ix2 r j) = along (token x2 r) (gateUp x3 4) j := by
  rw [val_main_v78_apply]
  refine along_at (fun k => ?_) fun k => ?_
  · exact (congrArg _ (eq_ix2 _)).trans (gateUp_4 x3 k j)
  · exact (val_main_v0_apply x2 _).trans (congrArg x2 (eq_ix2 _))

theorem hidden_4 (r : Fin 57088) (j : Fin 2816) : val_main_v82 (F := Ideal) x2 x3 (ix2 r j) = hidden (token x2 r) (gateUp x3 4) j := by
  have g : val_main_v79 (F := Ideal) x2 x3 (ix2 r j) = along (token x2 r) (gateUp x3 4) ⟨j.val, by omega⟩ := by
    rw [val_main_v79_apply]
    exact (congrArg _ (eq_ix2 _)).trans (along_4 x2 x3 r _)
  have u : val_main_v80 (F := Ideal) x2 x3 (ix2 r j) = along (token x2 r) (gateUp x3 4) ⟨2816 + j.val, by omega⟩ := by
    rw [val_main_v80_apply]
    exact (congrArg _ (eq_ix2 _)).trans (along_4 x2 x3 r _)
  rw [val_main_v82_apply, val_main_v81_apply, val_main_call6_v5_apply, val_main_call6_v4_apply, val_main_call6_cst_0_apply, val_main_call6_v3_apply,
    val_main_call6_v2_apply, val_main_call6_cst_apply, val_main_call6_v1_apply, val_main_call6_v0_apply, g, u]
  exact gated_spelt _ _

theorem expert_4 (r : Fin 57088) (d : Fin 1024) :
    val_main_v83 (F := Ideal) x2 x3 x4 (ix2 r d) = expertRow (token x2 r) (gateUp x3 4) (downs x4 4) d := by
  rw [val_main_v83_apply]
  refine Finset.sum_congr rfl fun j _ => congrArg₂ (· * ·) ?_ ?_
  · exact (congrArg _ (eq_ix2 _)).trans (hidden_4 x2 x3 r j)
  · exact (congrArg _ (eq_ix2 _)).trans (downs_4 x4 j d)

theorem gateUp_5 (k : Fin 1024) (j : Fin 5632) : val_main_v89 (F := Ideal) x3 (ix2 k j) = gateUp x3 5 k j := by
  have hj := j.isLt
  have hk := k.isLt
  rw [val_main_v89_apply, val_main_v88_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_5 (j : Fin 2816) (d : Fin 1024) : val_main_v91 (F := Ideal) x4 (ix2 j d) = downs x4 5 j d := by
  have hj := j.isLt
  have hd := d.isLt
  rw [val_main_v91_apply, val_main_v90_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_5 (r : Fin 57088) (j : Fin 5632) : val_main_v92 (F := Ideal) x2 x3 (ix2 r j) = along (token x2 r) (gateUp x3 5) j := by
  rw [val_main_v92_apply]
  refine along_at (fun k => ?_) fun k => ?_
  · exact (congrArg _ (eq_ix2 _)).trans (gateUp_5 x3 k j)
  · exact (val_main_v0_apply x2 _).trans (congrArg x2 (eq_ix2 _))

theorem hidden_5 (r : Fin 57088) (j : Fin 2816) : val_main_v96 (F := Ideal) x2 x3 (ix2 r j) = hidden (token x2 r) (gateUp x3 5) j := by
  have g : val_main_v93 (F := Ideal) x2 x3 (ix2 r j) = along (token x2 r) (gateUp x3 5) ⟨j.val, by omega⟩ := by
    rw [val_main_v93_apply]
    exact (congrArg _ (eq_ix2 _)).trans (along_5 x2 x3 r _)
  have u : val_main_v94 (F := Ideal) x2 x3 (ix2 r j) = along (token x2 r) (gateUp x3 5) ⟨2816 + j.val, by omega⟩ := by
    rw [val_main_v94_apply]
    exact (congrArg _ (eq_ix2 _)).trans (along_5 x2 x3 r _)
  rw [val_main_v96_apply, val_main_v95_apply, val_main_call7_v5_apply, val_main_call7_v4_apply, val_main_call7_cst_0_apply, val_main_call7_v3_apply,
    val_main_call7_v2_apply, val_main_call7_cst_apply, val_main_call7_v1_apply, val_main_call7_v0_apply, g, u]
  exact gated_spelt _ _

theorem expert_5 (r : Fin 57088) (d : Fin 1024) :
    val_main_v97 (F := Ideal) x2 x3 x4 (ix2 r d) = expertRow (token x2 r) (gateUp x3 5) (downs x4 5) d := by
  rw [val_main_v97_apply]
  refine Finset.sum_congr rfl fun j _ => congrArg₂ (· * ·) ?_ ?_
  · exact (congrArg _ (eq_ix2 _)).trans (hidden_5 x2 x3 r j)
  · exact (congrArg _ (eq_ix2 _)).trans (downs_5 x4 j d)

theorem gateUp_6 (k : Fin 1024) (j : Fin 5632) : val_main_v103 (F := Ideal) x3 (ix2 k j) = gateUp x3 6 k j := by
  have hj := j.isLt
  have hk := k.isLt
  rw [val_main_v103_apply, val_main_v102_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_6 (j : Fin 2816) (d : Fin 1024) : val_main_v105 (F := Ideal) x4 (ix2 j d) = downs x4 6 j d := by
  have hj := j.isLt
  have hd := d.isLt
  rw [val_main_v105_apply, val_main_v104_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_6 (r : Fin 57088) (j : Fin 5632) : val_main_v106 (F := Ideal) x2 x3 (ix2 r j) = along (token x2 r) (gateUp x3 6) j := by
  rw [val_main_v106_apply]
  refine along_at (fun k => ?_) fun k => ?_
  · exact (congrArg _ (eq_ix2 _)).trans (gateUp_6 x3 k j)
  · exact (val_main_v0_apply x2 _).trans (congrArg x2 (eq_ix2 _))

theorem hidden_6 (r : Fin 57088) (j : Fin 2816) : val_main_v110 (F := Ideal) x2 x3 (ix2 r j) = hidden (token x2 r) (gateUp x3 6) j := by
  have g : val_main_v107 (F := Ideal) x2 x3 (ix2 r j) = along (token x2 r) (gateUp x3 6) ⟨j.val, by omega⟩ := by
    rw [val_main_v107_apply]
    exact (congrArg _ (eq_ix2 _)).trans (along_6 x2 x3 r _)
  have u : val_main_v108 (F := Ideal) x2 x3 (ix2 r j) = along (token x2 r) (gateUp x3 6) ⟨2816 + j.val, by omega⟩ := by
    rw [val_main_v108_apply]
    exact (congrArg _ (eq_ix2 _)).trans (along_6 x2 x3 r _)
  rw [val_main_v110_apply, val_main_v109_apply, val_main_call8_v5_apply, val_main_call8_v4_apply, val_main_call8_cst_0_apply, val_main_call8_v3_apply,
    val_main_call8_v2_apply, val_main_call8_cst_apply, val_main_call8_v1_apply, val_main_call8_v0_apply, g, u]
  exact gated_spelt _ _

theorem expert_6 (r : Fin 57088) (d : Fin 1024) :
    val_main_v111 (F := Ideal) x2 x3 x4 (ix2 r d) = expertRow (token x2 r) (gateUp x3 6) (downs x4 6) d := by
  rw [val_main_v111_apply]
  refine Finset.sum_congr rfl fun j _ => congrArg₂ (· * ·) ?_ ?_
  · exact (congrArg _ (eq_ix2 _)).trans (hidden_6 x2 x3 r j)
  · exact (congrArg _ (eq_ix2 _)).trans (downs_6 x4 j d)

theorem gateUp_7 (k : Fin 1024) (j : Fin 5632) : val_main_v117 (F := Ideal) x3 (ix2 k j) = gateUp x3 7 k j := by
  have hj := j.isLt
  have hk := k.isLt
  rw [val_main_v117_apply, val_main_v116_apply]
  refine congrArg x3 (funext fun a => Fin.ext ?_)
  match a with
  | 0 => rfl
  | 1 => show (k.val * 5632 + j.val) / 5632 % 1024 = k.val; omega
  | 2 => show (k.val * 5632 + j.val) % 5632 = j.val; omega

theorem downs_7 (j : Fin 2816) (d : Fin 1024) : val_main_v119 (F := Ideal) x4 (ix2 j d) = downs x4 7 j d := by
  have hj := j.isLt
  have hd := d.isLt
  rw [val_main_v119_apply, val_main_v118_apply]
  refine congrArg x4 (funext fun a => Fin.ext ?_)
  match a with
  | 0 => rfl
  | 1 => show (j.val * 1024 + d.val) / 1024 % 2816 = j.val; omega
  | 2 => show (j.val * 1024 + d.val) % 1024 = d.val; omega

theorem along_7 (r : Fin 57088) (j : Fin 5632) : val_main_v120 (F := Ideal) x2 x3 (ix2 r j) = along (token x2 r) (gateUp x3 7) j := by
  rw [val_main_v120_apply]
  refine along_at (fun k => ?_) fun k => ?_
  · exact (congrArg _ (eq_ix2 _)).trans (gateUp_7 x3 k j)
  · exact (val_main_v0_apply x2 _).trans (congrArg x2 (eq_ix2 _))

theorem hidden_7 (r : Fin 57088) (j : Fin 2816) : val_main_v124 (F := Ideal) x2 x3 (ix2 r j) = hidden (token x2 r) (gateUp x3 7) j := by
  have g : val_main_v121 (F := Ideal) x2 x3 (ix2 r j) = along (token x2 r) (gateUp x3 7) ⟨j.val, by omega⟩ := by
    rw [val_main_v121_apply]
    exact (congrArg _ (eq_ix2 _)).trans (along_7 x2 x3 r _)
  have u : val_main_v122 (F := Ideal) x2 x3 (ix2 r j) = along (token x2 r) (gateUp x3 7) ⟨2816 + j.val, by omega⟩ := by
    rw [val_main_v122_apply]
    exact (congrArg _ (eq_ix2 _)).trans (along_7 x2 x3 r _)
  rw [val_main_v124_apply, val_main_v123_apply, val_main_call9_v5_apply, val_main_call9_v4_apply, val_main_call9_cst_0_apply, val_main_call9_v3_apply,
    val_main_call9_v2_apply, val_main_call9_cst_apply, val_main_call9_v1_apply, val_main_call9_v0_apply, g, u]
  exact gated_spelt _ _

theorem expert_7 (r : Fin 57088) (d : Fin 1024) :
    val_main_v125 (F := Ideal) x2 x3 x4 (ix2 r d) = expertRow (token x2 r) (gateUp x3 7) (downs x4 7) d := by
  rw [val_main_v125_apply]
  refine Finset.sum_congr rfl fun j _ => congrArg₂ (· * ·) ?_ ?_
  · exact (congrArg _ (eq_ix2 _)).trans (hidden_7 x2 x3 r j)
  · exact (congrArg _ (eq_ix2 _)).trans (downs_7 x4 j d)

end Cert.Moe

end
-- ==== Proof.MoeSum.lean ====
/- The experts' reference: each row is the row of the one expert its tile's table names, or zero past the last tile. -/
module

public import proofs.«01_k».proof.Proof.MoeExpert
public import proofs.«01_k».proof.Proof.MoeFits

@[expose] public section

set_option maxRecDepth 16384

noncomputable section

namespace Cert.Moe

open Cert.ExpertSumIdeal Cert.ExpertSumIdeal.Read Idealize.ShloMosaic Idealize.ShloMosaic.TcCoe

/-- The gate of expert `e` in a row whose tile holds the word `w`. -/
def gateOf (w : BitVec 32) (e : ℕ) : EReal := Scalar.select (IntOp.cmpi .eq w (BitVec.ofNat 32 e)) (1 : EReal) 0

/-- The experts' rows, gated and added in order. -/
def gatedSum (w : BitVec 32) (E : Fin 8 → EReal) : EReal :=
  0 + gateOf w (0 : Fin 8).val * E 0 + gateOf w (1 : Fin 8).val * E 1 + gateOf w (2 : Fin 8).val * E 2 + gateOf w (3 : Fin 8).val * E 3 + gateOf w (4 : Fin 8).val * E 4 + gateOf w (5 : Fin 8).val * E 5 + gateOf w (6 : Fin 8).val * E 6 + gateOf w (7 : Fin 8).val * E 7

theorem gate_word (e e' : Fin 8) : gateOf (BitVec.ofNat 32 e.val) e'.val = if e = e' then 1 else 0 := by
  have key : ∀ e e' : Fin 8, IntOp.cmpi .eq (BitVec.ofNat 32 e.val) (BitVec.ofNat 32 e'.val) = if e = e' then 1#1 else 0#1 := by decide
  unfold gateOf
  rw [key]
  split <;> rfl

theorem gate_none (e : Fin 8) : gateOf 4294967295#32 e.val = 0 := by
  have key : ∀ e : Fin 8, IntOp.cmpi .eq 4294967295#32 (BitVec.ofNat 32 e.val) = 0#1 := by decide
  unfold gateOf
  rw [key]
  rfl

theorem gatedSum_word (e : Fin 8) (E : Fin 8 → EReal) : gatedSum (BitVec.ofNat 32 e.val) E = E e := by
  have g := gate_word e
  unfold gatedSum
  rw [g 0, g 1, g 2, g 3, g 4, g 5, g 6, g 7]
  fin_cases e <;> simp

theorem gatedSum_none (E : Fin 8 → EReal) : gatedSum 4294967295#32 E = 0 := by
  have g := gate_none
  unfold gatedSum
  rw [g 0, g 1, g 2, g 3, g 4, g 5, g 6, g 7]
  simp

variable (x0 : (⟨S223, .i32⟩ : BufTy).Contents (Elt Ideal)) (x1 : (⟨S1, .i32⟩ : BufTy).Contents (Elt Ideal))
  (x2 : (⟨S57088x1024, .bf16⟩ : BufTy).Contents (Elt Ideal)) (x3 : (⟨S8x1024x5632, .f32⟩ : BufTy).Contents (Elt Ideal))
  (x4 : (⟨S8x2816x1024, .f32⟩ : BufTy).Contents (Elt Ideal))

/-- The word the reference holds in row `r`: its tile's expert, or minus one past the last tile. -/
def rowWord (r : Fin 57088) : BitVec 32 :=
  Scalar.select (IntOp.cmpi .slt (BitVec.ofNat 32 (r.val / 256)) (x1 (ix1 0))) (x0 (ix1 ⟨r.val / 256, by omega⟩)) 4294967295#32

theorem rowWord_spelt (r : Fin 57088) (i : S57088x1.Idx) (hi : (i 0).val = r.val) : val_main_v9 (F := Ideal) x0 x1 i = rowWord x0 x1 r := by
  have hr := r.isLt
  rw [val_main_v9_apply, val_main_v8_apply, val_main_v7_apply, val_main_v6_apply, val_main_v5_apply, val_main_v4_apply, val_main_v1_apply,
    val_main_v3_apply, val_main_call0_v1_apply, val_main_call0_v0_apply, val_main_c_apply]
  unfold rowWord
  have hx : val_main_v2 (F := Ideal) x1 (idx_main_v3 (idx_main_v6 (idx_main_v7 (idx_main_v8 (idx_main_v9 i))))) = x1 (ix1 0) :=
    congrArg x1 (funext fun a => match a with | 0 => Subsingleton.elim (α := Fin 1) _ _)
  rw [hx]
  have h0 : idx_main_v6 (idx_main_v7 (idx_main_v8 (idx_main_v9 i))) = ix1 ⟨r.val / 256, by omega⟩ := by
    funext a
    match a with
    | 0 => exact Fin.ext (congrArg (· / 256) hi)
  rw [h0]
  rfl

theorem gate_spelt (r : Fin 57088) (e : Fin 8) (i : S57088x8.Idx) (hr : (i 0).val = r.val) (he : (i 1).val = e.val) :
    val_main_v15 (F := Ideal) x0 x1 i = gateOf (rowWord x0 x1 r) e.val := by
  rw [val_main_v15_apply, val_main_v14_apply, val_main_v12_apply, val_main_v13_apply, val_main_v11_apply, val_main_v10_apply,
    val_main_call1_v0_apply, val_main_cst_apply, val_main_call1_v1_apply, val_main_cst_0_apply, rowWord_spelt x0 x1 r _ hr]
  unfold gateOf
  show Scalar.select (IntOp.cmpi .eq (rowWord x0 x1 r) (BitVec.ofNat 32 (i 1).val)) (Ideal.ofBits .f32 0x3F800000#32) (Ideal.ofBits .f32 0x00000000#32) = _
  rw [he, one_word, zero_word]

theorem term_0 (r : Fin 57088) (d : Fin 1024) : val_main_v29 (F := Ideal) x0 x1 x2 x3 x4 (ix2 r d)
    = gateOf (rowWord x0 x1 r) 0 * expertRow (token x2 r) (gateUp x3 0) (downs x4 0) d := by
  rw [val_main_v29_apply, val_main_v28_apply, val_main_v17_apply, gate_spelt x0 x1 r 0 _ rfl rfl, expert_0]
  rfl

theorem term_1 (r : Fin 57088) (d : Fin 1024) : val_main_v43 (F := Ideal) x0 x1 x2 x3 x4 (ix2 r d)
    = gateOf (rowWord x0 x1 r) 1 * expertRow (token x2 r) (gateUp x3 1) (downs x4 1) d := by
  rw [val_main_v43_apply, val_main_v42_apply, val_main_v31_apply, gate_spelt x0 x1 r 1 _ rfl rfl, expert_1]
  rfl

theorem term_2 (r : Fin 57088) (d : Fin 1024) : val_main_v57 (F := Ideal) x0 x1 x2 x3 x4 (ix2 r d)
    = gateOf (rowWord x0 x1 r) 2 * expertRow (token x2 r) (gateUp x3 2) (downs x4 2) d := by
  rw [val_main_v57_apply, val_main_v56_apply, val_main_v45_apply, gate_spelt x0 x1 r 2 _ rfl rfl, expert_2]
  rfl

theorem term_3 (r : Fin 57088) (d : Fin 1024) : val_main_v71 (F := Ideal) x0 x1 x2 x3 x4 (ix2 r d)
    = gateOf (rowWord x0 x1 r) 3 * expertRow (token x2 r) (gateUp x3 3) (downs x4 3) d := by
  rw [val_main_v71_apply, val_main_v70_apply, val_main_v59_apply, gate_spelt x0 x1 r 3 _ rfl rfl, expert_3]
  rfl

theorem term_4 (r : Fin 57088) (d : Fin 1024) : val_main_v85 (F := Ideal) x0 x1 x2 x3 x4 (ix2 r d)
    = gateOf (rowWord x0 x1 r) 4 * expertRow (token x2 r) (gateUp x3 4) (downs x4 4) d := by
  rw [val_main_v85_apply, val_main_v84_apply, val_main_v73_apply, gate_spelt x0 x1 r 4 _ rfl rfl, expert_4]
  rfl

theorem term_5 (r : Fin 57088) (d : Fin 1024) : val_main_v99 (F := Ideal) x0 x1 x2 x3 x4 (ix2 r d)
    = gateOf (rowWord x0 x1 r) 5 * expertRow (token x2 r) (gateUp x3 5) (downs x4 5) d := by
  rw [val_main_v99_apply, val_main_v98_apply, val_main_v87_apply, gate_spelt x0 x1 r 5 _ rfl rfl, expert_5]
  rfl

theorem term_6 (r : Fin 57088) (d : Fin 1024) : val_main_v113 (F := Ideal) x0 x1 x2 x3 x4 (ix2 r d)
    = gateOf (rowWord x0 x1 r) 6 * expertRow (token x2 r) (gateUp x3 6) (downs x4 6) d := by
  rw [val_main_v113_apply, val_main_v112_apply, val_main_v101_apply, gate_spelt x0 x1 r 6 _ rfl rfl, expert_6]
  rfl

theorem term_7 (r : Fin 57088) (d : Fin 1024) : val_main_v127 (F := Ideal) x0 x1 x2 x3 x4 (ix2 r d)
    = gateOf (rowWord x0 x1 r) 7 * expertRow (token x2 r) (gateUp x3 7) (downs x4 7) d := by
  rw [val_main_v127_apply, val_main_v126_apply, val_main_v115_apply, gate_spelt x0 x1 r 7 _ rfl rfl, expert_7]
  rfl

theorem sum_spelt (r : Fin 57088) (d : Fin 1024) : val_main_v129 (F := Ideal) x0 x1 x2 x3 x4 (ix2 r d)
    = gatedSum (rowWord x0 x1 r) fun e => expertRow (token x2 r) (gateUp x3 e) (downs x4 e) d := by
  rw [val_main_v129_apply, val_main_v128_apply, term_7, val_main_v114_apply, term_6, val_main_v100_apply, term_5, val_main_v86_apply, term_4, val_main_v72_apply, term_3, val_main_v58_apply, term_2, val_main_v44_apply, term_1, val_main_v30_apply, term_0, val_main_v16_apply, val_main_cst_1_apply]
  show Ideal.ofBits .f32 0x00000000#32 + _ + _ + _ + _ + _ + _ + _ + _ = _
  rw [zero_word]
  rfl

/-- The expert that tile `t` is routed to. -/
def routedTo (te : IVec S223 32) (t : Fin 223) : Fin 8 := ⟨(te (ix1 t)).toNat % 8, Nat.mod_lt _ (by decide)⟩

theorem routedTo_word {te : IVec S223 32} (h : ∀ i, (te i).toNat < 8) (t : Fin 223) : te (ix1 t) = BitVec.ofNat 32 (routedTo te t).val := by
  show _ = BitVec.ofNat 32 ((te (ix1 t)).toNat % 8)
  rw [Nat.mod_eq_of_lt (h _), BitVec.ofNat_toNat, BitVec.setWidth_eq]

/-- Whether tile `t` is in use. -/
def inUse (nt : IVec S1 32) (t : Fin 223) : Prop := (t.val : ℤ) < (nt (ix1 0)).toInt

theorem inUse_word (nt : IVec S1 32) (t : Fin 223) : IntOp.cmpi .slt (BitVec.ofNat 32 t.val) (nt (ix1 0)) = 1#1 ↔ inUse nt t := by
  have ht := t.isLt
  have e : (BitVec.ofNat 32 t.val).toNat = t.val := by rw [BitVec.toNat_ofNat]; exact Nat.mod_eq_of_lt (by omega)
  show BitVec.ofBool ((BitVec.ofNat 32 t.val).slt (nt (ix1 0))) = 1#1 ↔ _
  rw [StableHlo.Predicate.ofBool_eq_one_iff, BitVec.slt, decide_eq_true_eq, small_int (by omega), e]
  rfl

/-- The tile of a row. -/
def tileOf (r : Fin 57088) : Fin 223 := ⟨r.val / 256, by omega⟩

/-- A row of the reference whose tile is in use. -/
theorem reference_used (h : ∀ i, (x0 i).toNat < 8) (r : Fin 57088) (hu : inUse x1 (tileOf r)) (d : Fin 1024) : val_main_v129 (F := Ideal) x0 x1 x2 x3 x4 (ix2 r d)
    = expertRow (token x2 r) (gateUp x3 (routedTo x0 (tileOf r))) (downs x4 (routedTo x0 (tileOf r))) d := by
  have hw : rowWord x0 x1 r = BitVec.ofNat 32 (routedTo x0 (tileOf r)).val :=
    (if_pos ((inUse_word x1 (tileOf r)).mpr hu)).trans (routedTo_word h (tileOf r))
  rw [sum_spelt, hw]
  exact gatedSum_word _ _

/-- A row of the reference past the last tile in use. -/
theorem reference_unused (r : Fin 57088) (hu : ¬ inUse x1 (tileOf r)) (d : Fin 1024) : val_main_v129 (F := Ideal) x0 x1 x2 x3 x4 (ix2 r d) = 0 := by
  have hw : rowWord x0 x1 r = 4294967295#32 := if_neg fun hk => hu ((inUse_word x1 (tileOf r)).mp hk)
  rw [sum_spelt, hw]
  exact gatedSum_none _

end Cert.Moe

end
-- ==== Proof.MoeArray.lean ====
/- The experts' result array after the run, row by row, from the arguments. -/
module

public import proofs.«01_k».proof.Proof.MoeSum
public import Idealize.ShloMosaic.Lib.Pipeline.ValueKit
public import Idealize.ShloMosaic.Lib.Claim
public import Idealize.ShloMosaic.Lib.StableHlo.RunRead

@[expose] public section

set_option maxRecDepth 16384

noncomputable section

namespace Cert.Moe

open Cert.ExpertsIdeal Cert.ExpertsIdeal.Gen Idealize.ShloMosaic Idealize.ShloMosaic.TcCoe Idealize.SL.Sem

variable (m : (ℓ : Loc nD τ sig) → Buf (Elt Ideal) ℓ) (hO : Fits m) (c : Dev nD)

/-! ## The arrays the blocks are read from -/

theorem gateUp_entry (i : S8x1024x5632.Idx) : V m c main_v0 i = m ((c : Thread nD τ).loc main_arg3) i := by
  entry_read
  rfl

theorem downs_entry (i : S8x2816x1024.Idx) : V m c main_v1 i = m ((c : Thread nD τ).loc main_arg4) i := by
  entry_read
  rfl

/-! ## The blocks -/

theorem point_of (t : Fin (cfgM m hO).N) : (grid0.coords t 0).val = t.val ∧ t.val < 223 :=
  (by decide +kernel : ∀ t : Fin grid0.N, (grid0.coords t 0).val = t.val ∧ t.val < 223) t

abbrev tilePoint (t : Fin (cfgM m hO).N) : Fin 223 := ⟨t.val, (point_of m hO t).2⟩

theorem row_in_block (i p g : ℕ) (h : i * 256 + p = g) : i * 256 + 1 * p = g := by omega

theorem lane_index (i : grid0.Coords) : cc0_transform_0 inb_S1_S1_0 numel1_S1 (tbl m) i 1 = 0 := rfl

theorem lane_in_block (i k : ℕ) (h : i = 0) : i * 1024 + 1 * k = k := by omega

theorem token_blk (t : Fin (cfgM m hO).N) (p : Fin 256) (k : Fin 1024) (g : Fin 57088)
    (hg : cc0_transform_0 inb_S1_S1_0 numel1_S1 (tbl m) (grid0.coords t) 0 * 256 + p.val = g.val) :
    iblk m hO c 0 t (ix2 p k) = V m c main_arg2 (ix2 g k) := by
  have e : cc0_transform_0 inb_S1_S1_0 numel1_S1 (tbl m) (grid0.coords t) 0 * 256 + 1 * p.val = g.val := row_in_block _ p.val g.val hg
  have e' : cc0_transform_0 inb_S1_S1_0 numel1_S1 (tbl m) (grid0.coords t) 1 * 1024 + 1 * k.val = k.val := lane_in_block _ k.val (lane_index m _)
  refine congrArg (V m c main_arg2) (funext fun (a : Fin 2) => Fin.ext ?_)
  match a with
  | 0 => exact e
  | 1 => exact e'

theorem gateUp_blk (t : Fin (cfgM m hO).N) (k : Fin 1024) (j : Fin 5632) (e : Fin 8)
    (he : cc0_transform_1 k0_off1_inb numel1_S1 (tbl m) (grid0.coords t) 0 = e.val) :
    iblk m hO c 1 t (ix3 0 k j) = V m c main_v0 (ix3 e k j) := by
  refine congrArg (V m c main_v0) (funext fun (a : Fin 3) => Fin.ext ?_)
  match a with
  | 0 => exact (by omega : cc0_transform_1 k0_off1_inb numel1_S1 (tbl m) (grid0.coords t) 0 * 1 + 1 * 0 = e.val)
  | 1 => exact (by omega : 0 * 1024 + 1 * k.val = k.val)
  | 2 => exact (by omega : 0 * 5632 + 1 * j.val = j.val)

theorem downs_blk (t : Fin (cfgM m hO).N) (j : Fin 2816) (d : Fin 1024) (e : Fin 8)
    (he : cc0_transform_2 k0_off1_inb numel1_S1 (tbl m) (grid0.coords t) 0 = e.val) :
    iblk m hO c 2 t (ix3 0 j d) = V m c main_v1 (ix3 e j d) := by
  refine congrArg (V m c main_v1) (funext fun (a : Fin 3) => Fin.ext ?_)
  match a with
  | 0 => exact (by omega : cc0_transform_2 k0_off1_inb numel1_S1 (tbl m) (grid0.coords t) 0 * 1 + 1 * 0 = e.val)
  | 1 => exact (by omega : 0 * 2816 + 1 * j.val = j.val)
  | 2 => exact (by omega : 0 * 1024 + 1 * d.val = d.val)

/-! ## The tables at a point -/

theorem count_word (v : Vec Ideal S1 .i32) : count c v = v (ix1 0) :=
  congrArg v (funext fun a => match a with | 0 => Subsingleton.elim (α := Fin 1) _ _)

theorem expert_index (t : Fin (cfgM m hO).N) (h : ∀ i, (tbl m 0 i : BitVec 32).toNat < 8) :
    cc0_transform_1 k0_off1_inb numel1_S1 (tbl m) (grid0.coords t) 0 = (routedTo (tbl m 0) (tilePoint m hO t)).val := by
  have hi : (Rect.unit (s := S223) ![(Scalar.indexCast (BitVec.ofNat 32 (grid0.coords t 0).val)).toNat] S1.size (k0_off1_inb (grid0.coords t))).emb
      (ix1 (0 : Fin 1)) = ix1 (tilePoint m hO t) := by
    refine funext fun a => Fin.ext ?_
    match a with
    | 0 => exact (by rw [(point_word (grid0.coords t)).1, (point_of m hO t).1]; omega : (BitVec.ofNat 32 (grid0.coords t 0).val).toNat + 1 * 0 = t.val)
  have e : cc0_transform_1 k0_off1_inb numel1_S1 (tbl m) (grid0.coords t) 0 = (tbl m 0 (ix1 (tilePoint m hO t)) : BitVec 32).toNat := by
    refine Eq.trans ?_ (congrArg (fun i => (tbl m 0 i : BitVec 32).toNat) hi)
    refine congrArg (fun i => (tbl m 0 i : BitVec 32).toNat) (congrArg _ ?_)
    exact funext fun (a : Fin 1) => match a with | 0 => Subsingleton.elim (α := Fin 1) _ _
  exact e.trans (Nat.mod_eq_of_lt (h _)).symm

theorem token_index (t : Fin (cfgM m hO).N) (h : ∀ i, 1 ≤ (tbl m 1 i : BitVec 32).toInt) (hu : inUse (tbl m 1) (tilePoint m hO t)) :
    cc0_transform_0 inb_S1_S1_0 numel1_S1 (tbl m) (grid0.coords t) 0 = t.val := by
  obtain ⟨e, hl⟩ := point_word (grid0.coords t)
  have e' := (point_of m hO t).1
  have w : (tbl m).at 1 (Rect.unit (s := S1) ![0] S1.size inb_S1_S1_0) numel1_S1 = tbl m 1 (ix1 0) :=
    congrArg (tbl m 1) (funext fun (a : Fin 1) => match a with | 0 => Subsingleton.elim (α := Fin 1) _ _)
  show (Scalar.minsi (BitVec.ofNat 32 (grid0.coords t 0).val)
    (Scalar.subi ((tbl m).at 1 (Rect.unit (s := S1) ![0] S1.size inb_S1_S1_0) numel1_S1) 1#32)).toNat = t.val
  refine (congrArg (fun n : BitVec 32 => (Scalar.minsi (BitVec.ofNat 32 (grid0.coords t 0).val) (Scalar.subi n 1#32)).toNat) w).trans ?_
  refine (congrArg BitVec.toNat (least_used (by omega) (h _) (?_ : (BitVec.ofNat 32 (grid0.coords t 0).val).toInt < _))).trans (e.trans e')
  rw [small_int (by omega), e, e']
  exact hu

/-! ## The array -/

/-- A row of the result: the row of its tile's expert, or zero past the last tile in use. -/
def kernelRow (te : IVec S223 32) (nt : IVec S1 32) (x : FVec Ideal S57088x1024 .bf16) (a : FVec Ideal S8x1024x5632 .f32)
    (b : FVec Ideal S8x2816x1024 .f32) (r : Fin 57088) (d : Fin 1024) : EReal := open Classical in
  if inUse nt (tileOf r) then expertRow (token x r) (gateUp a (routedTo te (tileOf r))) (downs b (routedTo te (tileOf r))) d else 0

/-- The result array. -/
def kernelArray : S57088x1024.Idx → Elt Ideal .bf16 := fun i =>
  kernelRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- A row of a tile in use whose blocks are known. -/
theorem used_row (i : grid0.Coords) (n : BitVec 32) (hk : k0_cond1 i n = 1#1) (x : Vec Ideal S256x1024 .bf16) (wgu : Vec Ideal S1x1024x5632 .bf16)
    (wd : Vec Ideal S1x2816x1024 .bf16) (p : Fin 256) (d : Fin 1024) {h : Fin 1024 → EReal} {W : Fin 1024 → Fin 5632 → EReal}
    {D : Fin 2816 → Fin 1024 → EReal} (hx : ∀ k, x (ix2 p k) = h k) (hw : ∀ k j, wgu (ix3 0 k j) = W k j) (hd : ∀ j d, wd (ix3 0 j d) = D j d) :
    (if k0_cond1 i n = 1#1 then tile x wgu wd else k0_pay2 (F := Ideal)) (ix2 p d) = expertRow h W D d := by
  obtain rfl := funext hx
  obtain rfl := funext fun k => funext (hw k)
  obtain rfl := funext fun j => funext (hd j)
  rw [if_pos hk]
  exact tile_apply _ _ _ _ _

theorem unused_row (i : grid0.Coords) (n : BitVec 32) (hk : ¬ k0_cond1 i n = 1#1) (x : Vec Ideal S256x1024 .bf16) (wgu : Vec Ideal S1x1024x5632 .bf16)
    (wd : Vec Ideal S1x2816x1024 .bf16) (p : Fin 256) (d : Fin 1024) : (if k0_cond1 i n = 1#1 then tile x wgu wd else k0_pay2 (F := Ideal)) (ix2 p d) = 0 := by
  rw [if_neg hk]
  exact no_tile _ _

theorem used_at (t : Fin (cfgM m hO).N) (v : Vec Ideal S1 .i32) : k0_cond1 (grid0.coords t) (count c v) = 1#1 ↔ inUse v (tilePoint m hO t) := by
  rw [used_iff, count_word, (point_of m hO t).1]
  rfl

theorem out_point (h : Routed (m ((c : Thread nD τ).loc main_arg0)) (m ((c : Thread nD τ).loc main_arg1))) (t : Fin (cfgM m hO).N)
    (p : Fin 256) (d : Fin 1024) (r : Fin 57088) (hr : t.val * 256 + p.val = r.val) :
    outAt m hO c t (ix2 p d) = kernelRow (m ((c : Thread nD τ).loc main_arg0)) (m ((c : Thread nD τ).loc main_arg1)) (m ((c : Thread nD τ).loc main_arg2))
    (m ((c : Thread nD τ).loc main_arg3)) (m ((c : Thread nD τ).loc main_arg4)) r d := by
  obtain rfl : c = 0 := Subsingleton.elim _ _
  obtain ⟨t0, t1⟩ := routed_tbl m
  have ht : tileOf r = tilePoint m hO t := Fin.ext (by show r.val / 256 = t.val; omega)
  have hk := used_at m hO (0 : Dev nD) t (tbl m 1)
  unfold kernelRow
  rw [ht]
  by_cases hu : inUse (tbl m 1) (tilePoint m hO t)
  · have ei := expert_index m hO t (by rw [t0]; exact h.1)
    rw [t0] at ei
    have hg : cc0_transform_0 inb_S1_S1_0 numel1_S1 (tbl m) (grid0.coords t) 0 * 256 + p.val = r.val :=
      (congrArg (· * 256 + p.val) (token_index m hO t (by rw [t1]; exact h.2) hu)).trans hr
    refine (used_row (grid0.coords t) _ (hk.mpr hu) _ _ _ p d
      (fun k => (token_blk m hO 0 t p k r hg).trans (congrFun (V_of_ne m 0 main_arg2 (by decide) (by decide)) _))
      (fun k j => (gateUp_blk m hO 0 t k j _ ei).trans (gateUp_entry m 0 _))
      (fun j d => (downs_blk m hO 0 t j d _ ei).trans (downs_entry m 0 _))).trans ?_
    exact (if_pos (t1 ▸ hu)).symm
  · exact (unused_row (grid0.coords t) _ (fun h => hu (hk.mp h)) _ _ _ p d).trans (if_neg (t1 ▸ hu)).symm

theorem flush_all (t : Fin (cfgM m hO).N) : ((cfgM m hO).win 3).flush t = true :=
  ((fun t => (Pipeline.Window.flushOf_reads cc0_transform_3 reads0_3 hreads0_3 0 (by decide) (by decide)
    (Pipeline.Window.sep_of_coord cc0_transform_3 0 0 (fun _ => rfl) (by decide)) (P := 1) (m := 0) (by decide) rfl t).mpr (Nat.mod_one _) :
    ∀ t : Fin grid0.N, Pipeline.Window.flushOf grid0 true cc0_transform_3 t = true)) t

theorem out_index : ∀ t : Fin grid0.N, cc0_transform_3 (grid0.coords t) = ![t.val, 0] := by decide +kernel

theorem covers : ((cfgM m hO).win 3).Covers := by
  refine ⟨fun (a : Fin 2) => match a with | 0 => (by decide : 0 < 256) | 1 => (by decide : 0 < 1024), fun β => ?_⟩
  have h0 : (β (0 : Fin 2)).val < 223 := (β (0 : Fin 2)).isLt.trans_eq (by decide : (57088 + 256 - 1) / 256 = 223)
  have h1 : (β (1 : Fin 2)).val < 1 := (β (1 : Fin 2)).isLt.trans_eq (by decide : (1024 + 1024 - 1) / 1024 = 1)
  refine ⟨(⟨(β (0 : Fin 2)).val, h0⟩ : Fin grid0.N), flush_all m hO _, fun (a : Fin 2) => ?_⟩
  match a with
  | 0 => exact ⟨congrFun (out_index ⟨(β (0 : Fin 2)).val, h0⟩) 0, Or.inl rfl⟩
  | 1 => exact ⟨(congrFun (out_index ⟨(β (0 : Fin 2)).val, h0⟩) 1).trans (by show 0 = (β (1 : Fin 2)).val; omega), Or.inl rfl⟩

/-- What a point leaves is the result under its block. -/
theorem left_at (h : Routed (m ((c : Thread nD τ).loc main_arg0)) (m ((c : Thread nD τ).loc main_arg1))) (t : Fin (cfgM m hO).N)
    (y : S256x1024.Idx) (i : S57088x1024.Idx) (h0 : (i 0).val = t.val * 256 + (y 0).val) (h1 : (i 1).val = (y 1).val) :
    outAt m hO c t y = kernelArray m c i := by
  have hy : y = ix2 (y 0) (y 1) := funext fun a => match a with | 0 => rfl | 1 => rfl
  have e1 : i 1 = y 1 := Fin.ext h1
  unfold kernelArray
  rw [e1]
  exact (congrArg (outAt m hO c t) hy).trans (out_point m hO c h t (y 0) (y 1) (i 0) h0.symm)

theorem block_at (t : Fin (cfgM m hO).N) (y : S256x1024.Idx) :
    ((((cfgM m hO).win 3).blk t).view.emb y (0 : Fin 2)).val = t.val * 256 + (y 0).val
    ∧ ((((cfgM m hO).win 3).blk t).view.emb y (1 : Fin 2)).val = (y 1).val := by
  have e0 := congrFun (out_index t) 0
  have e1 := congrFun (out_index t) 1
  constructor
  · show cc0_transform_3 (grid0.coords t) 0 * 256 + 1 * (y 0).val = _
    rw [e0, Nat.one_mul]; rfl
  · show cc0_transform_3 (grid0.coords t) 1 * 1024 + 1 * (y 1).val = _
    rw [e1, Nat.one_mul]; exact Nat.zero_add _

theorem array_at (h : Routed (m ((c : Thread nD τ).loc main_arg0)) (m ((c : Thread nD τ).loc main_arg1))) :
    (dats m hO 0 c).arrAt 3 (cfgM m hO).N = kernelArray m c := by
  have hl : ∀ (t : Fin (cfgM m hO).N) (y : S256x1024.Idx), outAt m hO c t y = kernelArray m c ((((cfgM m hO).win 3).blk t).view.emb y) :=
    fun t y => left_at m hO c h t y _ (block_at m hO t y).1 (block_at m hO t y).2
  exact (dats m hO 0 c).arrAt_eq_of_covers 3 (kernelArray m c) (covers m hO) (fun t _ y => (congrFun (after_3 m hO c t) y).trans (hl t y)) (harr0 3)

end Cert.Moe

end
-- ==== Proof.MoeCompare.lean ====
/- The experts' call and its reference: the same array, for the tables the precondition admits. -/
module

public import proofs.«01_k».proof.Proof.MoeArray
public import Idealize.ShloMosaic.Lib.Quiescent

@[expose] public section

set_option maxRecDepth 16384

noncomputable section

namespace Cert.Moe

open Idealize.ShloMosaic Idealize.ShloMosaic.TcCoe Idealize.SL.Sem

/-- A row of the kernel's array is the same row of the reference's. -/
theorem row_eq (te : IVec Cert.ExpertsIdeal.S223 32) (nt : IVec Cert.ExpertsIdeal.S1 32) (x : FVec Ideal Cert.ExpertsIdeal.S57088x1024 .bf16)
    (a : FVec Ideal Cert.ExpertsIdeal.S8x1024x5632 .f32) (b : FVec Ideal Cert.ExpertsIdeal.S8x2816x1024 .f32) (h : ∀ i, (te i).toNat < 8)
    (r : Fin 57088) (d : Fin 1024) : kernelRow te nt x a b r d = Cert.ExpertSumIdeal.Read.val_main_v129 (F := Ideal) te nt x a b (ix2 r d) := by
  unfold kernelRow
  by_cases hu : inUse nt (tileOf r)
  · exact (if_pos hu).trans (reference_used te nt x a b h r hu d).symm
  · exact (if_neg hu).trans (reference_unused te nt x a b r hu d).symm

theorem array_eq (te : IVec Cert.ExpertsIdeal.S223 32) (nt : IVec Cert.ExpertsIdeal.S1 32) (x : FVec Ideal Cert.ExpertsIdeal.S57088x1024 .bf16)
    (a : FVec Ideal Cert.ExpertsIdeal.S8x1024x5632 .f32) (b : FVec Ideal Cert.ExpertsIdeal.S8x2816x1024 .f32) (h : ∀ i, (te i).toNat < 8) :
    (fun i : Cert.ExpertsIdeal.S57088x1024.Idx => kernelRow te nt x a b (i 0) (i 1)) = Cert.ExpertSumIdeal.Read.val_main_v129 (F := Ideal) te nt x a b :=
  funext fun i => (row_eq te nt x a b h (i 0) (i 1)).trans
    (congrArg (Cert.ExpertSumIdeal.Read.val_main_v129 (F := Ideal) te nt x a b) (funext fun a => match a with | 0 => rfl | 1 => rfl))

theorem frame_sum : Cert.quiescent_ExpertSumIdeal := fun m ρ _ => (θ_run (Cert.ExpertSumIdeal.defs (F := Ideal)) _ _).mono
  (fun r h => ⟨fun c => (h c).2, Idealize.ShloMosaic.sem_eq_zero_of_no_sems (by decide) r.2⟩) (Cert.ExpertSumIdeal.Value.run (F := Ideal) m ρ)

theorem algebraic [Cert.Pre_routed.Facts] : Cert.algebraic_ExpertsIdeal_ExpertSumIdeal := by
  intro m g m' g' hpre hagree
  have hR := routed_of_pre m hpre
  refine ⟨fun c => kernelArray m c, ?_, ?_⟩
  · refine (θ_run _ _ _).mono (fun r h c => ?_) (run_out (F := Ideal) m g (fits_of_args m hR))
    obtain rfl : c = 0 := Subsingleton.elim _ _
    exact ⟨(h.1 0).1.trans (array_at m (fits_of_args m hR) 0 hR), (h.1 0).2⟩
  · refine (θ_run _ _ _).mono (fun r h c => ⟨?_, (h c).2⟩) (Cert.ExpertSumIdeal.Value.run (F := Ideal) m' g')
    obtain ⟨h0, h1, h2, h3, h4⟩ := hagree c
    obtain rfl : c = 0 := Subsingleton.elim _ _
    refine (h 0).1.trans ((Cert.ExpertSumIdeal.Read.val_main_v129_eq _).trans (Eq.trans ?_ (array_eq _ _ _ _ _ hR.1).symm))
    exact congr (congr (congr (congr (congrArg (Cert.ExpertSumIdeal.Read.val_main_v129 (F := Ideal)) h0) h1) h2) h3) h4

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import Idealize.ShloMosaic.Lib.Quiescent
public import proofs.«01_k».proof.Proof.Gen.Experts
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertSumIdeal
public import proofs.«01_k».proof.Proof.Gen.ExpertSumIdeal.Run
public import proofs.«01_k».proof.Proof.Gen.ExpertSumIdeal.Read
public import proofs.«01_k».proof.Proof.Gen.Pre_routed
public import proofs.«01_k».proof.Proof.Compare
public import proofs.«01_k».proof.Proof.CtxCompare
public import proofs.«01_k».proof.Proof.PostCompare
public import proofs.«01_k».proof.Proof.ProjCompare
public import proofs.«01_k».proof.Proof.MoeWords
public import proofs.«01_k».proof.Proof.MoeCompare

@[expose] public section

noncomputable section

namespace Cert.Proof

open Idealize.ShloMosaic Idealize.SL.Sem Cert.Kernel

theorem frame_reference : Cert.quiescent_ReferenceIdeal := fun m ρ _ => (θ_run (Cert.ReferenceIdeal.defs (F := Ideal)) _ _).mono
  (fun r h => ⟨fun c => (h c).2, Idealize.ShloMosaic.sem_eq_zero_of_no_sems (by decide) r.2⟩) (Cert.ReferenceIdeal.Value.run (F := Ideal) m ρ)

theorem algebraic : Cert.algebraic_KernelIdeal_ReferenceIdeal_pre_finite := by
  pair_intro
  · run_from Cert.KernelIdeal.Value.run_blocks m g
  · run_from Cert.ReferenceIdeal.Value.run m' g'
    obtain ⟨h0, h1, h2, h3, h4, h5, h6, h7, h8, h9⟩ := hagree c
    rw [Cert.Attn.final, Cert.Attn.result_eq _ _ hpre, Cert.ReferenceIdeal.Read.val_main_v50_eq, h0, h1, h2, h3, h4, h5, h6, h7, h8, h9]

theorem claim : Cert.Claim :=
  haveI := Cert.Pre_routed.Gen.facts
  haveI := Cert.Pre_conditioned.Gen.facts
  ⟨Cert.Kernel.Gen.facts, Cert.KernelIdeal.Gen.facts, Cert.ReferenceIdeal.Gen.facts, Cert.Experts.Gen.facts, Cert.ExpertsIdeal.Gen.facts,
  Cert.ExpertSumIdeal.Gen.facts, Cert.Context.Gen.facts, Cert.ContextIdeal.Gen.facts, Cert.ContextPassIdeal.Gen.facts,
  Cert.PostAttn.Gen.facts, Cert.PostAttnIdeal.Gen.facts, Cert.DenseLayerIdeal.Gen.facts,
  Cert.Project.Gen.facts, Cert.ProjectIdeal.Gen.facts, Cert.RotatedIdeal.Gen.facts,
  Cert.Pre_finite.Gen.facts, Cert.Pre_routed.Gen.facts, Cert.Pre_conditioned.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Cert.Moe.frame_words, Cert.Moe.frame_ideal, Cert.Moe.frame_sum, fun m ρ _ => Cert.Moe.frame_sum m ρ trivial,
  fun m ρ _ => Cert.Context.Gen.frame m ρ, fun m ρ _ => Cert.ContextIdeal.Gen.frame m ρ, fun m ρ _ => Cert.ContextIdeal.Gen.frame m ρ,
  Cert.Ctx.frame_pass, fun m ρ _ => Cert.Ctx.frame_pass m ρ trivial,
  fun m ρ _ => Cert.PostAttn.Gen.frame m ρ, fun m ρ _ => Cert.PostAttnIdeal.Gen.frame m ρ, Cert.Post.frame_dense,
  fun m ρ _ => Cert.Project.Gen.frame m ρ, fun m ρ _ => Cert.ProjectIdeal.Gen.frame m ρ, Cert.Proj.frame_rotated,
  trivial, algebraic, trivial, Cert.Moe.algebraic, trivial, Cert.Ctx.algebraic, trivial, Cert.Post.algebraic,
  IdealRules.named_const.statement Cert.ProjectIdeal.κ "q_scale" .f32 0x3E38AA3B#32 (((Real.log 2)⁻¹ * (1 / 8) : ℝ) : EReal) rfl, Cert.Proj.algebraic⟩

end Cert.Proof

end
